-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "qscale" .f32 0x3DD53B95#32 (((Real.sqrt 192)⁻¹ * (Real.log 2)⁻¹ : ℝ) : EReal)
  ∧ IdealRules.named_const.Statement Cert.KernelIdeal.κ "mask" .f32 0xF149F2CA#32 ⊥

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v28)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_logits_finite : Cert.Pre_logits_finite.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_logits_finite.lean ====
abbrev S8192x4976 : Shape := ⟨2, ![8192, 4976]⟩
abbrev S8192x1536 : Shape := ⟨2, ![8192, 1536]⟩
abbrev S8192x2048 : Shape := ⟨2, ![8192, 2048]⟩
abbrev S8192x32 : Shape := ⟨2, ![8192, 32]⟩
abbrev S8192x8x256 : Shape := ⟨3, ![8192, 8, 256]⟩
abbrev S8192x8x128 : Shape := ⟨3, ![8192, 8, 128]⟩
abbrev S8192x1024 : Shape := ⟨2, ![8192, 1024]⟩
abbrev S8192x64 : Shape := ⟨2, ![8192, 64]⟩
abbrev S8192x2688 : Shape := ⟨2, ![8192, 2688]⟩
abbrev S_ : Shape := ⟨0, ![]⟩

class Facts : Prop where
  shapeCasts_S8192x2048_S8192x8x256 : S8192x2048.ShapeCasts S8192x8x256
  slices_S8192x8x256_S8192x8x128_0_0_0 : S8192x8x256.Slices ![0, 0, 0] S8192x8x128
  shapeCasts_S8192x8x128_S8192x1024 : S8192x8x128.ShapeCasts S8192x1024
  slices_S8192x4976_S8192x64_0_3888 : S8192x4976.Slices ![0, 3888] S8192x64
  concatenates_S8192x64_S8192x1536_S8192x1024_S8192x32_S8192x32_S8192x2688_d1 : Shape.Concatenates [S8192x64, S8192x1536, S8192x1024, S8192x32, S8192x32] S8192x2688 1
  bcast_S_S8192x2688 : S_.BroadcastsInDim S8192x2688 (![] : Fin 0 → Fin S8192x2688.rank)

variable [Facts]

def fn {F : FTy → Type} [FloatOps F] (main_arg0 : FVec F S8192x4976 .f32) (main_arg1 : FVec F S8192x1536 .f32) (main_arg2 : FVec F S8192x2048 .f32) (main_arg3 : FVec F S8192x32 .f32) (main_arg4 : FVec F S8192x32 .f32) : IVec S8192x2688 1 :=
  let main_v0 : FVec F S8192x8x256 .f32 := shapeCast S8192x8x256 main_arg2 shapeCasts_S8192x2048_S8192x8x256
  let main_v1 : FVec F S8192x8x128 .f32 := (extractStridedSlice S8192x8x128 ![0, 0, 0] · slices_S8192x8x256_S8192x8x128_0_0_0) main_v0
  let main_v2 : FVec F S8192x1024 .f32 := shapeCast S8192x1024 main_v1 shapeCasts_S8192x8x128_S8192x1024
  let main_v3 : FVec F S8192x64 .f32 := (extractStridedSlice S8192x64 ![0, 3888] · slices_S8192x4976_S8192x64_0_3888) main_arg0
  let main_v4 : FVec F S8192x2688 .f32 := concatenate S8192x2688 1 [⟨S8192x64, main_v3⟩, ⟨S8192x1536, main_arg1⟩, ⟨S8192x1024, main_v2⟩, ⟨S8192x32, main_arg3⟩, ⟨S8192x32, main_arg4⟩] concatenates_S8192x64_S8192x1536_S8192x1024_S8192x32_S8192x32_S8192x2688_d1
  let main_v5 : FVec F S8192x2688 .f32 := Host.absf main_v4
  let main_cst : FVec F S_ .f32 := constant S_ .f32 0x7F800000#32
  let main_v6 : FVec F S8192x2688 .f32 := broadcastInDim S8192x2688 ![] bcast_S_S8192x2688 main_cst
  let main_v7 : IVec S8192x2688 1 := cmpf .olt main_v5 main_v6
  main_v7
-- ==== Kernel.lean ====
abbrev S8192x4976 : Shape := ⟨2, ![8192, 4976]⟩
abbrev S8192x1536 : Shape := ⟨2, ![8192, 1536]⟩
abbrev S8192x2048 : Shape := ⟨2, ![8192, 2048]⟩
abbrev S8192x32 : Shape := ⟨2, ![8192, 32]⟩
abbrev S136 : Shape := ⟨1, ![136]⟩
abbrev S8192x8x192 : Shape := ⟨3, ![8192, 8, 192]⟩
abbrev S8192x8x128 : Shape := ⟨3, ![8192, 8, 128]⟩
abbrev S8192x1024 : Shape := ⟨2, ![8192, 1024]⟩
abbrev S8192x8x64 : Shape := ⟨3, ![8192, 8, 64]⟩
abbrev S8192x8x32 : Shape := ⟨3, ![8192, 8, 32]⟩
abbrev S8192x512 : Shape := ⟨2, ![8192, 512]⟩
abbrev S8192x8x256 : Shape := ⟨3, ![8192, 8, 256]⟩
abbrev S8192x768 : Shape := ⟨2, ![8192, 768]⟩
abbrev S8192x48 : Shape := ⟨2, ![8192, 48]⟩
abbrev S8192x576 : Shape := ⟨2, ![8192, 576]⟩
abbrev S8192x64 : Shape := ⟨2, ![8192, 64]⟩
abbrev S_ : Shape := ⟨0, ![]⟩
abbrev S8192x80 : Shape := ⟨2, ![8192, 80]⟩
abbrev S8192x5120 : Shape := ⟨2, ![8192, 5120]⟩
abbrev S512x1024 : Shape := ⟨2, ![512, 1024]⟩
abbrev S1 : Shape := ⟨1, ![1]⟩
abbrev S512x512 : Shape := ⟨2, ![512, 512]⟩
abbrev S512x64 : Shape := ⟨2, ![512, 64]⟩
abbrev S512x128 : Shape := ⟨2, ![512, 128]⟩
abbrev S512x1536 : Shape := ⟨2, ![512, 1536]⟩
abbrev S8x512x192 : Shape := ⟨3, ![8, 512, 192]⟩
abbrev S8x512x512 : Shape := ⟨3, ![8, 512, 512]⟩
abbrev S8x512x128 : Shape := ⟨3, ![8, 512, 128]⟩
abbrev S1x512x128 : Shape := ⟨3, ![1, 512, 128]⟩
abbrev S1x512x64 : Shape := ⟨3, ![1, 512, 64]⟩
abbrev S512x192 : Shape := ⟨2, ![512, 192]⟩
abbrev S1x512x192 : Shape := ⟨3, ![1, 512, 192]⟩
abbrev S1x512x512 : Shape := ⟨3, ![1, 512, 512]⟩
abbrev S512 : Shape := ⟨1, ![512]⟩
abbrev S512x1 : Shape := ⟨2, ![512, 1]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S64 : Shape := ⟨1, ![64]⟩
abbrev S64x1 : Shape := ⟨2, ![64, 1]⟩
abbrev S1x512 : Shape := ⟨2, ![1, 512]⟩

abbrev nBuf : Space → Nat
  | .hbm => 43
  | .vmem => 32
  | .smem => 2
  | _ => 0

abbrev bufTy : (tb : Table) → Fin (tcTables nBuf tb) → BufTy
  | .hbm, ⟨0, _⟩ => ⟨S8192x4976, .f32⟩
  | .hbm, ⟨1, _⟩ => ⟨S8192x1536, .f32⟩
  | .hbm, ⟨2, _⟩ => ⟨S8192x2048, .f32⟩
  | .hbm, ⟨3, _⟩ => ⟨S8192x32, .f32⟩
  | .hbm, ⟨4, _⟩ => ⟨S8192x32, .f32⟩
  | .hbm, ⟨5, _⟩ => ⟨S8192x8x192, .f32⟩
  | .hbm, ⟨6, _⟩ => ⟨S8192x8x128, .f32⟩
  | .hbm, ⟨7, _⟩ => ⟨S8192x1024, .f32⟩
  | .hbm, ⟨8, _⟩ => ⟨S8192x8x64, .f32⟩
  | .hbm, ⟨9, _⟩ => ⟨S8192x8x32, .f32⟩
  | .hbm, ⟨10, _⟩ => ⟨S8192x8x32, .f32⟩
  | .hbm, ⟨11, _⟩ => ⟨S8192x8x32, .f32⟩
  | .hbm, ⟨12, _⟩ => ⟨S8192x8x64, .f32⟩
  | .hbm, ⟨13, _⟩ => ⟨S8192x512, .f32⟩
  | .hbm, ⟨14, _⟩ => ⟨S8192x512, .f32⟩
  | .hbm, ⟨15, _⟩ => ⟨S8192x2048, .f32⟩
  | .hbm, ⟨16, _⟩ => ⟨S8192x2048, .bf16⟩
  | .hbm, ⟨17, _⟩ => ⟨S8192x8x256, .f32⟩
  | .hbm, ⟨18, _⟩ => ⟨S8192x8x128, .f32⟩
  | .hbm, ⟨19, _⟩ => ⟨S8192x1024, .f32⟩
  | .hbm, ⟨20, _⟩ => ⟨S8192x8x128, .f32⟩
  | .hbm, ⟨21, _⟩ => ⟨S8192x1024, .f32⟩
  | .hbm, ⟨22, _⟩ => ⟨S8192x2048, .f32⟩
  | .hbm, ⟨23, _⟩ => ⟨S8192x2048, .bf16⟩
  | .hbm, ⟨24, _⟩ => ⟨S8192x1024, .f32⟩
  | .hbm, ⟨25, _⟩ => ⟨S8192x768, .f32⟩
  | .hbm, ⟨26, _⟩ => ⟨S8192x48, .f32⟩
  | .hbm, ⟨27, _⟩ => ⟨S8192x1024, .f32⟩
  | .hbm, ⟨28, _⟩ => ⟨S8192x512, .f32⟩
  | .hbm, ⟨29, _⟩ => ⟨S8192x576, .f32⟩
  | .hbm, ⟨30, _⟩ => ⟨S8192x1024, .f32⟩
  | .hbm, ⟨31, _⟩ => ⟨S8192x512, .f32⟩
  | .hbm, ⟨32, _⟩ => ⟨S8192x64, .f32⟩
  | .hbm, ⟨33, _⟩ => ⟨S_, .f32⟩
  | .hbm, ⟨34, _⟩ => ⟨S8192x80, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x64, .f32⟩
  | .hbm, ⟨39, _⟩ => ⟨S8192x5120, .f32⟩
  | .hbm, ⟨40, _⟩ => ⟨S8192x64, .f32⟩
  | .hbm, ⟨41, _⟩ => ⟨S8192x64, .f32⟩
  | .hbm, ⟨42, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x128, .f32⟩
  | .local _ .vmem, ⟨15, _⟩ => ⟨S512x128, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1536, .bf16⟩
  | .local _ .vmem, ⟨25, _⟩ => ⟨S8x512x192, .bf16⟩
  | .local _ .vmem, ⟨26, _⟩ => ⟨S8x512x512, .f32⟩
  | .local _ .vmem, ⟨27, _⟩ => ⟨S8x512x512, .bf16⟩
  | .local _ .vmem, ⟨28, _⟩ => ⟨S8x512x128, .f32⟩
  | .local _ .vmem, ⟨29, _⟩ => ⟨S8x512x128, .f32⟩
  | .local _ .vmem, ⟨30, _⟩ => ⟨S8x512x128, .f32⟩
  | .local _ .vmem, ⟨31, _⟩ => ⟨S8x512x128, .f32⟩
  | .local _ .smem, ⟨0, _⟩ => ⟨S136, .i32⟩
  | .local _ .smem, ⟨1, _⟩ => ⟨S136, .i32⟩
  | _, _ => ⟨S8192x4976, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c2_i32 : BitVec 32 := 2#32
  let c0_i32 : BitVec 32 := 0#32
  ![v1.toNat, c2_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c3_i32 : BitVec 32 := 3#32
  let c0_i32 : BitVec 32 := 0#32
  ![v1.toNat, c3_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c1_i32 : BitVec 32 := 1#32
  let c0_i32 : BitVec 32 := 0#32
  ![v1.toNat, c1_i32.toNat]

def cc0_transform_7 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c38_i32 : BitVec 32 := 38#32
  let c0_i32 : BitVec 32 := 0#32
  ![v1.toNat, c38_i32.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_9 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_10 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c2_i32 : BitVec 32 := 2#32
  let c0_i32 : BitVec 32 := 0#32
  ![v1.toNat, c2_i32.toNat]

def cc0_transform_11 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | "qscale" => some (((Real.sqrt 192)⁻¹ * (Real.log 2)⁻¹ : ℝ) : EReal)
  | _ => none
-- ==== ReferenceIdeal.lean ====
abbrev S8192x4976 : Shape := ⟨2, ![8192, 4976]⟩
abbrev S8192x1536 : Shape := ⟨2, ![8192, 1536]⟩
abbrev S8192x2048 : Shape := ⟨2, ![8192, 2048]⟩
abbrev S8192x32 : Shape := ⟨2, ![8192, 32]⟩
abbrev S8192x64 : Shape := ⟨2, ![8192, 64]⟩
abbrev S8192x1024 : Shape := ⟨2, ![8192, 1024]⟩
abbrev S8192x8x192 : Shape := ⟨3, ![8192, 8, 192]⟩
abbrev S8192x8x256 : Shape := ⟨3, ![8192, 8, 256]⟩
abbrev S8192x8x128 : Shape := ⟨3, ![8192, 8, 128]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8x8192x8192 : Shape := ⟨3, ![8, 8192, 8192]⟩
abbrev S8192x8192x8 : Shape := ⟨3, ![8192, 8192, 8]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S8192x4976, .f32⟩
  | .hbm, ⟨1, _⟩ => ⟨S8192x1536, .f32⟩
  | .hbm, ⟨2, _⟩ => ⟨S8192x2048, .f32⟩
  | .hbm, ⟨3, _⟩ => ⟨S8192x32, .f32⟩
  | .hbm, ⟨4, _⟩ => ⟨S8192x32, .f32⟩
  | .hbm, ⟨5, _⟩ => ⟨S8192x64, .f32⟩
  | .hbm, ⟨6, _⟩ => ⟨S8192x1024, .f32⟩
  | .hbm, ⟨7, _⟩ => ⟨S8192x8x192, .f32⟩
  | .hbm, ⟨8, _⟩ => ⟨S8192x8x256, .f32⟩
  | .hbm, ⟨9, _⟩ => ⟨S8192x8x128, .f32⟩
  | .hbm, ⟨10, _⟩ => ⟨S8192x8x64, .f32⟩
  | .hbm, ⟨11, _⟩ => ⟨S8192x8x32, .f32⟩
  | .hbm, ⟨12, _⟩ => ⟨S8192x8x32, .f32⟩
  | .hbm, ⟨13, _⟩ => ⟨S8192x1x32, .f32⟩
  | .hbm, ⟨14, _⟩ => ⟨S8192x1x32, .f32⟩
  | .hbm, ⟨15, _⟩ => ⟨S8192x8x32, .f32⟩
  | .hbm, ⟨16, _⟩ => ⟨S8192x8x32, .f32⟩
  | .hbm, ⟨17, _⟩ => ⟨S8192x8x32, .f32⟩
  | .hbm, ⟨18, _⟩ => ⟨S8192x8x32, .f32⟩
  | .hbm, ⟨19, _⟩ => ⟨S8192x8x32, .f32⟩
  | .hbm, ⟨20, _⟩ => ⟨S8192x8x32, .f32⟩
  | .hbm, ⟨21, _⟩ => ⟨S8192x8x32, .f32⟩
  | .hbm, ⟨22, _⟩ => ⟨S8192x8x32, .f32⟩
  | .hbm, ⟨23, _⟩ => ⟨S8192x8x32, .f32⟩
  | .hbm, ⟨24, _⟩ => ⟨S8192x8x32, .f32⟩
  | .hbm, ⟨25, _⟩ => ⟨S8192x8x64, .f32⟩
  | .hbm, ⟨26, _⟩ => ⟨S8192x8x128, .f32⟩
  | .hbm, ⟨27, _⟩ => ⟨S8192x8x128, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x64, .f32⟩
  | .hbm, ⟨37, _⟩ => ⟨S8x8192x8192, .f32⟩
  | .hbm, ⟨38, _⟩ => ⟨S8192x8192x8, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S8192, .i32⟩
  | .hbm, ⟨46, _⟩ => ⟨S1x8192, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S_, .f32⟩
  | .hbm, ⟨52, _⟩ => ⟨S_, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S_, .f32⟩
  | .hbm, ⟨57, _⟩ => ⟨S8x8192, .f32⟩
  | .hbm, ⟨58, _⟩ => ⟨S_, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S_, .f32⟩
  | .hbm, ⟨72, _⟩ => ⟨S8x8192x8192, .i1⟩
  | .hbm, ⟨73, _⟩ => ⟨S8x8192x8192, .f32⟩
  | .hbm, ⟨74, _⟩ => ⟨S8x8192x8192, .f32⟩
  | .hbm, ⟨75, _⟩ => ⟨S8x128x8192, .f32⟩
  | .hbm, ⟨76, _⟩ => ⟨S8192x8x128, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .bf16⟩
  | _, _ => ⟨S8192x4976, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_0 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_4 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_call2_v5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2x6144 : Shape := ⟨2, ![2, 6144]⟩
abbrev S2048 : Shape := ⟨1, ![2048]⟩
abbrev S2x1x6144 : Shape := ⟨3, ![2, 1, 6144]⟩
abbrev S2x8x6144 : Shape := ⟨3, ![2, 8, 6144]⟩
abbrev S1x2048 : Shape := ⟨2, ![1, 2048]⟩
abbrev S512x2048 : Shape := ⟨2, ![512, 2048]⟩
abbrev S1x8x2048 : Shape := ⟨3, ![1, 8, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x6144, .f32⟩
  | .hbm, ⟨4, _⟩ => ⟨S2048, .f32⟩
  | .hbm, ⟨5, _⟩ => ⟨S8192x2048, .bf16⟩
  | .hbm, ⟨6, _⟩ => ⟨S2048x2048, .bf16⟩
  | .hbm, ⟨7, _⟩ => ⟨S2x1x6144, .f32⟩
  | .hbm, ⟨8, _⟩ => ⟨S2x8x6144, .f32⟩
  | .hbm, ⟨9, _⟩ => ⟨S1x2048, .f32⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x8x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x2048 : Shape := ⟨2, ![8192, 2048]⟩
abbrev S2048x2048 : Shape := ⟨2, ![2048, 2048]⟩
abbrev S2x6144 : Shape := ⟨2, ![2, 6144]⟩
abbrev S2048 : Shape := ⟨1, ![2048]⟩
abbrev S1x6144 : Shape := ⟨2, ![1, 6144]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2x6144, .f32⟩
  | .hbm, ⟨4, _⟩ => ⟨S2048, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S8192x2048 : Shape := ⟨2, ![8192, 2048]⟩
abbrev S2x6144 : Shape := ⟨2, ![2, 6144]⟩
abbrev S2048 : Shape := ⟨1, ![2048]⟩
abbrev S2048x4976 : Shape := ⟨2, ![2048, 4976]⟩
abbrev S2048x1024 : Shape := ⟨2, ![2048, 1024]⟩
abbrev S2048x768 : Shape := ⟨2, ![2048, 768]⟩
abbrev S2048x48 : Shape := ⟨2, ![2048, 48]⟩
abbrev S2048x512 : Shape := ⟨2, ![2048, 512]⟩
abbrev S2048x576 : Shape := ⟨2, ![2048, 576]⟩
abbrev S2048x64 : Shape := ⟨2, ![2048, 64]⟩
abbrev S_ : Shape := ⟨0, ![]⟩
abbrev S2048x80 : Shape := ⟨2, ![2048, 80]⟩
abbrev S2048x32 : Shape := ⟨2, ![2048, 32]⟩
abbrev S2048x5120 : Shape := ⟨2, ![2048, 5120]⟩
abbrev S2x1x6144 : Shape := ⟨3, ![2, 1, 6144]⟩
abbrev S2x8x6144 : Shape := ⟨3, ![2, 8, 6144]⟩
abbrev S1x2048 : Shape := ⟨2, ![1, 2048]⟩
abbrev S8192x5120 : Shape := ⟨2, ![8192, 5120]⟩
abbrev S1024x2048 : Shape := ⟨2, ![1024, 2048]⟩
abbrev S1x8x2048 : Shape := ⟨3, ![1, 8, 2048]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩
abbrev S8192x1024 : Shape := ⟨2, ![8192, 1024]⟩
abbrev S8192x768 : Shape := ⟨2, ![8192, 768]⟩
abbrev S8192x48 : Shape := ⟨2, ![8192, 48]⟩
abbrev S8192x512 : Shape := ⟨2, ![8192, 512]⟩
abbrev S8192x64 : Shape := ⟨2, ![8192, 64]⟩
abbrev S8192x4976 : Shape := ⟨2, ![8192, 4976]⟩

abbrev nBuf : Space → Nat
  | .hbm => 34
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2x6144, .f32⟩
  | .hbm, ⟨2, _⟩ => ⟨S2048, .f32⟩
  | .hbm, ⟨3, _⟩ => ⟨S2048x4976, .f32⟩
  | .hbm, ⟨4, _⟩ => ⟨S2048x1024, .f32⟩
  | .hbm, ⟨5, _⟩ => ⟨S2048x768, .f32⟩
  | .hbm, ⟨6, _⟩ => ⟨S2048x48, .f32⟩
  | .hbm, ⟨7, _⟩ => ⟨S2048x1024, .f32⟩
  | .hbm, ⟨8, _⟩ => ⟨S2048x512, .f32⟩
  | .hbm, ⟨9, _⟩ => ⟨S2048x576, .f32⟩
  | .hbm, ⟨10, _⟩ => ⟨S2048x1024, .f32⟩
  | .hbm, ⟨11, _⟩ => ⟨S2048x512, .f32⟩
  | .hbm, ⟨12, _⟩ => ⟨S2048x64, .f32⟩
  | .hbm, ⟨13, _⟩ => ⟨S_, .f32⟩
  | .hbm, ⟨14, _⟩ => ⟨S2048x80, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S2048x64, .f32⟩
  | .hbm, ⟨19, _⟩ => ⟨S2048x5120, .f32⟩
  | .hbm, ⟨20, _⟩ => ⟨S2048x5120, .bf16⟩
  | .hbm, ⟨21, _⟩ => ⟨S2x1x6144, .f32⟩
  | .hbm, ⟨22, _⟩ => ⟨S2x8x6144, .f32⟩
  | .hbm, ⟨23, _⟩ => ⟨S1x2048, .f32⟩
  | .hbm, ⟨24, _⟩ => ⟨S8192x5120, .f32⟩
  | .hbm, ⟨25, _⟩ => ⟨S8192x1024, .f32⟩
  | .hbm, ⟨26, _⟩ => ⟨S8192x768, .f32⟩
  | .hbm, ⟨27, _⟩ => ⟨S8192x48, .f32⟩
  | .hbm, ⟨28, _⟩ => ⟨S8192x1024, .f32⟩
  | .hbm, ⟨29, _⟩ => ⟨S8192x512, .f32⟩
  | .hbm, ⟨30, _⟩ => ⟨S8192x512, .f32⟩
  | .hbm, ⟨31, _⟩ => ⟨S8192x64, .f32⟩
  | .hbm, ⟨32, _⟩ => ⟨S8192x1024, .f32⟩
  | .hbm, ⟨33, _⟩ => ⟨S8192x4976, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x8x2048, .f32⟩
  | .local _ .vmem, ⟨6, _⟩ => ⟨S1x8x2048, .f32⟩
  | .local _ .vmem, ⟨7, _⟩ => ⟨S1024x1024, .f32⟩
  | .local _ .vmem, ⟨8, _⟩ => ⟨S1024x1024, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x2048 : Shape := ⟨2, ![8192, 2048]⟩
abbrev S2x6144 : Shape := ⟨2, ![2, 6144]⟩
abbrev S2048 : Shape := ⟨1, ![2048]⟩
abbrev S2048x4976 : Shape := ⟨2, ![2048, 4976]⟩
abbrev S1x6144 : Shape := ⟨2, ![1, 6144]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x4976 : Shape := ⟨2, ![8192, 4976]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x6144, .f32⟩
  | .hbm, ⟨2, _⟩ => ⟨S2048, .f32⟩
  | .hbm, ⟨3, _⟩ => ⟨S2048x4976, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x4976, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8192x1024 : Shape := ⟨2, ![8192, 1024]⟩
abbrev S2048x2048 : Shape := ⟨2, ![2048, 2048]⟩
abbrev S8192x2048 : Shape := ⟨2, ![8192, 2048]⟩
abbrev S2x6144 : Shape := ⟨2, ![2, 6144]⟩
abbrev S2x1x6144 : Shape := ⟨3, ![2, 1, 6144]⟩
abbrev S2x8x6144 : Shape := ⟨3, ![2, 8, 6144]⟩
abbrev S1024x1024 : Shape := ⟨2, ![1024, 1024]⟩
abbrev S2048x1024 : Shape := ⟨2, ![2048, 1024]⟩
abbrev S1x8x1024 : Shape := ⟨3, ![1, 8, 1024]⟩
abbrev S1x1x1024 : Shape := ⟨3, ![1, 1, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2x6144, .f32⟩
  | .hbm, ⟨5, _⟩ => ⟨S8192x1024, .bf16⟩
  | .hbm, ⟨6, _⟩ => ⟨S2048x2048, .bf16⟩
  | .hbm, ⟨7, _⟩ => ⟨S8192x1024, .bf16⟩
  | .hbm, ⟨8, _⟩ => ⟨S2x1x6144, .f32⟩
  | .hbm, ⟨9, _⟩ => ⟨S2x8x6144, .f32⟩
  | .hbm, ⟨10, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1x8x1024, .f32⟩
  | .local _ .vmem, ⟨9, _⟩ => ⟨S1x8x1024, .f32⟩
  | .local _ .vmem, ⟨10, _⟩ => ⟨S1024x1024, .f32⟩
  | .local _ .vmem, ⟨11, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x1024 : Shape := ⟨2, ![8192, 1024]⟩
abbrev S2048x2048 : Shape := ⟨2, ![2048, 2048]⟩
abbrev S8192x2048 : Shape := ⟨2, ![8192, 2048]⟩
abbrev S2x6144 : Shape := ⟨2, ![2, 6144]⟩
abbrev S1x6144 : Shape := ⟨2, ![1, 6144]⟩
abbrev S1x2048 : Shape := ⟨2, ![1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x2048, .f32⟩
  | .hbm, ⟨3, _⟩ => ⟨S8192x2048, .f32⟩
  | .hbm, ⟨4, _⟩ => ⟨S2x6144, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Mla.Ops.lean ====
module

public import proofs.«01_k».proof.Proof.Gen.KernelIdeal
public import Idealize.ShloMosaic.Lib.VecWindow

@[expose] public section

set_option maxRecDepth 16384

/-! # The kernel's body, as a program over heads and row blocks

The kernel function is long because its loops over the eight heads and the eight row blocks are unrolled. Here one
head's (one row block's) work is a program that goes on with a continuation, and the whole is those programs one
after the other; `Shape.lean` proves the kernel function is this program. -/

noncomputable section

namespace Cert.KernelIdeal.Mla

open Idealize.ShloMosaic Idealize.SL.Sem Cert.KernelIdeal Cert.KernelIdeal.Gen

variable {F : FTy → Type} [FloatOps F] [Named F]

/-- The programs the kernel function is one of. -/
abbrev Pr (F : FTy → Type) [FloatOps F] [Named F] : Type 1 := Prog (TpuEff nD τ sig (Elt F) Λ₀ .tc) PUnit

/-- Load a rectangle and go on with what it holds. -/
def ld {s : Shape} {e : EltTy} (m : Memref sig .tc .vmem s e) (off size : Fin s.rank → ℕ)
    (inb : ∀ a, off a + size a ≤ s.size a) (hp : 0 < (Rect.unit off size inb).shape.numel)
    (k : ((Rect.unit off size inb).shape.Idx → Elt F e) → Pr F) : Pr F :=
  .op (.load m (Rect.unit off size inb).toLoadRect (View.loadsAt_vmem hp)) k

/-- Store a rectangle and go on. -/
def st {s : Shape} {e : EltTy} (m : Memref sig .tc .vmem s e) (off size : Fin s.rank → ℕ)
    (inb : ∀ a, off a + size a ≤ s.size a) (w : (Rect.unit off size inb).shape.Idx → Elt F e)
    (hx : (m.access (Rect.unit off size inb)).Stores Finset.univ) (k : Pr F) : Pr F :=
  .op (.store m (Rect.unit off size inb) w Finset.univ hx (.inl rfl)) (fun _ => k)

/-- One program per head, one after the other. -/
def all8 (f : (h : ℕ) → h < 8 → Pr F → Pr F) (k : Pr F) : Pr F :=
  f 0 (by decide) (f 1 (by decide) (f 2 (by decide) (f 3 (by decide) (f 4 (by decide) (f 5 (by decide) (f 6 (by decide) (f 7 (by decide) k)))))))

/-! ## Rectangles: bounds and whole words -/

theorem inb_q128 {h : ℕ} (hh : h < 8) : ∀ a, (![0, 192 * h] : Fin 2 → ℕ) a + S512x128.size a ≤ S512x1536.size a := by
  intro a; fin_cases a <;> simp [S512x1536, S512x128] <;> omega

theorem pk_q128' : ∀ h : Fin 8, (Rect.unit (s := S512x1536) ![0, 192 * h.val] S512x128.size (inb_q128 h.isLt)).PackedRows (EltTy.packing .bf16) := by decide
theorem pk_q128 {h : ℕ} (hh : h < 8) : (Rect.unit (s := S512x1536) ![0, 192 * h] S512x128.size (inb_q128 hh)).PackedRows (EltTy.packing .bf16) :=
  pk_q128' ⟨h, hh⟩

theorem inb_q64 {h : ℕ} (hh : h < 8) : ∀ a, (![0, 192 * h + 128] : Fin 2 → ℕ) a + S512x64.size a ≤ S512x1536.size a := by
  intro a; fin_cases a <;> simp [S512x1536, S512x64] <;> omega

theorem pk_q64' : ∀ h : Fin 8, (Rect.unit (s := S512x1536) ![0, 192 * h.val + 128] S512x64.size (inb_q64 h.isLt)).PackedRows (EltTy.packing .bf16) := by decide
theorem pk_q64 {h : ℕ} (hh : h < 8) : (Rect.unit (s := S512x1536) ![0, 192 * h + 128] S512x64.size (inb_q64 hh)).PackedRows (EltTy.packing .bf16) :=
  pk_q64' ⟨h, hh⟩

theorem inb_q192 {h : ℕ} (hh : h < 8) : ∀ a, (![0, 192 * h] : Fin 2 → ℕ) a + S512x192.size a ≤ S512x1536.size a := by
  intro a; fin_cases a <;> simp [S512x1536, S512x192] <;> omega

theorem inb_pe {h : ℕ} (hh : h < 8) : ∀ a, (![0, 64 * h] : Fin 2 → ℕ) a + S512x64.size a ≤ S512x512.size a := by
  intro a; fin_cases a <;> simp [S512x512, S512x64] <;> omega

theorem inb_c128 {h : ℕ} (hh : h < 8) : ∀ a, (![0, 128 * h] : Fin 2 → ℕ) a + S512x128.size a ≤ S512x1024.size a := by
  intro a; fin_cases a <;> simp [S512x1024, S512x128] <;> omega

theorem pk_c128' : ∀ h : Fin 8, (Rect.unit (s := S512x1024) ![0, 128 * h.val] S512x128.size (inb_c128 h.isLt)).PackedRows (EltTy.packing .bf16) := by decide
theorem pk_c128 {h : ℕ} (hh : h < 8) : (Rect.unit (s := S512x1024) ![0, 128 * h] S512x128.size (inb_c128 hh)).PackedRows (EltTy.packing .bf16) :=
  pk_c128' ⟨h, hh⟩

theorem inb_kc128 {h : ℕ} (hh : h < 8) : ∀ a, (![h, 0, 0] : Fin 3 → ℕ) a + S1x512x128.size a ≤ S8x512x192.size a := by
  intro a; fin_cases a <;> simp [S8x512x192, S1x512x128] <;> omega

theorem pk_kc128' : ∀ h : Fin 8, (Rect.unit (s := S8x512x192) ![h.val, 0, 0] S1x512x128.size (inb_kc128 h.isLt)).PackedRows (EltTy.packing .bf16) := by decide
theorem pk_kc128 {h : ℕ} (hh : h < 8) : (Rect.unit (s := S8x512x192) ![h, 0, 0] S1x512x128.size (inb_kc128 hh)).PackedRows (EltTy.packing .bf16) :=
  pk_kc128' ⟨h, hh⟩

theorem inb_kc64 {h : ℕ} (hh : h < 8) : ∀ a, (![h, 0, 128] : Fin 3 → ℕ) a + S1x512x64.size a ≤ S8x512x192.size a := by
  intro a; fin_cases a <;> simp [S8x512x192, S1x512x64] <;> omega

theorem pk_kc64' : ∀ h : Fin 8, (Rect.unit (s := S8x512x192) ![h.val, 0, 128] S1x512x64.size (inb_kc64 h.isLt)).PackedRows (EltTy.packing .bf16) := by decide
theorem pk_kc64 {h : ℕ} (hh : h < 8) : (Rect.unit (s := S8x512x192) ![h, 0, 128] S1x512x64.size (inb_kc64 hh)).PackedRows (EltTy.packing .bf16) :=
  pk_kc64' ⟨h, hh⟩

theorem inb_kc192 {h : ℕ} (hh : h < 8) : ∀ a, (![h, 0, 0] : Fin 3 → ℕ) a + S1x512x192.size a ≤ S8x512x192.size a := by
  intro a; fin_cases a <;> simp [S8x512x192, S1x512x192] <;> omega

theorem inb_s512 {h : ℕ} (hh : h < 8) : ∀ a, (![h, 0, 0] : Fin 3 → ℕ) a + S1x512x512.size a ≤ S8x512x512.size a := by
  intro a; fin_cases a <;> simp [S8x512x512, S1x512x512] <;> omega

theorem inb_l128 {h : ℕ} (hh : h < 8) : ∀ a, (![h, 0, 0] : Fin 3 → ℕ) a + S1x512x128.size a ≤ S8x512x128.size a := by
  intro a; fin_cases a <;> simp [S8x512x128, S1x512x128] <;> omega

theorem inb_sb {h : ℕ} (hh : h < 8) {b : ℕ} (hb : b < 8) : ∀ a, (![h, 64 * b, 0] : Fin 3 → ℕ) a + S1x64x512.size a ≤ S8x512x512.size a := by
  intro a; fin_cases a <;> simp [S8x512x512, S1x64x512] <;> omega

theorem pk_sb' : ∀ h : Fin 8, ∀ b : Fin 8, (Rect.unit (s := S8x512x512) ![h.val, 64 * b.val, 0] S1x64x512.size (inb_sb h.isLt b.isLt)).PackedRows (EltTy.packing .bf16) := by decide
theorem pk_sb {h : ℕ} (hh : h < 8) {b : ℕ} (hb : b < 8) : (Rect.unit (s := S8x512x512) ![h, 64 * b, 0] S1x64x512.size (inb_sb hh hb)).PackedRows (EltTy.packing .bf16) :=
  pk_sb' ⟨h, hh⟩ ⟨b, hb⟩

theorem inb_lb {h : ℕ} (hh : h < 8) {b : ℕ} (hb : b < 8) : ∀ a, (![h, 64 * b, 0] : Fin 3 → ℕ) a + S1x64x128.size a ≤ S8x512x128.size a := by
  intro a; fin_cases a <;> simp [S8x512x128, S1x64x128] <;> omega

theorem inb_w128 : ∀ a, (![0, 0] : Fin 2 → ℕ) a + S512x128.size a ≤ S512x128.size a := by decide
theorem inb_w64 : ∀ a, (![0, 0] : Fin 2 → ℕ) a + S512x64.size a ≤ S512x64.size a := by decide
theorem inb_w1024 : ∀ a, (![0, 0] : Fin 2 → ℕ) a + S512x1024.size a ≤ S512x1024.size a := by decide
theorem inb_w8 : ∀ a, (![0, 0, 0] : Fin 3 → ℕ) a + S8x512x128.size a ≤ S8x512x128.size a := by decide
theorem slc_qn {h : ℕ} (hh : h < 8) : S512x1024.Slices ![0, 128 * h] S512x128 := ⟨rfl, inb_c128 hh⟩

/-! ## The payloads -/

/-- The queries without position, scaled. -/
def qnP (x : Vec F S512x1024 .bf16) : FVec F S512x1024 .bf16 :=
  truncf .bf16 (mulf (extf .f32 (shapeCast S512x1024 x shapeCasts_S512x1024_S512x1024) bitsLt_bf16_f32)
    (broadcast S512x1024 (Named.named κ "qscale" (φ := .f32) 0x3DD53B95#32))) bitsLt_bf16_f32

/-- A table of cosines or sines, scaled. -/
def cP (x : Vec F S512x64 .f32) : FVec F S512x64 .f32 :=
  mulf (shapeCast S512x64 x shapeCasts_S512x64_S512x64) (broadcast S512x64 (Named.named κ "qscale" (φ := .f32) 0x3DD53B95#32))

/-- The turned queries of one head. -/
def qpP (x y : Vec F S512x64 .bf16) (c s : FVec F S512x64 .f32) : FVec F S512x64 .bf16 :=
  truncf .bf16 (addf (mulf (extf .f32 (shapeCast S512x64 x shapeCasts_S512x64_S512x64) bitsLt_bf16_f32) c)
    (mulf (extf .f32 (shapeCast S512x64 y shapeCasts_S512x64_S512x64) bitsLt_bf16_f32) s)) bitsLt_bf16_f32

/-- The turned keys. -/
def kpP (x : Vec F S512x128 .f32) (c s : Vec F S512x64 .f32) : FVec F S512x64 .bf16 :=
  truncf .bf16 (addf
    (mulf (extractStridedSlice S512x64 ![0, 0] (shapeCast S512x128 x shapeCasts_S512x128_S512x128) slices_S512x128_o0_0_S512x64) (shapeCast S512x64 c shapeCasts_S512x64_S512x64))
    (mulf (extractStridedSlice S512x64 ![0, 64] (shapeCast S512x128 x shapeCasts_S512x128_S512x128) slices_S512x128_o0_64_S512x64) (shapeCast S512x64 s shapeCasts_S512x64_S512x64))) bitsLt_bf16_f32

/-- The scores of one head, a query row against every key of the tile. -/
def scP (q : Vec F S512x192 .bf16) (k : Vec F S1x512x192 .bf16) : FVec F S512x512 .f32 :=
  matmul dot_S512x192_S512x192_S512x512_1_1_0_0_n_n none q (shapeCast S512x192 k shapeCasts_S1x512x192_S512x192) (constant S512x512 .f32 0x00000000#32)

/-- The scores with later keys masked out. -/
def maskP (s : FVec F S512x512 .f32) : FVec F S512x512 .f32 :=
  select (cmpi .sge (broadcastTo S512x512 (iota .tc S512x1 32 [0] iota_S512x1_d0_w32) broadcasts_S512x1_S512x512)
      (broadcastTo S512x512 (iota .tc S1x512 32 [1] iota_S1x512_d1_w32) broadcasts_S1x512_S512x512)) s
    (broadcast S512x512 (Named.named κ "mask" (φ := .f32) 0xF149F2CA#32))

/-- The running maximum after the scores `s`. -/
def mxP (s : FVec F S512x512 .f32) (m : Vec F S1x512x128 .f32) : FVec F S512x128 .f32 :=
  maximumf (shapeCast S512x128 m shapeCasts_S1x512x128_S512x128)
    (broadcastTo S512x128 (shapeCast S512x1 (shapeCast S512x1
      (multiReduction .maximumf [1] S512
        (maximumf (maximumf (extractStridedSlice S512x128 ![0, 0] s slices_S512x512_o0_0_S512x128) (extractStridedSlice S512x128 ![0, 128] s slices_S512x512_o0_128_S512x128))
          (maximumf (extractStridedSlice S512x128 ![0, 256] s slices_S512x512_o0_256_S512x128) (extractStridedSlice S512x128 ![0, 384] s slices_S512x512_o0_384_S512x128)))
        0xFF800000#32 reduces_S512x128_S512 (.inl rfl) rfl) shapeCasts_S512_S512x1) shapeCasts_S512x1_S512x1) broadcasts_S512x1_S512x128)

/-- The factor old sums are scaled by. -/
def alP (s : FVec F S512x512 .f32) (m : Vec F S1x512x128 .f32) : FVec F S512x128 .f32 :=
  exp2 (subf (shapeCast S512x128 m shapeCasts_S1x512x128_S512x128) (mxP s m))

/-- The weights of one row block. -/
def pP (s : Vec F S1x64x512 .f32) (m : Vec F S1x64x128 .f32) : FVec F S64x512 .f32 :=
  exp2 (subf (shapeCast S64x512 s shapeCasts_S1x64x512_S64x512)
    (concatenate S64x512 1 [⟨S64x128, shapeCast S64x128 m shapeCasts_S1x64x128_S64x128⟩, ⟨S64x128, shapeCast S64x128 m shapeCasts_S1x64x128_S64x128⟩,
      ⟨S64x128, shapeCast S64x128 m shapeCasts_S1x64x128_S64x128⟩, ⟨S64x128, shapeCast S64x128 m shapeCasts_S1x64x128_S64x128⟩] concatenates_S64x128_S64x128_S64x128_S64x128_S64x512_d1))

/-- The running sum of one row block after the weights `p`. -/
def lP (p : FVec F S64x512 .f32) (a l : Vec F S1x64x128 .f32) : FVec F S64x128 .f32 :=
  addf (mulf (shapeCast S64x128 a shapeCasts_S1x64x128_S64x128) (shapeCast S64x128 l shapeCasts_S1x64x128_S64x128))
    (broadcastTo S64x128 (shapeCast S64x1 (shapeCast S64x1
      (multiReduction .add [1] S64
        (addf (addf (extractStridedSlice S64x128 ![0, 0] p slices_S64x512_o0_0_S64x128) (extractStridedSlice S64x128 ![0, 128] p slices_S64x512_o0_128_S64x128))
          (addf (extractStridedSlice S64x128 ![0, 256] p slices_S64x512_o0_256_S64x128) (extractStridedSlice S64x128 ![0, 384] p slices_S64x512_o0_384_S64x128)))
        0x00000000#32 reduces_S64x128_S64 (.inl rfl) rfl) shapeCasts_S64_S64x1) shapeCasts_S64x1_S64x1) broadcasts_S64x1_S64x128)

/-- The running weighted sum of the values of one head. -/
def accP (a o : Vec F S1x512x128 .f32) (p : Vec F S1x512x512 .bf16) (v : Vec F S512x128 .bf16) : FVec F S512x128 .f32 :=
  addf (mulf (shapeCast S512x128 a shapeCasts_S1x512x128_S512x128) (shapeCast S512x128 o shapeCasts_S1x512x128_S512x128))
    (matmul dot_S512x512_S512x128_S512x128_1_0_0_1_n_n none (shapeCast S512x512 p shapeCasts_S1x512x512_S512x512)
      (shapeCast S512x128 v shapeCasts_S512x128_S512x128) (constant S512x128 .f32 0x00000000#32))

/-- The result of one head: the weighted mean, gated. -/
def outP (o l : Vec F S1x512x128 .f32) (z : Vec F S512x128 .f32) : FVec F S512x128 .bf16 :=
  truncf .bf16 (mulf (divf (shapeCast S512x128 o shapeCasts_S1x512x128_S512x128) (shapeCast S512x128 l shapeCasts_S1x512x128_S512x128))
    (mulf (shapeCast S512x128 z shapeCasts_S512x128_S512x128) (logistic (shapeCast S512x128 z shapeCasts_S512x128_S512x128)))) bitsLt_bf16_f32

/-! ## The programs -/

variable (arg3 : Memref sig .tc .vmem S512x1024 .bf16) (arg4 arg5 : Memref sig .tc .vmem S512x512 .bf16)
  (arg6 arg7 : Memref sig .tc .vmem S512x64 .f32) (arg8 arg9 : Memref sig .tc .vmem S512x1024 .bf16)
  (arg10 : Memref sig .tc .vmem S512x128 .f32) (arg11 arg12 : Memref sig .tc .vmem S512x64 .f32)
  (arg13 : Memref sig .tc .vmem S512x1024 .f32) (arg14 : Memref sig .tc .vmem S512x1024 .bf16) (harg14 : arg14.IsWhole)
  (arg15 : Memref sig .tc .vmem S512x1536 .bf16) (harg15 : arg15.IsWhole)
  (arg16 : Memref sig .tc .vmem S8x512x192 .bf16) (harg16 : arg16.IsWhole)
  (arg17 : Memref sig .tc .vmem S8x512x512 .f32) (arg18 : Memref sig .tc .vmem S8x512x512 .bf16) (harg18 : arg18.IsWhole)
  (arg19 arg20 arg21 arg22 : Memref sig .tc .vmem S8x512x128 .f32)

/-- One head's queries, stored. -/
def initHead (qn : FVec F S512x1024 .bf16) (c s : FVec F S512x64 .f32) (h : ℕ) (hh : h < 8) (k : Pr F) : Pr F :=
  ld arg4 ![0, 64 * h] S512x64.size (inb_pe hh) h_S512x64 fun x =>
  ld arg5 ![0, 64 * h] S512x64.size (inb_pe hh) h_S512x64 fun y =>
  ld arg15 ![0, 192 * h] S512x128.size (inb_q128 hh) h_S512x128 fun _ =>
  st arg15 ![0, 192 * h] S512x128.size (inb_q128 hh)
    (shapeCast S512x128 (extractStridedSlice S512x128 ![0, 128 * h] qn (slc_qn hh)) shapeCasts_S512x128_S512x128)
    (View.stores_vmem h_S512x128 (harg15.storeExact_slice rfl _ (pk_q128 hh)) (fun _ => rfl)) <|
  ld arg15 ![0, 192 * h + 128] S512x64.size (inb_q64 hh) h_S512x64 fun _ =>
  st arg15 ![0, 192 * h + 128] S512x64.size (inb_q64 hh) (shapeCast S512x64 (qpP x y c s) shapeCasts_S512x64_S512x64)
    (View.stores_vmem h_S512x64 (harg15.storeExact_slice rfl _ (pk_q64 hh)) (fun _ => rfl)) k

/-- A running quantity of every head set to one number. -/
def fill (m : Memref sig .tc .vmem S8x512x128 .f32) (b : BitVec 32) (k : Pr F) : Pr F :=
  ld m ![0, 0, 0] S8x512x128.size inb_w8 h_S8x512x128 fun _ =>
  st m ![0, 0, 0] S8x512x128.size inb_w8 (shapeCast S8x512x128 (broadcast S8x512x128 (Scalar.ofBits (F := F) .f32 b)) shapeCasts_S8x512x128_S8x512x128)
    (View.stores_vmem_bits_univ h_S8x512x128 rfl) k

/-- What a query tile's first key tile starts with. -/
def initAll (k : Pr F) : Pr F :=
  ld arg3 ![0, 0] S512x1024.size inb_w1024 h_S512x1024 fun x =>
  ld arg6 ![0, 0] S512x64.size inb_w64 h_S512x64 fun c =>
  ld arg7 ![0, 0] S512x64.size inb_w64 h_S512x64 fun s =>
  all8 (initHead arg4 arg5 arg15 harg15 (qnP x) (cP c) (cP s)) <|
  fill arg20 0xE0AD78EC#32 <| fill arg21 0x00000000#32 <| fill arg22 0x00000000#32 k

/-- One head's keys, stored. -/
def kcHead (kp : FVec F S512x64 .bf16) (h : ℕ) (hh : h < 8) (k : Pr F) : Pr F :=
  ld arg8 ![0, 128 * h] S512x128.size (inb_c128 hh) h_S512x128 fun x =>
  ld arg16 ![h, 0, 0] S1x512x128.size (inb_kc128 hh) h_S1x512x128 fun _ =>
  st arg16 ![h, 0, 0] S1x512x128.size (inb_kc128 hh) (shapeCast S1x512x128 (shapeCast S512x128 x shapeCasts_S512x128_S512x128) shapeCasts_S512x128_S1x512x128)
    (View.stores_vmem h_S1x512x128 (harg16.storeExact_slice rfl _ (pk_kc128 hh)) (fun _ => rfl)) <|
  ld arg16 ![h, 0, 128] S1x512x64.size (inb_kc64 hh) h_S1x512x64 fun _ =>
  st arg16 ![h, 0, 128] S1x512x64.size (inb_kc64 hh) (shapeCast S1x512x64 kp shapeCasts_S512x64_S1x512x64)
    (View.stores_vmem h_S1x512x64 (harg16.storeExact_slice rfl _ (pk_kc64 hh)) (fun _ => rfl)) k

/-- One head's scores, maxima and factors, stored; `g` masks or does not. -/
def scHead (g : FVec F S512x512 .f32 → FVec F S512x512 .f32) (h : ℕ) (hh : h < 8) (k : Pr F) : Pr F :=
  ld arg15 ![0, 192 * h] S512x192.size (inb_q192 hh) h_S512x192 fun q =>
  ld arg16 ![h, 0, 0] S1x512x192.size (inb_kc192 hh) h_S1x512x192 fun x =>
  ld arg17 ![h, 0, 0] S1x512x512.size (inb_s512 hh) h_S1x512x512 fun _ =>
  st arg17 ![h, 0, 0] S1x512x512.size (inb_s512 hh) (shapeCast S1x512x512 (g (scP q x)) shapeCasts_S512x512_S1x512x512)
    (View.stores_vmem_bits_univ h_S1x512x512 rfl) <|
  ld arg20 ![h, 0, 0] S1x512x128.size (inb_l128 hh) h_S1x512x128 fun m =>
  ld arg19 ![h, 0, 0] S1x512x128.size (inb_l128 hh) h_S1x512x128 fun _ =>
  st arg19 ![h, 0, 0] S1x512x128.size (inb_l128 hh) (shapeCast S1x512x128 (alP (g (scP q x)) m) shapeCasts_S512x128_S1x512x128)
    (View.stores_vmem_bits_univ h_S1x512x128 rfl) <|
  ld arg20 ![h, 0, 0] S1x512x128.size (inb_l128 hh) h_S1x512x128 fun _ =>
  st arg20 ![h, 0, 0] S1x512x128.size (inb_l128 hh) (shapeCast S1x512x128 (mxP (g (scP q x)) m) shapeCasts_S512x128_S1x512x128)
    (View.stores_vmem_bits_univ h_S1x512x128 rfl) k

/-- One head's row block: weights and running sums, stored. -/
def smBlock (h : ℕ) (hh : h < 8) (b : ℕ) (hb : b < 8) (k : Pr F) : Pr F :=
  ld arg17 ![h, 64 * b, 0] S1x64x512.size (inb_sb hh hb) h_S1x64x512 fun s =>
  ld arg20 ![h, 64 * b, 0] S1x64x128.size (inb_lb hh hb) h_S1x64x128 fun m =>
  ld arg18 ![h, 64 * b, 0] S1x64x512.size (inb_sb hh hb) h_S1x64x512 fun _ =>
  st arg18 ![h, 64 * b, 0] S1x64x512.size (inb_sb hh hb) (shapeCast S1x64x512 (truncf .bf16 (pP s m) bitsLt_bf16_f32) shapeCasts_S64x512_S1x64x512)
    (View.stores_vmem h_S1x64x512 (harg18.storeExact_slice rfl _ (pk_sb hh hb)) (fun _ => rfl)) <|
  ld arg19 ![h, 64 * b, 0] S1x64x128.size (inb_lb hh hb) h_S1x64x128 fun a =>
  ld arg21 ![h, 64 * b, 0] S1x64x128.size (inb_lb hh hb) h_S1x64x128 fun l =>
  ld arg21 ![h, 64 * b, 0] S1x64x128.size (inb_lb hh hb) h_S1x64x128 fun _ =>
  st arg21 ![h, 64 * b, 0] S1x64x128.size (inb_lb hh hb) (shapeCast S1x64x128 (lP (pP s m) a l) shapeCasts_S64x128_S1x64x128)
    (View.stores_vmem_bits_univ h_S1x64x128 rfl) k

/-- One head's weighted sum, stored. -/
def accHead (h : ℕ) (hh : h < 8) (k : Pr F) : Pr F :=
  ld arg19 ![h, 0, 0] S1x512x128.size (inb_l128 hh) h_S1x512x128 fun a =>
  ld arg22 ![h, 0, 0] S1x512x128.size (inb_l128 hh) h_S1x512x128 fun o =>
  ld arg18 ![h, 0, 0] S1x512x512.size (inb_s512 hh) h_S1x512x512 fun p =>
  ld arg9 ![0, 128 * h] S512x128.size (inb_c128 hh) h_S512x128 fun v =>
  ld arg22 ![h, 0, 0] S1x512x128.size (inb_l128 hh) h_S1x512x128 fun _ =>
  st arg22 ![h, 0, 0] S1x512x128.size (inb_l128 hh) (shapeCast S1x512x128 (accP a o p v) shapeCasts_S512x128_S1x512x128)
    (View.stores_vmem_bits_univ h_S1x512x128 rfl) k

/-- One key tile: keys, scores, weights, weighted sums. -/
def step (g : FVec F S512x512 .f32 → FVec F S512x512 .f32) (k : Pr F) : Pr F :=
  ld arg10 ![0, 0] S512x128.size inb_w128 h_S512x128 fun x =>
  ld arg11 ![0, 0] S512x64.size inb_w64 h_S512x64 fun c =>
  ld arg12 ![0, 0] S512x64.size inb_w64 h_S512x64 fun s =>
  all8 (kcHead arg8 arg16 harg16 (kpP x c s)) <|
  all8 (scHead arg15 arg16 arg17 arg19 arg20 g) <|
  all8 (fun h hh => all8 (smBlock arg17 arg18 harg18 arg19 arg20 arg21 h hh)) <|
  all8 (accHead arg9 arg18 arg19 arg22) k

/-- One head's result, stored. -/
def outHead (h : ℕ) (hh : h < 8) (k : Pr F) : Pr F :=
  ld arg22 ![h, 0, 0] S1x512x128.size (inb_l128 hh) h_S1x512x128 fun o =>
  ld arg21 ![h, 0, 0] S1x512x128.size (inb_l128 hh) h_S1x512x128 fun l =>
  ld arg13 ![0, 128 * h] S512x128.size (inb_c128 hh) h_S512x128 fun z =>
  ld arg14 ![0, 128 * h] S512x128.size (inb_c128 hh) h_S512x128 fun _ =>
  st arg14 ![0, 128 * h] S512x128.size (inb_c128 hh) (outP o l z)
    (View.stores_vmem h_S512x128 (harg14.storeExact_slice rfl _ (pk_c128 hh)) (fun _ => rfl)) k

end Cert.KernelIdeal.Mla

end
-- ==== Proof.Mla.Shape.lean ====
module

public import proofs.«01_k».proof.Proof.Mla.Ops

@[expose] public section

set_option maxRecDepth 1000000
set_option maxHeartbeats 0

/-! # The kernel function is the program of `Ops.lean` -/

noncomputable section

namespace Cert.KernelIdeal.Mla

open Idealize.ShloMosaic Idealize.SL.Sem Cert.KernelIdeal Cert.KernelIdeal.Gen

variable {F : FTy → Type} [FloatOps F] [Named F]

/-- The kernel function, as a program over heads and row blocks. -/
def body (i : grid0.Coords) (arg1 : Memref sig .tc .smem S136 .i32) (harg1 : arg1.IsWhole) (arg2 : Memref sig .tc .smem S136 .i32) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S8x512x192 .bf16) (harg16 : arg16.IsWhole) (arg17 : Memref sig .tc .vmem S8x512x512 .f32) (harg17 : arg17.IsWhole) (arg18 : Memref sig .tc .vmem S8x512x512 .bf16) (harg18 : arg18.IsWhole) (arg19 : Memref sig .tc .vmem S8x512x128 .f32) (harg19 : arg19.IsWhole) (arg20 : Memref sig .tc .vmem S8x512x128 .f32) (harg20 : arg20.IsWhole) (arg21 : Memref sig .tc .vmem S8x512x128 .f32) (harg21 : arg21.IsWhole) (arg22 : Memref sig .tc .vmem S8x512x128 .f32) (harg22 : arg22.IsWhole) : Pr F :=
  (smemLoad (Λ := Λ₀) (Val := Elt F) arg1 (Rect.unit (s := S136) (k0_off1 i) S1.size (k0_off1_inb i)) numel1_S1 rfl).bind fun v1 =>
  (smemLoad (Λ := Λ₀) (Val := Elt F) arg2 (Rect.unit (s := S136) (k0_off1 i) S1.size (k0_off1_inb i)) numel1_S1 rfl).bind fun v3 =>
  let last : Pr F := if k0_cond3 v1 v3 = 1#1 then step arg8 arg9 arg10 arg11 arg12 arg15 arg16 harg16 arg17 arg18 harg18 arg19 arg20 arg21 arg22 maskP (all8 (outHead arg13 arg14 harg14 arg21 arg22) (.ret ⟨⟩)) else .ret ⟨⟩
  let mid : Pr F := if Scalar.cmpi .ne ((Scalar.extui (Scalar.cmpi .slt v3 v1) : BitVec 32)) 0#32 = 1#1 then step arg8 arg9 arg10 arg11 arg12 arg15 arg16 harg16 arg17 arg18 harg18 arg19 arg20 arg21 arg22 (fun s => s) last else last
  if Scalar.cmpi .ne ((Scalar.extui (Scalar.cmpi .eq v3 0#32) : BitVec 32)) 0#32 = 1#1 then initAll arg3 arg4 arg5 arg6 arg7 arg15 harg15 arg20 arg21 arg22 mid else mid

theorem body_eq (i : grid0.Coords) (arg1 : Memref sig .tc .smem S136 .i32) (harg1 : arg1.IsWhole) (arg2 : Memref sig .tc .smem S136 .i32) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S8x512x192 .bf16) (harg16 : arg16.IsWhole) (arg17 : Memref sig .tc .vmem S8x512x512 .f32) (harg17 : arg17.IsWhole) (arg18 : Memref sig .tc .vmem S8x512x512 .bf16) (harg18 : arg18.IsWhole) (arg19 : Memref sig .tc .vmem S8x512x128 .f32) (harg19 : arg19.IsWhole) (arg20 : Memref sig .tc .vmem S8x512x128 .f32) (harg20 : arg20.IsWhole) (arg21 : Memref sig .tc .vmem S8x512x128 .f32) (harg21 : arg21.IsWhole) (arg22 : Memref sig .tc .vmem S8x512x128 .f32) (harg22 : arg22.IsWhole) : cc0_mla_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := rfl

end Cert.KernelIdeal.Mla

end
-- ==== Proof.Mla.Tables.lean ====
module

public import proofs.«01_k».proof.Proof.Mla.Shape
public import proofs.«01_k».proof.Proof.Gen.KernelIdeal.Launch

@[expose] public section

/-! # The two index tables

Point `n` of the grid is a pair of a query block `qi` and a key block `ki ≤ qi`, the pairs in the order of the lower
triangle read by rows. The tables hold these words; every block the index maps name lies inside its array. -/

noncomputable section

namespace Cert.KernelIdeal.Mla

open Idealize.ShloMosaic Idealize.ShloMosaic.TcCoe Cert.KernelIdeal Cert.KernelIdeal.Gen

variable {F : FTy → Type} [FloatOps F] [Named F]

/-- The query block of a point. -/
def qi (t : Fin 136) : ℕ := (lit0 t).toNat
/-- The key block of a point. -/
def ki (t : Fin 136) : ℕ := (lit1 t).toNat

theorem tri : ∀ t : Fin 136, t.val = qi t * (qi t + 1) / 2 + ki t ∧ ki t ≤ qi t ∧ qi t < 16 := by decide +kernel

theorem qi_lt (t : Fin 136) : qi t < 16 := (tri t).2.2
theorem ki_le (t : Fin 136) : ki t ≤ qi t := (tri t).2.1
theorem ki_lt (t : Fin 136) : ki t < 16 := lt_of_le_of_lt (ki_le t) (qi_lt t)

set_option backward.proofsInPublic true in
/-- The contents of the tables. -/
def pf : pre0.Contents (Elt F) := fun
  | 0 => fun x => lit0 (S136.rowMajor x)
  | 1 => fun x => lit1 (S136.rowMajor x)
  | ⟨_ + 2, h⟩ => absurd h (Nat.not_lt.2 (Nat.le_add_left _ _))

/-- The point of a grid coordinate. -/
def pt (i : grid0.Coords) : Fin 136 := i 0

theorem word_val : ∀ i : grid0.Coords,
    (S136.rowMajor ((Rect.unit (s := S136) (k0_off1 i) S1.size (k0_off1_inb i)).emb (Shape.Idx.first (numel1_S1.symm ▸ Nat.one_pos)))).val = (pt i).val := by
  decide +kernel
theorem word_pt (i : grid0.Coords) :
    S136.rowMajor ((Rect.unit (s := S136) (k0_off1 i) S1.size (k0_off1_inb i)).emb (Shape.Idx.first (numel1_S1.symm ▸ Nat.one_pos))) = pt i :=
  Fin.ext (word_val i)

theorem at0 (i : grid0.Coords) :
    (pf (F := F)).at 0 (Rect.unit (s := S136) (k0_off1 i) S1.size (k0_off1_inb i)) numel1_S1 = lit0 (pt i) :=
  congrArg lit0 (word_pt i)
theorem at1 (i : grid0.Coords) :
    (pf (F := F)).at 1 (Rect.unit (s := S136) (k0_off1 i) S1.size (k0_off1_inb i)) numel1_S1 = lit1 (pt i) :=
  congrArg lit1 (word_pt i)

theorem off_pt : ∀ i : grid0.Coords, ∀ a, k0_off1 i a + 1 ≤ S136.size a := by decide +kernel
theorem row_val : ∀ i : grid0.Coords, (S136.rowMajor (fun a => ⟨k0_off1 i a, off_pt i a⟩)).val = (pt i).val := by decide +kernel

theorem atD0 (i : grid0.Coords) : (pf (F := F)).atD 0 (k0_off1 i) = lit0 (pt i) :=
  (dif_pos (off_pt i)).trans (congrArg lit0 (Fin.ext (row_val i)))
theorem atD1 (i : grid0.Coords) : (pf (F := F)).atD 1 (k0_off1 i) = lit1 (pt i) :=
  (dif_pos (off_pt i)).trans (congrArg lit1 (Fin.ext (row_val i)))

theorem pt_coords : ∀ t : Fin grid0.N, pt (grid0.coords t) = t.cast N_0 := by decide +kernel

/-! ## The index maps at the tables -/

theorem tr0 (i : grid0.Coords) : cc0_transform_0 k0_off1_inb numel1_S1 (pf (F := F)) i = ![qi (pt i), 0] := congrArg (fun v : BitVec 32 => ![v.toNat, 0]) (at0 (F := F) i)
theorem tr1 (i : grid0.Coords) : cc0_transform_1 k0_off1_inb numel1_S1 (pf (F := F)) i = ![qi (pt i), 2] := congrArg (fun v : BitVec 32 => ![v.toNat, 2]) (at0 (F := F) i)
theorem tr2 (i : grid0.Coords) : cc0_transform_2 k0_off1_inb numel1_S1 (pf (F := F)) i = ![qi (pt i), 3] := congrArg (fun v : BitVec 32 => ![v.toNat, 3]) (at0 (F := F) i)
theorem tr3 (i : grid0.Coords) : cc0_transform_3 k0_off1_inb numel1_S1 (pf (F := F)) i = ![qi (pt i), 0] := congrArg (fun v : BitVec 32 => ![v.toNat, 0]) (at0 (F := F) i)
theorem tr4 (i : grid0.Coords) : cc0_transform_4 k0_off1_inb numel1_S1 (pf (F := F)) i = ![qi (pt i), 0] := congrArg (fun v : BitVec 32 => ![v.toNat, 0]) (at0 (F := F) i)
theorem tr5 (i : grid0.Coords) : cc0_transform_5 k0_off1_inb numel1_S1 (pf (F := F)) i = ![ki (pt i), 0] := congrArg (fun v : BitVec 32 => ![v.toNat, 0]) (at1 (F := F) i)
theorem tr6 (i : grid0.Coords) : cc0_transform_6 k0_off1_inb numel1_S1 (pf (F := F)) i = ![ki (pt i), 1] := congrArg (fun v : BitVec 32 => ![v.toNat, 1]) (at1 (F := F) i)
theorem tr7 (i : grid0.Coords) : cc0_transform_7 k0_off1_inb numel1_S1 (pf (F := F)) i = ![ki (pt i), 38] := congrArg (fun v : BitVec 32 => ![v.toNat, 38]) (at1 (F := F) i)
theorem tr8 (i : grid0.Coords) : cc0_transform_8 k0_off1_inb numel1_S1 (pf (F := F)) i = ![ki (pt i), 0] := congrArg (fun v : BitVec 32 => ![v.toNat, 0]) (at1 (F := F) i)
theorem tr9 (i : grid0.Coords) : cc0_transform_9 k0_off1_inb numel1_S1 (pf (F := F)) i = ![ki (pt i), 0] := congrArg (fun v : BitVec 32 => ![v.toNat, 0]) (at1 (F := F) i)
theorem tr10 (i : grid0.Coords) : cc0_transform_10 k0_off1_inb numel1_S1 (pf (F := F)) i = ![qi (pt i), 2] := congrArg (fun v : BitVec 32 => ![v.toNat, 2]) (at0 (F := F) i)
theorem tr11 (i : grid0.Coords) : cc0_transform_11 k0_off1_inb numel1_S1 (pf (F := F)) i = ![qi (pt i), 0] := congrArg (fun v : BitVec 32 => ![v.toNat, 0]) (at0 (F := F) i)

/-- A block of `S` at row block `q` and column block `b` of `T` lies inside and ends on words. -/
abbrev Fits (S T : Shape) (e : EltTy) (ix : Fin T.rank → ℕ) (hs : S.rank = T.rank) : Prop :=
  ∃ h : (∀ a, (ix a + 1) * S.size (a.cast hs.symm) ≤ T.size a), e.bits = 32 ∨ (Rect.block (s := T) (fun a => S.size (a.cast hs.symm)) ix h).WholeWords e.packing

theorem fits_q : ∀ q : Fin 16, Fits S512x1024 S8192x2048 .bf16 ![q.val, 0] rfl := by decide +kernel
theorem fits_v : ∀ q : Fin 16, Fits S512x1024 S8192x2048 .bf16 ![q.val, 1] rfl := by decide +kernel
theorem fits_p2 : ∀ q : Fin 16, Fits S512x512 S8192x2048 .bf16 ![q.val, 2] rfl := by decide +kernel
theorem fits_p3 : ∀ q : Fin 16, Fits S512x512 S8192x2048 .bf16 ![q.val, 3] rfl := by decide +kernel
theorem fits_cs : ∀ q : Fin 16, Fits S512x64 S8192x64 .f32 ![q.val, 0] rfl := by decide +kernel
theorem fits_kpe : ∀ q : Fin 16, Fits S512x128 S8192x5120 .f32 ![q.val, 38] rfl := by decide +kernel
theorem fits_z : ∀ q : Fin 16, Fits S512x1024 S8192x5120 .f32 ![q.val, 2] rfl := by decide +kernel
theorem fits_o : ∀ q : Fin 16, Fits S512x1024 S8192x1024 .bf16 ![q.val, 0] rfl := by decide +kernel

theorem ok : ok0 (pf (F := F)) :=
  ⟨fun i => by rw [tr0]; exact fits_q ⟨_, qi_lt _⟩, fun i => by rw [tr1]; exact fits_p2 ⟨_, qi_lt _⟩,
   fun i => by rw [tr2]; exact fits_p3 ⟨_, qi_lt _⟩, fun i => by rw [tr3]; exact fits_cs ⟨_, qi_lt _⟩,
   fun i => by rw [tr4]; exact fits_cs ⟨_, qi_lt _⟩, fun i => by rw [tr5]; exact fits_q ⟨_, ki_lt _⟩,
   fun i => by rw [tr6]; exact fits_v ⟨_, ki_lt _⟩, fun i => by rw [tr7]; exact fits_kpe ⟨_, ki_lt _⟩,
   fun i => by rw [tr8]; exact fits_cs ⟨_, ki_lt _⟩, fun i => by rw [tr9]; exact fits_cs ⟨_, ki_lt _⟩,
   fun i => by rw [tr10]; exact fits_z ⟨_, qi_lt _⟩, fun i => by rw [tr11]; exact fits_o ⟨_, qi_lt _⟩⟩

/-- The tables as admissible contents. -/
def adm : (p : Fin 1) → (pcfgs (F := F) p).Adm := fun _ => ⟨pf, ok⟩

/-! ## The branches of the body -/

theorem init_iff : ∀ t : Fin 136, (Scalar.cmpi .ne ((Scalar.extui (Scalar.cmpi .eq (lit1 t) 0#32) : BitVec 32)) 0#32 = 1#1) ↔ ki t = 0 := by decide +kernel
theorem mid_iff : ∀ t : Fin 136, (Scalar.cmpi .ne ((Scalar.extui (Scalar.cmpi .slt (lit1 t) (lit0 t)) : BitVec 32)) 0#32 = 1#1) ↔ ki t < qi t := by decide +kernel
theorem last_iff : ∀ t : Fin 136, (k0_cond3 (lit0 t) (lit1 t) = 1#1) ↔ ki t = qi t := by decide +kernel

end Cert.KernelIdeal.Mla

end
-- ==== Proof.Mla.Wp.lean ====
module

public import proofs.«01_k».proof.Proof.Mla.Ops
public import Idealize.ShloMosaic.Lib.VecWindow
public import Idealize.ShloMosaic.Lib.Pipeline.TableIdle
public import Idealize.ShloMosaic.Lib.Pipeline.FrameSuffix

@[expose] public section

/-! # Running one load, one store, and a sequence over the heads

A buffer is held as the array of values it shows; a load continues with a window of that array and a store leaves
the array with the payload put at the window. -/

noncomputable section

namespace Cert.KernelIdeal.Mla

open Idealize.ShloMosaic Idealize.ShloMosaic.TcCoe Cert.KernelIdeal Cert.KernelIdeal.Gen
open Idealize.SL Idealize.SL.RA Idealize.SL.BI
open scoped Idealize.SL.BI
open Idealize.ShloMosaic.Pipeline
open Idealize.SL.BI.BIBase Idealize.SL.BI.Laws Idealize.SL.Sem Idealize.SL.ProofMode

variable {F : FTy → Type} [FloatOps F] [Named F]

local notation "𝕄" => MT nD τ sig Unit (Elt F) ℕ (UR sig nD τ) ℕ

/-- The kernel's own programs run to `Q`. -/
abbrev runs (c : Dev nD) (k : Pr F) (Q : PUnit.{1} → sProp 𝕄) : sProp 𝕄 :=
  wp frame (wpE (defs₀ (F := F)) Idealize.ShloMosaic.Variants.none (c : Thread nD τ) none) Set.univ k Q

variable (c : Dev nD)

/-- A buffer held showing `X`. -/
abbrev has {s : Shape} {e : EltTy} (c : Dev nD) (m : Memref sig .tc .vmem s e) (X : s.Idx → Elt F e) : sProp 𝕄 :=
  owns (c : Thread nD τ) m fullShare X

theorem wp_ld {Φ : PUnit.{1} → sProp 𝕄} {s : Shape} {e : EltTy} (m : Memref sig .tc .vmem s e) {off size : Fin s.rank → ℕ}
    {inb : ∀ a, off a + size a ≤ s.size a} {hp : 0 < (Rect.unit off size inb).shape.numel}
    {k : ((Rect.unit off size inb).shape.Idx → Elt F e) → Pr F} (X : s.Idx → Elt F e) :
    has c m X ⊢ iprop((has c m X -∗ runs c (k (VecWindow.window X off size inb)) Φ) -∗ runs c (ld m off size inb hp k) Φ) := by
  unfold has
  rw [owns_eq_rep]
  rw [← View.readAt_rep_unit m.view X inb rfl inb]
  exact wp_load (defs := defs₀ (F := F)) Idealize.ShloMosaic.Variants.none (c : Thread nD τ) none Set.univ (Q := Φ) (m := m)
    (r := (Rect.unit off size inb).toLoadRect) (hl := View.loadsAt_vmem hp) (k := k) (q := fullShare) (f := m.view.rep X) (S := m.view.set)
    (View.setOn_subset_set _ _)

theorem wp_st {Φ : PUnit.{1} → sProp 𝕄} {s : Shape} {e : EltTy} (m : Memref sig .tc .vmem s e) {off size : Fin s.rank → ℕ}
    {inb : ∀ a, off a + size a ≤ s.size a} {w : (Rect.unit off size inb).shape.Idx → Elt F e}
    {hx : (m.access (Rect.unit off size inb)).Stores Finset.univ} {k : Pr F} (X : s.Idx → Elt F e) :
    has c m X ⊢ iprop((has c m (VecWindow.put X off size w) -∗ runs c k Φ) -∗ runs c (st m off size inb w hx k) Φ) := by
  have h := wp_store_writes₀ (defs := defs₀ (F := F)) Idealize.ShloMosaic.Variants.none (c : Thread nD τ) none Set.univ (Q := Φ) (m := m)
    (r := Rect.unit off size inb) (w := w) (hx := hx) (hm := .inl rfl) (k := fun _ => k) (f := m.view.rep X) (S := m.view.set)
    (View.set_slice_subset _ _)
  unfold has
  rw [owns_eq_rep]
  iintro H Hk
  iapply h $$ H
  iintro H
  iapply Hk
  iapply (Entails.of_eq (owns_eq_rep (c : Thread nD τ) m fullShare (VecWindow.put X off size w)).symm)
  iapply (pointsTo_rep_of_read (c : Thread nD τ) m _ fullShare _ (View.read_writes_rep_unit m.view X inb w rfl)) $$ H

/-- Eight steps in a row, each keeping a family of assertions. -/
theorem wp_all8 {Φ : PUnit.{1} → sProp 𝕄} {f : (h : ℕ) → h < 8 → Pr F → Pr F} {k : Pr F} (P : ℕ → sProp 𝕄)
    (step : ∀ (h : ℕ) (hh : h < 8) (k : Pr F), P h ⊢ iprop((P (h + 1) -∗ runs c k Φ) -∗ runs c (f h hh k) Φ)) :
    P 0 ⊢ iprop((P 8 -∗ runs c k Φ) -∗ runs c (all8 f k) Φ) := by
  unfold all8
  iintro H Hk
  iapply (step 0 _ _) $$ H
  iintro H
  iapply (step 1 _ _) $$ H
  iintro H
  iapply (step 2 _ _) $$ H
  iintro H
  iapply (step 3 _ _) $$ H
  iintro H
  iapply (step 4 _ _) $$ H
  iintro H
  iapply (step 5 _ _) $$ H
  iintro H
  iapply (step 6 _ _) $$ H
  iintro H
  iapply (step 7 _ _) $$ H
  iintro H
  iapply Hk $$ H

end Cert.KernelIdeal.Mla

end
-- ==== Proof.Mla.Closed.lean ====
module

public import proofs.«01_k».proof.Proof.Mla.Ops
public import Idealize.ShloMosaic.Lib.VecWindow
public import Idealize.ShloMosaic.Lib.ValueIdxCore

@[expose] public section

/-! # What the programs over the heads leave, in closed form

`upto cell n new old` is the array that is `new` on the cells before the `n`-th and `old` from there on; a store of
the `n`-th cell moves it one cell on. The arrays the programs leave (`kcNew`, `sNew`, …) name at each index the
payload of the index's own head or row block. -/

noncomputable section

namespace Cert.KernelIdeal.Mla

open Idealize.ShloMosaic Cert.KernelIdeal Cert.KernelIdeal.Gen
open Idealize.ShloMosaic.ValueIdx (ix2 ix3)

variable {F : FTy → Type} [FloatOps F] [Named F]

section Upto
variable {α : Type} {s : Shape}

/-- `new` on the cells before the `n`-th, `old` from there on. -/
def upto (cell : s.Idx → ℕ) (n : ℕ) (new old : s.Idx → α) : s.Idx → α :=
  fun y => if cell y < n then new y else old y

theorem upto_zero (cell : s.Idx → ℕ) (new old : s.Idx → α) : upto cell 0 new old = old := by
  funext y; simp [upto]

theorem upto_all (cell : s.Idx → ℕ) (n : ℕ) (new old : s.Idx → α) (h : ∀ y, cell y < n) : upto cell n new old = new := by
  funext y; simp [upto, h y]

/-- A store of the `n`-th cell. -/
theorem put_upto (cell : s.Idx → ℕ) (n : ℕ) (new old : s.Idx → α) (off size : Fin s.rank → ℕ) (w : ((a : Fin s.rank) → Fin (size a)) → α)
    (hin : ∀ y : s.Idx, (∀ a, off a ≤ (y a).val ∧ (y a).val < off a + size a) ↔ cell y = n)
    (hw : ∀ y h, w (Rect.unitLocal (s := s) (off := off) (size := size) y h) = new y) :
    VecWindow.put (upto cell n new old) off size w = upto cell (n + 1) new old := by
  funext y
  unfold VecWindow.put upto
  split
  · next h =>
    have := (hin y).mp h
    rw [hw y h, if_pos (by omega)]
  · next h =>
    have : cell y ≠ n := fun e => h ((hin y).mpr e)
    by_cases h' : cell y < n
    · rw [if_pos h', if_pos (by omega)]
    · rw [if_neg h', if_neg (by omega)]

/-- A cell stored in two parts. -/
theorem put_put_upto (cell : s.Idx → ℕ) (n : ℕ) (new old : s.Idx → α) (off size off' size' : Fin s.rank → ℕ)
    (w : ((a : Fin s.rank) → Fin (size a)) → α) (w' : ((a : Fin s.rank) → Fin (size' a)) → α)
    (hin : ∀ y : s.Idx, cell y = n → (∀ a, off a ≤ (y a).val ∧ (y a).val < off a + size a) ∨ (∀ a, off' a ≤ (y a).val ∧ (y a).val < off' a + size' a))
    (h1 : ∀ y : s.Idx, (∀ a, off a ≤ (y a).val ∧ (y a).val < off a + size a) → cell y = n)
    (h2 : ∀ y : s.Idx, (∀ a, off' a ≤ (y a).val ∧ (y a).val < off' a + size' a) → cell y = n)
    (hw : ∀ y h, w (Rect.unitLocal (s := s) (off := off) (size := size) y h) = new y)
    (hw' : ∀ y h, w' (Rect.unitLocal (s := s) (off := off') (size := size') y h) = new y) :
    VecWindow.put (VecWindow.put (upto cell n new old) off size w) off' size' w' = upto cell (n + 1) new old := by
  funext y
  unfold VecWindow.put upto
  split
  · next h =>
    have := h2 y h
    rw [hw' y h, if_pos (by omega)]
  · next h =>
    split
    · next h' =>
      have := h1 y h'
      rw [hw y h', if_pos (by omega)]
    · next h' =>
      have : cell y ≠ n := fun e => (hin y e).elim h' h
      by_cases h' : cell y < n
      · rw [if_pos h', if_pos (by omega)]
      · rw [if_neg h', if_neg (by omega)]

/-- A window of cells not yet stored. -/
theorem window_upto (cell : s.Idx → ℕ) (n : ℕ) (new old : s.Idx → α) (off size : Fin s.rank → ℕ) (inb : ∀ a, off a + size a ≤ s.size a)
    (h : ∀ y, n ≤ cell ((Rect.unit off size inb).emb y)) :
    VecWindow.window (upto cell n new old) off size inb = VecWindow.window old off size inb := by
  funext y
  unfold VecWindow.window upto
  rw [if_neg (by have := h y; omega)]

end Upto

/-! ## The cells -/

/-- The head of an index of a head-indexed array. -/
def hd {A B : ℕ} (y : (⟨3, ![8, A, B]⟩ : Shape).Idx) : ℕ := (y 0).val
/-- The head and row block of an index, numbered in the order they are stored. -/
def rb {B : ℕ} (y : (⟨3, ![8, 512, B]⟩ : Shape).Idx) : ℕ := 8 * (y 0).val + (y 1).val / 64
/-- The head of a column of the stored queries. -/
def qc (y : S512x1536.Idx) : ℕ := (y 1).val / 192
/-- The head of a column of the result. -/
def oc (y : S512x1024.Idx) : ℕ := (y 1).val / 128

theorem hd_lt {A B : ℕ} (y : (⟨3, ![8, A, B]⟩ : Shape).Idx) : hd y < 8 := (y 0).isLt
theorem rb_lt {B : ℕ} (y : (⟨3, ![8, 512, B]⟩ : Shape).Idx) : rb y < 64 := by
  have h0 : (y 0).val < 8 := (y 0).isLt
  have h1 : (y 1).val < 512 := (y 1).isLt
  unfold rb; omega
theorem qc_lt (y : S512x1536.Idx) : qc y < 8 := by
  have h1 : (y 1).val < 1536 := (y 1).isLt
  unfold qc; omega
theorem oc_lt (y : S512x1024.Idx) : oc y < 8 := by
  have h1 : (y 1).val < 1024 := (y 1).isLt
  unfold oc; omega
theorem rb_row {B : ℕ} (y : (⟨3, ![8, 512, B]⟩ : Shape).Idx) : (y 1).val / 64 < 8 := by
  have h1 : (y 1).val < 512 := (y 1).isLt
  omega

/-! ## The arrays -/

/-- The stored keys: the head's own, then the turned ones. -/
def kcNew (kp : FVec F S512x64 .bf16) (k : Vec F S512x1024 .bf16) : S8x512x192.Idx → Elt F .bf16 := fun y =>
  if h : (y 2).val < 128 then
    (shapeCast S1x512x128 (shapeCast S512x128 (VecWindow.window k ![0, 128 * (y 0).val] S512x128.size (inb_c128 (y 0).isLt)) shapeCasts_S512x128_S512x128) shapeCasts_S512x128_S1x512x128
      : S1x512x128.Idx → Elt F .bf16) (ix3 (0 : Fin 1) (y 1) ⟨(y 2).val, h⟩)
  else (shapeCast S1x512x64 kp shapeCasts_S512x64_S1x512x64 : S1x512x64.Idx → Elt F .bf16)
    (ix3 (0 : Fin 1) (y 1) ⟨(y 2).val - 128, by have : (y 2).val < 192 := (y 2).isLt; omega⟩)

/-- The stored queries: the head's own, then the turned ones. -/
def qNew (qn : FVec F S512x1024 .bf16) (c s : FVec F S512x64 .f32) (qp qpr : Vec F S512x512 .bf16) : S512x1536.Idx → Elt F .bf16 := fun y =>
  if h : (y 1).val % 192 < 128 then
    (shapeCast S512x128 (extractStridedSlice S512x128 ![0, 128 * qc y] qn (slc_qn (qc_lt y))) shapeCasts_S512x128_S512x128 : S512x128.Idx → Elt F .bf16)
      (ix2 (y 0) ⟨(y 1).val % 192, h⟩)
  else
    (shapeCast S512x64 (qpP (VecWindow.window qp ![0, 64 * qc y] S512x64.size (inb_pe (qc_lt y))) (VecWindow.window qpr ![0, 64 * qc y] S512x64.size (inb_pe (qc_lt y))) c s)
      shapeCasts_S512x64_S512x64 : S512x64.Idx → Elt F .bf16) (ix2 (y 0) ⟨(y 1).val % 192 - 128, by omega⟩)

/-- One head's scores, from the stored queries and keys. -/
def scOf (g : FVec F S512x512 .f32 → FVec F S512x512 .f32) (q : Vec F S512x1536 .bf16) (kc : Vec F S8x512x192 .bf16) (h : Fin 8) : FVec F S512x512 .f32 :=
  g (scP (VecWindow.window q ![0, 192 * h.val] S512x192.size (inb_q192 h.isLt)) (VecWindow.window kc ![h.val, 0, 0] S1x512x192.size (inb_kc192 h.isLt)))

/-- The stored scores. -/
def sNew (g : FVec F S512x512 .f32 → FVec F S512x512 .f32) (q : Vec F S512x1536 .bf16) (kc : Vec F S8x512x192 .bf16) : S8x512x512.Idx → Elt F .f32 := fun y =>
  (shapeCast S1x512x512 (scOf g q kc (y 0)) shapeCasts_S512x512_S1x512x512 : S1x512x512.Idx → Elt F .f32) (ix3 (0 : Fin 1) (y 1) (y 2))

/-- The stored factors. -/
def aNew (g : FVec F S512x512 .f32 → FVec F S512x512 .f32) (q : Vec F S512x1536 .bf16) (kc : Vec F S8x512x192 .bf16) (m : Vec F S8x512x128 .f32) :
    S8x512x128.Idx → Elt F .f32 := fun y =>
  (shapeCast S1x512x128 (alP (scOf g q kc (y 0)) (VecWindow.window m ![(y 0).val, 0, 0] S1x512x128.size (inb_l128 (y 0).isLt))) shapeCasts_S512x128_S1x512x128
    : S1x512x128.Idx → Elt F .f32) (ix3 (0 : Fin 1) (y 1) (y 2))

/-- The stored maxima. -/
def mNew (g : FVec F S512x512 .f32 → FVec F S512x512 .f32) (q : Vec F S512x1536 .bf16) (kc : Vec F S8x512x192 .bf16) (m : Vec F S8x512x128 .f32) :
    S8x512x128.Idx → Elt F .f32 := fun y =>
  (shapeCast S1x512x128 (mxP (scOf g q kc (y 0)) (VecWindow.window m ![(y 0).val, 0, 0] S1x512x128.size (inb_l128 (y 0).isLt))) shapeCasts_S512x128_S1x512x128
    : S1x512x128.Idx → Elt F .f32) (ix3 (0 : Fin 1) (y 1) (y 2))

/-- One row block's weights. -/
def pOf (s : Vec F S8x512x512 .f32) (m : Vec F S8x512x128 .f32) (h : ℕ) (hh : h < 8) (b : ℕ) (hb : b < 8) : FVec F S64x512 .f32 :=
  pP (VecWindow.window s ![h, 64 * b, 0] S1x64x512.size (inb_sb hh hb)) (VecWindow.window m ![h, 64 * b, 0] S1x64x128.size (inb_lb hh hb))

/-- The stored weights. -/
def pNew (s : Vec F S8x512x512 .f32) (m : Vec F S8x512x128 .f32) : S8x512x512.Idx → Elt F .bf16 := fun y =>
  (shapeCast S1x64x512 (truncf .bf16 (pOf s m (y 0).val (y 0).isLt ((y 1).val / 64) (rb_row y)) bitsLt_bf16_f32) shapeCasts_S64x512_S1x64x512
    : S1x64x512.Idx → Elt F .bf16) (ix3 (0 : Fin 1) ⟨(y 1).val % 64, Nat.mod_lt _ (by decide)⟩ (y 2))

/-- The stored running sums. -/
def lNew (s : Vec F S8x512x512 .f32) (m a l : Vec F S8x512x128 .f32) : S8x512x128.Idx → Elt F .f32 := fun y =>
  (shapeCast S1x64x128 (lP (pOf s m (y 0).val (y 0).isLt ((y 1).val / 64) (rb_row y))
      (VecWindow.window a ![(y 0).val, 64 * ((y 1).val / 64), 0] S1x64x128.size (inb_lb (y 0).isLt (rb_row y)))
      (VecWindow.window l ![(y 0).val, 64 * ((y 1).val / 64), 0] S1x64x128.size (inb_lb (y 0).isLt (rb_row y)))) shapeCasts_S64x128_S1x64x128
    : S1x64x128.Idx → Elt F .f32) (ix3 (0 : Fin 1) ⟨(y 1).val % 64, Nat.mod_lt _ (by decide)⟩ (y 2))

/-- The stored weighted sums. -/
def accNew (a o : Vec F S8x512x128 .f32) (p : Vec F S8x512x512 .bf16) (v : Vec F S512x1024 .bf16) : S8x512x128.Idx → Elt F .f32 := fun y =>
  (shapeCast S1x512x128 (accP (VecWindow.window a ![(y 0).val, 0, 0] S1x512x128.size (inb_l128 (y 0).isLt))
      (VecWindow.window o ![(y 0).val, 0, 0] S1x512x128.size (inb_l128 (y 0).isLt))
      (VecWindow.window p ![(y 0).val, 0, 0] S1x512x512.size (inb_s512 (y 0).isLt))
      (VecWindow.window v ![0, 128 * (y 0).val] S512x128.size (inb_c128 (y 0).isLt))) shapeCasts_S512x128_S1x512x128
    : S1x512x128.Idx → Elt F .f32) (ix3 (0 : Fin 1) (y 1) (y 2))

/-- The stored result. -/
def outNew (o l : Vec F S8x512x128 .f32) (z : Vec F S512x1024 .f32) : S512x1024.Idx → Elt F .bf16 := fun y =>
  (outP (VecWindow.window o ![oc y, 0, 0] S1x512x128.size (inb_l128 (oc_lt y))) (VecWindow.window l ![oc y, 0, 0] S1x512x128.size (inb_l128 (oc_lt y)))
      (VecWindow.window z ![0, 128 * oc y] S512x128.size (inb_c128 (oc_lt y))) : S512x128.Idx → Elt F .bf16)
    (ix2 (y 0) ⟨(y 1).val % 128, Nat.mod_lt _ (by decide)⟩)

/-- A running quantity set to one number everywhere. -/
def filled (b : BitVec 32) : S8x512x128.Idx → Elt F .f32 :=
  shapeCast S8x512x128 (broadcast S8x512x128 (Scalar.ofBits (F := F) .f32 b)) shapeCasts_S8x512x128_S8x512x128

/-! ## One store each -/

/-- Being in head `h`'s slab. -/
theorem in_slab {A B : ℕ} (h : ℕ) (y : (⟨3, ![8, A, B]⟩ : Shape).Idx) :
    (∀ a, (![h, 0, 0] : Fin 3 → ℕ) a ≤ (y a).val ∧ (y a).val < (![h, 0, 0] : Fin 3 → ℕ) a + (![1, A, B] : Fin 3 → ℕ) a) ↔ hd y = h := by
  have h1 : (y 1).val < A := (y 1).isLt
  have h2 : (y 2).val < B := (y 2).isLt
  constructor
  · intro H
    have h0 := H 0
    simp at h0
    unfold hd; omega
  · intro e a
    unfold hd at e
    fin_cases a <;> simp [e] <;> omega

theorem put_slab {α : Type} {A B : ℕ} (h : ℕ) (hh : h < 8) (W : Fin 8 → (⟨3, ![1, A, B]⟩ : Shape).Idx → α) (old : (⟨3, ![8, A, B]⟩ : Shape).Idx → α) :
    VecWindow.put (s := ⟨3, ![8, A, B]⟩) (upto hd h (fun (y : (⟨3, ![8, A, B]⟩ : Shape).Idx) => W (y 0) (ix3 (0 : Fin 1) (y 1) (y 2))) old) ![h, 0, 0] ![1, A, B] (W ⟨h, hh⟩)
      = upto hd (h + 1) (fun (y : (⟨3, ![8, A, B]⟩ : Shape).Idx) => W (y 0) (ix3 (0 : Fin 1) (y 1) (y 2))) old := by
  refine put_upto hd h _ old _ _ _ (in_slab h) fun y H => ?_
  have e0 : (⟨h, hh⟩ : Fin 8) = y 0 := Fin.ext ((in_slab h y).mp H).symm
  rw [e0]
  refine congrArg (W (y 0)) ?_
  funext a
  refine Fin.ext ?_
  have h0 := H 0
  fin_cases a
  · show (y 0).val - h = 0
    simp at h0; omega
  · rfl
  · rfl

theorem window_slab {α : Type} {A B : ℕ} (h : ℕ) (new old : (⟨3, ![8, A, B]⟩ : Shape).Idx → α) (inb) :
    VecWindow.window (s := ⟨3, ![8, A, B]⟩) (upto hd h new old) ![h, 0, 0] ![1, A, B] inb = VecWindow.window old ![h, 0, 0] ![1, A, B] inb :=
  window_upto hd h new old _ _ inb fun y => by
    show h ≤ h + 1 * (y 0).val
    omega

/-- Being in head `h`'s row block `b`. -/
theorem in_block {B : ℕ} (h b : ℕ) (hb : b < 8) (y : (⟨3, ![8, 512, B]⟩ : Shape).Idx) :
    (∀ a, (![h, 64 * b, 0] : Fin 3 → ℕ) a ≤ (y a).val ∧ (y a).val < (![h, 64 * b, 0] : Fin 3 → ℕ) a + (![1, 64, B] : Fin 3 → ℕ) a) ↔ rb y = 8 * h + b := by
  have h1 : (y 1).val < 512 := (y 1).isLt
  have h2 : (y 2).val < B := (y 2).isLt
  unfold rb
  constructor
  · intro H
    have h0 := H 0
    have h1 := H 1
    simp at h0 h1
    omega
  · intro e a
    fin_cases a <;> simp <;> omega

theorem put_block {α : Type} {B : ℕ} (h : ℕ) (hh : h < 8) (b : ℕ) (hb : b < 8)
    (W : (h : ℕ) → h < 8 → (b : ℕ) → b < 8 → (⟨3, ![1, 64, B]⟩ : Shape).Idx → α) (old : (⟨3, ![8, 512, B]⟩ : Shape).Idx → α) :
    VecWindow.put (s := ⟨3, ![8, 512, B]⟩)
        (upto rb (8 * h + b) (fun (y : (⟨3, ![8, 512, B]⟩ : Shape).Idx) => W (y 0).val (y 0).isLt ((y 1).val / 64) (rb_row y) (ix3 (0 : Fin 1) ⟨(y 1).val % 64, Nat.mod_lt _ (by decide)⟩ (y 2))) old)
        ![h, 64 * b, 0] ![1, 64, B] (W h hh b hb)
      = upto rb (8 * h + b + 1) (fun (y : (⟨3, ![8, 512, B]⟩ : Shape).Idx) => W (y 0).val (y 0).isLt ((y 1).val / 64) (rb_row y) (ix3 (0 : Fin 1) ⟨(y 1).val % 64, Nat.mod_lt _ (by decide)⟩ (y 2))) old := by
  refine put_upto rb (8 * h + b) _ old _ _ _ (in_block h b hb) fun y H => ?_
  have h1 : (y 1).val < 512 := (y 1).isLt
  have h0 := H 0
  have h1' := H 1
  simp at h0 h1'
  have e0 : h = (y 0).val := by omega
  have e1 : b = (y 1).val / 64 := by omega
  subst e0 e1
  refine congrArg (W _ _ _ _) ?_
  funext a
  refine Fin.ext ?_
  fin_cases a
  · show (y 0).val - (y 0).val = 0
    omega
  · show (y 1).val - 64 * ((y 1).val / 64) = (y 1).val % 64
    omega
  · rfl

theorem window_block {α : Type} {B : ℕ} (h b : ℕ) (hb : b < 8) (new old : (⟨3, ![8, 512, B]⟩ : Shape).Idx → α) (inb) :
    VecWindow.window (s := ⟨3, ![8, 512, B]⟩) (upto rb (8 * h + b) new old) ![h, 64 * b, 0] ![1, 64, B] inb = VecWindow.window old ![h, 64 * b, 0] ![1, 64, B] inb :=
  window_upto rb _ new old _ _ inb fun y => by
    show 8 * h + b ≤ 8 * (h + 1 * (y 0).val) + (64 * b + 1 * (y 1).val) / 64
    omega

/-- One head's keys, in two stores. -/
theorem put_kc (kp : FVec F S512x64 .bf16) (k : Vec F S512x1024 .bf16) (h : ℕ) (hh : h < 8) (old : S8x512x192.Idx → Elt F .bf16) :
    VecWindow.put (s := S8x512x192) (VecWindow.put (s := S8x512x192) (upto hd h (kcNew kp k) old) ![h, 0, 0] S1x512x128.size
        (shapeCast S1x512x128 (shapeCast S512x128 (VecWindow.window k ![0, 128 * h] S512x128.size (inb_c128 hh)) shapeCasts_S512x128_S512x128) shapeCasts_S512x128_S1x512x128))
        ![h, 0, 128] S1x512x64.size (shapeCast S1x512x64 kp shapeCasts_S512x64_S1x512x64)
      = upto hd (h + 1) (kcNew kp k) old := by
  refine put_put_upto (s := S8x512x192) hd h _ old _ _ _ _ _ _ ?_ ?_ ?_ ?_ ?_
  · intro y e
    have h1 : (y 1).val < 512 := (y 1).isLt
    have h2 : (y 2).val < 192 := (y 2).isLt
    unfold hd at e
    by_cases hl : (y 2).val < 128
    · left; intro a; fin_cases a <;> simp [S1x512x128, e] <;> omega
    · right; intro a; fin_cases a <;> simp [S1x512x64, e] <;> omega
  · intro y H
    have h0 := H 0
    simp [S1x512x128] at h0
    unfold hd; omega
  · intro y H
    have h0 := H 0
    simp [S1x512x64] at h0
    unfold hd; omega
  · intro y H
    have h0 := H 0
    have h2 := H 2
    simp [S1x512x128] at h0 h2
    have e0 : h = (y 0).val := by omega
    subst e0
    unfold kcNew
    rw [dif_pos h2]
    refine congrArg (shapeCast S1x512x128 _ _) ?_
    funext a
    refine Fin.ext ?_
    fin_cases a
    · show (y 0).val - (y 0).val = 0
      omega
    · rfl
    · rfl
  · intro y H
    have h0 := H 0
    have h2 := H 2
    simp [S1x512x64] at h0 h2
    unfold kcNew
    rw [dif_neg (by omega)]
    refine congrArg (shapeCast S1x512x64 _ _) ?_
    funext a
    refine Fin.ext ?_
    fin_cases a
    · show (y 0).val - h = 0
      omega
    · rfl
    · rfl

/-- One head's queries, in two stores. -/
theorem put_q (qn : FVec F S512x1024 .bf16) (c s : FVec F S512x64 .f32) (qp qpr : Vec F S512x512 .bf16) (h : ℕ) (hh : h < 8) (old : S512x1536.Idx → Elt F .bf16) :
    VecWindow.put (s := S512x1536) (VecWindow.put (s := S512x1536) (upto qc h (qNew qn c s qp qpr) old) ![0, 192 * h] S512x128.size
        (shapeCast S512x128 (extractStridedSlice S512x128 ![0, 128 * h] qn (slc_qn hh)) shapeCasts_S512x128_S512x128))
        ![0, 192 * h + 128] S512x64.size
        (shapeCast S512x64 (qpP (VecWindow.window qp ![0, 64 * h] S512x64.size (inb_pe hh)) (VecWindow.window qpr ![0, 64 * h] S512x64.size (inb_pe hh)) c s) shapeCasts_S512x64_S512x64)
      = upto qc (h + 1) (qNew qn c s qp qpr) old := by
  refine put_put_upto (s := S512x1536) qc h _ old _ _ _ _ _ _ ?_ ?_ ?_ ?_ ?_
  · intro y e
    have h0 : (y 0).val < 512 := (y 0).isLt
    unfold qc at e
    by_cases hl : (y 1).val % 192 < 128
    · left; intro a; fin_cases a <;> simp [S512x128] <;> omega
    · right; intro a; fin_cases a <;> simp [S512x64] <;> omega
  · intro y H
    have h1 := H 1
    simp [S512x128] at h1
    unfold qc; omega
  · intro y H
    have h1 := H 1
    simp [S512x64] at h1
    unfold qc; omega
  · intro y H
    have h1 := H 1
    simp [S512x128] at h1
    have e0 : h = qc y := by unfold qc; omega
    subst e0
    have hl : (y 1).val % 192 < 128 := by unfold qc at h1; omega
    unfold qNew
    rw [dif_pos hl]
    refine congrArg (shapeCast S512x128 _ _) ?_
    funext a
    refine Fin.ext ?_
    fin_cases a
    · rfl
    · show (y 1).val - 192 * qc y = (y 1).val % 192
      unfold qc; omega
  · intro y H
    have h1 := H 1
    simp [S512x64] at h1
    have e0 : h = qc y := by unfold qc; omega
    subst e0
    have hl : ¬ (y 1).val % 192 < 128 := by unfold qc at h1; omega
    unfold qNew
    rw [dif_neg hl]
    refine congrArg (shapeCast S512x64 _ _) ?_
    funext a
    refine Fin.ext ?_
    fin_cases a
    · rfl
    · show (y 1).val - (192 * qc y + 128) = (y 1).val % 192 - 128
      unfold qc; omega

/-- One head's result. -/
theorem put_out (o l : Vec F S8x512x128 .f32) (z : Vec F S512x1024 .f32) (h : ℕ) (hh : h < 8) (old : S512x1024.Idx → Elt F .bf16) :
    VecWindow.put (s := S512x1024) (upto oc h (outNew o l z) old) ![0, 128 * h] S512x128.size
        (outP (VecWindow.window o ![h, 0, 0] S1x512x128.size (inb_l128 hh)) (VecWindow.window l ![h, 0, 0] S1x512x128.size (inb_l128 hh))
          (VecWindow.window z ![0, 128 * h] S512x128.size (inb_c128 hh)))
      = upto oc (h + 1) (outNew o l z) old := by
  refine put_upto (s := S512x1024) oc h _ old _ _ _ ?_ ?_
  · intro y
    have h0 : (y 0).val < 512 := (y 0).isLt
    unfold oc
    constructor
    · intro H
      have h1 := H 1
      simp [S512x128] at h1
      omega
    · intro e a
      fin_cases a <;> simp [S512x128] <;> omega
  · intro y H
    have h1 := H 1
    simp [S512x128] at h1
    have e0 : h = oc y := by unfold oc; omega
    subst e0
    unfold outNew
    refine congrArg (outP _ _ _) ?_
    funext a
    refine Fin.ext ?_
    fin_cases a
    · rfl
    · show (y 1).val - 128 * oc y = (y 1).val % 128
      unfold oc; omega

/-- One head's scores. -/
theorem put_s (g : FVec F S512x512 .f32 → FVec F S512x512 .f32) (q : Vec F S512x1536 .bf16) (kc : Vec F S8x512x192 .bf16) (h : ℕ) (hh : h < 8)
    (old : S8x512x512.Idx → Elt F .f32) :
    VecWindow.put (s := S8x512x512) (upto hd h (sNew g q kc) old) ![h, 0, 0] S1x512x512.size
        (shapeCast S1x512x512 (g (scP (VecWindow.window q ![0, 192 * h] S512x192.size (inb_q192 hh)) (VecWindow.window kc ![h, 0, 0] S1x512x192.size (inb_kc192 hh))))
          shapeCasts_S512x512_S1x512x512)
      = upto hd (h + 1) (sNew g q kc) old :=
  put_slab h hh (fun h' => (shapeCast S1x512x512 (scOf g q kc h') shapeCasts_S512x512_S1x512x512 : S1x512x512.Idx → Elt F .f32)) old

/-- One head's factors. -/
theorem put_a (g : FVec F S512x512 .f32 → FVec F S512x512 .f32) (q : Vec F S512x1536 .bf16) (kc : Vec F S8x512x192 .bf16) (m : Vec F S8x512x128 .f32)
    (h : ℕ) (hh : h < 8) (old : S8x512x128.Idx → Elt F .f32) :
    VecWindow.put (s := S8x512x128) (upto hd h (aNew g q kc m) old) ![h, 0, 0] S1x512x128.size
        (shapeCast S1x512x128 (alP (g (scP (VecWindow.window q ![0, 192 * h] S512x192.size (inb_q192 hh)) (VecWindow.window kc ![h, 0, 0] S1x512x192.size (inb_kc192 hh))))
          (VecWindow.window m ![h, 0, 0] S1x512x128.size (inb_l128 hh))) shapeCasts_S512x128_S1x512x128)
      = upto hd (h + 1) (aNew g q kc m) old :=
  put_slab h hh (fun h' : Fin 8 => (shapeCast S1x512x128 (alP (scOf g q kc h') (VecWindow.window m ![h'.val, 0, 0] S1x512x128.size (inb_l128 h'.isLt))) shapeCasts_S512x128_S1x512x128
        : S1x512x128.Idx → Elt F .f32)) old

/-- One head's maxima. -/
theorem put_m (g : FVec F S512x512 .f32 → FVec F S512x512 .f32) (q : Vec F S512x1536 .bf16) (kc : Vec F S8x512x192 .bf16) (m : Vec F S8x512x128 .f32)
    (h : ℕ) (hh : h < 8) (old : S8x512x128.Idx → Elt F .f32) :
    VecWindow.put (s := S8x512x128) (upto hd h (mNew g q kc m) old) ![h, 0, 0] S1x512x128.size
        (shapeCast S1x512x128 (mxP (g (scP (VecWindow.window q ![0, 192 * h] S512x192.size (inb_q192 hh)) (VecWindow.window kc ![h, 0, 0] S1x512x192.size (inb_kc192 hh))))
          (VecWindow.window m ![h, 0, 0] S1x512x128.size (inb_l128 hh))) shapeCasts_S512x128_S1x512x128)
      = upto hd (h + 1) (mNew g q kc m) old :=
  put_slab h hh (fun h' : Fin 8 => (shapeCast S1x512x128 (mxP (scOf g q kc h') (VecWindow.window m ![h'.val, 0, 0] S1x512x128.size (inb_l128 h'.isLt))) shapeCasts_S512x128_S1x512x128
        : S1x512x128.Idx → Elt F .f32)) old

/-- One row block's weights. -/
theorem put_p (s : Vec F S8x512x512 .f32) (m : Vec F S8x512x128 .f32) (h : ℕ) (hh : h < 8) (b : ℕ) (hb : b < 8) (old : S8x512x512.Idx → Elt F .bf16) :
    VecWindow.put (s := S8x512x512) (upto rb (8 * h + b) (pNew s m) old) ![h, 64 * b, 0] S1x64x512.size
        (shapeCast S1x64x512 (truncf .bf16 (pP (VecWindow.window s ![h, 64 * b, 0] S1x64x512.size (inb_sb hh hb)) (VecWindow.window m ![h, 64 * b, 0] S1x64x128.size (inb_lb hh hb)))
          bitsLt_bf16_f32) shapeCasts_S64x512_S1x64x512)
      = upto rb (8 * h + b + 1) (pNew s m) old :=
  put_block h hh b hb (fun h' hh' b' hb' => (shapeCast S1x64x512 (truncf .bf16 (pOf s m h' hh' b' hb') bitsLt_bf16_f32) shapeCasts_S64x512_S1x64x512
    : S1x64x512.Idx → Elt F .bf16)) old

/-- One row block's running sums. -/
theorem put_l (s : Vec F S8x512x512 .f32) (m a l : Vec F S8x512x128 .f32) (h : ℕ) (hh : h < 8) (b : ℕ) (hb : b < 8) (old : S8x512x128.Idx → Elt F .f32) :
    VecWindow.put (s := S8x512x128) (upto rb (8 * h + b) (lNew s m a l) old) ![h, 64 * b, 0] S1x64x128.size
        (shapeCast S1x64x128 (lP (pP (VecWindow.window s ![h, 64 * b, 0] S1x64x512.size (inb_sb hh hb)) (VecWindow.window m ![h, 64 * b, 0] S1x64x128.size (inb_lb hh hb)))
          (VecWindow.window a ![h, 64 * b, 0] S1x64x128.size (inb_lb hh hb)) (VecWindow.window l ![h, 64 * b, 0] S1x64x128.size (inb_lb hh hb))) shapeCasts_S64x128_S1x64x128)
      = upto rb (8 * h + b + 1) (lNew s m a l) old :=
  put_block h hh b hb (fun h' hh' b' hb' => (shapeCast S1x64x128 (lP (pOf s m h' hh' b' hb')
        (VecWindow.window a ![h', 64 * b', 0] S1x64x128.size (inb_lb hh' hb')) (VecWindow.window l ![h', 64 * b', 0] S1x64x128.size (inb_lb hh' hb')))
        shapeCasts_S64x128_S1x64x128 : S1x64x128.Idx → Elt F .f32)) old

/-- One head's weighted sums. -/
theorem put_acc (a o : Vec F S8x512x128 .f32) (p : Vec F S8x512x512 .bf16) (v : Vec F S512x1024 .bf16) (h : ℕ) (hh : h < 8) (old : S8x512x128.Idx → Elt F .f32) :
    VecWindow.put (s := S8x512x128) (upto hd h (accNew a o p v) old) ![h, 0, 0] S1x512x128.size
        (shapeCast S1x512x128 (accP (VecWindow.window a ![h, 0, 0] S1x512x128.size (inb_l128 hh)) (VecWindow.window o ![h, 0, 0] S1x512x128.size (inb_l128 hh))
          (VecWindow.window p ![h, 0, 0] S1x512x512.size (inb_s512 hh)) (VecWindow.window v ![0, 128 * h] S512x128.size (inb_c128 hh))) shapeCasts_S512x128_S1x512x128)
      = upto hd (h + 1) (accNew a o p v) old :=
  put_slab h hh (fun h' : Fin 8 => (shapeCast S1x512x128 (accP (VecWindow.window a ![h'.val, 0, 0] S1x512x128.size (inb_l128 h'.isLt))
      (VecWindow.window o ![h'.val, 0, 0] S1x512x128.size (inb_l128 h'.isLt))
      (VecWindow.window p ![h'.val, 0, 0] S1x512x512.size (inb_s512 h'.isLt))
      (VecWindow.window v ![0, 128 * h'.val] S512x128.size (inb_c128 h'.isLt))) shapeCasts_S512x128_S1x512x128
        : S1x512x128.Idx → Elt F .f32)) old

end Cert.KernelIdeal.Mla

end
-- ==== Proof.Mla.Steps.lean ====
module

public import proofs.«01_k».proof.Proof.Mla.Wp
public import proofs.«01_k».proof.Proof.Mla.Closed

@[expose] public section

/-! # Running the programs over the heads

Each program, run from the buffers it reads and writes, leaves the arrays of `Closed.lean`. -/

noncomputable section

namespace Cert.KernelIdeal.Mla

open Idealize.ShloMosaic Idealize.ShloMosaic.TcCoe Cert.KernelIdeal Cert.KernelIdeal.Gen
open Idealize.SL Idealize.SL.RA Idealize.SL.BI
open scoped Idealize.SL.BI
open Idealize.ShloMosaic.Pipeline
open Idealize.SL.BI.BIBase Idealize.SL.BI.Laws Idealize.SL.Sem Idealize.SL.ProofMode

variable {F : FTy → Type} [FloatOps F] [Named F]

local notation "𝕄" => MT nD τ sig Unit (Elt F) ℕ (UR sig nD τ) ℕ

variable (c : Dev nD) {Φ : PUnit.{1} → sProp (MT nD τ sig Unit (Elt F) ℕ (UR sig nD τ) ℕ)}

variable (arg3 : Memref sig .tc .vmem S512x1024 .bf16) (arg4 arg5 : Memref sig .tc .vmem S512x512 .bf16)
  (arg6 arg7 : Memref sig .tc .vmem S512x64 .f32) (arg8 arg9 : Memref sig .tc .vmem S512x1024 .bf16)
  (arg10 : Memref sig .tc .vmem S512x128 .f32) (arg11 arg12 : Memref sig .tc .vmem S512x64 .f32)
  (arg13 : Memref sig .tc .vmem S512x1024 .f32) (arg14 : Memref sig .tc .vmem S512x1024 .bf16) (harg14 : arg14.IsWhole)
  (arg15 : Memref sig .tc .vmem S512x1536 .bf16) (harg15 : arg15.IsWhole)
  (arg16 : Memref sig .tc .vmem S8x512x192 .bf16) (harg16 : arg16.IsWhole)
  (arg17 : Memref sig .tc .vmem S8x512x512 .f32) (arg18 : Memref sig .tc .vmem S8x512x512 .bf16) (harg18 : arg18.IsWhole)
  (arg19 arg20 arg21 arg22 : Memref sig .tc .vmem S8x512x128 .f32)

/-- A whole buffer's window is the buffer's array. -/
theorem window_all {α : Type} {s : Shape} (x : s.Idx → α) (off : Fin s.rank → ℕ) (inb : ∀ a, off a + s.size a ≤ s.size a) :
    VecWindow.window x off s.size inb = x := by
  funext y
  refine congrArg x (funext fun a => Fin.ext ?_)
  show off a + 1 * (y a).val = (y a).val
  have := inb a
  omega

/-- A store of a whole buffer leaves the payload. -/
theorem put_all {α : Type} {s : Shape} (x : s.Idx → α) (off : Fin s.rank → ℕ) (inb : ∀ a, off a + s.size a ≤ s.size a) (w : s.Idx → α) :
    VecWindow.put x off s.size w = w := by
  funext y
  unfold VecWindow.put
  rw [dif_pos fun a => ⟨by have := inb a; omega, by have := inb a; have := (y a).isLt; omega⟩]
  refine congrArg w (funext fun a => Fin.ext ?_)
  show (y a).val - off a = (y a).val
  have := inb a
  omega

theorem initHead_runs (qn : FVec F S512x1024 .bf16) (co si : FVec F S512x64 .f32) (qp qpr : Vec F S512x512 .bf16) (x : S512x1536.Idx → Elt F .bf16)
    (h : ℕ) (hh : h < 8) (k : Pr F) :
    iprop(has c arg4 qp ∗ has c arg5 qpr ∗ has c arg15 (upto qc h (qNew qn co si qp qpr) x))
      ⊢ iprop((iprop(has c arg4 qp ∗ has c arg5 qpr ∗ has c arg15 (upto qc (h + 1) (qNew qn co si qp qpr) x)) -∗ runs c k Φ)
        -∗ runs c (initHead arg4 arg5 arg15 harg15 qn co si h hh k) Φ) := by
  unfold initHead
  iintro ⟨H4, H5, H15⟩ Hk
  iapply (wp_ld c arg4 qp) $$ H4
  iintro H4
  iapply (wp_ld c arg5 qpr) $$ H5
  iintro H5
  iapply (wp_ld c arg15 _) $$ H15
  iintro H15
  iapply (wp_st c arg15 _) $$ H15
  iintro H15
  iapply (wp_ld c arg15 _) $$ H15
  iintro H15
  iapply (wp_st c arg15 _) $$ H15
  iintro H15
  iapply Hk
  isplitl [H4]; · iexact H4
  isplitl [H5]; · iexact H5
  iapply (Entails.of_eq (congrArg (has c arg15) (put_q qn co si qp qpr h hh x))) $$ H15

theorem fill_runs (m : Memref sig .tc .vmem S8x512x128 .f32) (b : BitVec 32) (x : S8x512x128.Idx → Elt F .f32) (k : Pr F) :
    has c m x ⊢ iprop((has c m (filled b) -∗ runs c k Φ) -∗ runs c (fill m b k) Φ) := by
  unfold fill
  iintro H Hk
  iapply (wp_ld c m x) $$ H
  iintro H
  iapply (wp_st c m x) $$ H
  iintro H
  iapply Hk
  iapply (Entails.of_eq (congrArg (has c m) (put_all (s := S8x512x128) x ![0, 0, 0] inb_w8 _))) $$ H

/-- The queries a query tile starts with. -/
def qTile (qn : Vec F S512x1024 .bf16) (qp qpr : Vec F S512x512 .bf16) (co si : Vec F S512x64 .f32) : S512x1536.Idx → Elt F .bf16 :=
  qNew (qnP qn) (cP co) (cP si) qp qpr

theorem initAll_runs (qn : Vec F S512x1024 .bf16) (qp qpr : Vec F S512x512 .bf16) (co si : Vec F S512x64 .f32)
    (q : S512x1536.Idx → Elt F .bf16) (m l acc : S8x512x128.Idx → Elt F .f32) (k : Pr F) :
    iprop(has c arg3 qn ∗ has c arg4 qp ∗ has c arg5 qpr ∗ has c arg6 co ∗ has c arg7 si ∗ has c arg15 q ∗ has c arg20 m ∗ has c arg21 l ∗ has c arg22 acc)
      ⊢ iprop((iprop(has c arg3 qn ∗ has c arg4 qp ∗ has c arg5 qpr ∗ has c arg6 co ∗ has c arg7 si ∗ has c arg15 (qTile qn qp qpr co si)
          ∗ has c arg20 (filled 0xE0AD78EC#32) ∗ has c arg21 (filled 0x00000000#32) ∗ has c arg22 (filled 0x00000000#32)) -∗ runs c k Φ)
        -∗ runs c (initAll arg3 arg4 arg5 arg6 arg7 arg15 harg15 arg20 arg21 arg22 k) Φ) := by
  unfold initAll
  iintro ⟨H3, H4, H5, H6, H7, H15, H20, H21, H22⟩ Hk
  iapply (wp_ld c arg3 qn) $$ H3
  iintro H3
  iapply (wp_ld c arg6 co) $$ H6
  iintro H6
  iapply (wp_ld c arg7 si) $$ H7
  iintro H7
  rw [show VecWindow.window qn ![0, 0] S512x1024.size inb_w1024 = qn from window_all (s := S512x1024) qn _ _,
    show VecWindow.window co ![0, 0] S512x64.size inb_w64 = co from window_all (s := S512x64) co _ _,
    show VecWindow.window si ![0, 0] S512x64.size inb_w64 = si from window_all (s := S512x64) si _ _]
  iapply (wp_all8 c (f := initHead arg4 arg5 arg15 harg15 (qnP qn) (cP co) (cP si))
    (fun h => iprop(has c arg4 qp ∗ has c arg5 qpr ∗ has c arg15 (upto qc h (qNew (qnP qn) (cP co) (cP si) qp qpr) q)))
    (fun h hh k => initHead_runs c arg4 arg5 arg15 harg15 _ _ _ qp qpr q h hh k)) $$ [H4 H5 H15]
  · isplitl [H4]; · iexact H4
    isplitl [H5]; · iexact H5
    iapply (Entails.of_eq (congrArg (has c arg15) (upto_zero qc _ q).symm)) $$ H15
  iintro ⟨H4, H5, H15⟩
  iapply (fill_runs c arg20 _ m _) $$ H20
  iintro H20
  iapply (fill_runs c arg21 _ l _) $$ H21
  iintro H21
  iapply (fill_runs c arg22 _ acc _) $$ H22
  iintro H22
  iapply Hk
  isplitl [H3]; · iexact H3
  isplitl [H4]; · iexact H4
  isplitl [H5]; · iexact H5
  isplitl [H6]; · iexact H6
  isplitl [H7]; · iexact H7
  isplitl [H15]
  · iapply (Entails.of_eq (congrArg (has c arg15) (upto_all qc 8 _ q qc_lt))) $$ H15
  isplitl [H20]; · iexact H20
  isplitl [H21]; · iexact H21
  iexact H22

theorem kcHead_runs (kp : FVec F S512x64 .bf16) (kk : Vec F S512x1024 .bf16) (x : S8x512x192.Idx → Elt F .bf16) (h : ℕ) (hh : h < 8) (k : Pr F) :
    iprop(has c arg8 kk ∗ has c arg16 (upto hd h (kcNew kp kk) x))
      ⊢ iprop((iprop(has c arg8 kk ∗ has c arg16 (upto hd (h + 1) (kcNew kp kk) x)) -∗ runs c k Φ)
        -∗ runs c (kcHead arg8 arg16 harg16 kp h hh k) Φ) := by
  unfold kcHead
  iintro ⟨H8, H16⟩ Hk
  iapply (wp_ld c arg8 kk) $$ H8
  iintro H8
  iapply (wp_ld c arg16 _) $$ H16
  iintro H16
  iapply (wp_st c arg16 _) $$ H16
  iintro H16
  iapply (wp_ld c arg16 _) $$ H16
  iintro H16
  iapply (wp_st c arg16 _) $$ H16
  iintro H16
  iapply Hk
  isplitl [H8]; · iexact H8
  iapply (Entails.of_eq (congrArg (has c arg16) (put_kc kp kk h hh x))) $$ H16

theorem scHead_runs (g : FVec F S512x512 .f32 → FVec F S512x512 .f32) (q : Vec F S512x1536 .bf16) (kc : Vec F S8x512x192 .bf16)
    (s : S8x512x512.Idx → Elt F .f32) (a m : S8x512x128.Idx → Elt F .f32) (h : ℕ) (hh : h < 8) (k : Pr F) :
    iprop(has c arg15 q ∗ has c arg16 kc ∗ has c arg17 (upto hd h (sNew g q kc) s) ∗ has c arg19 (upto hd h (aNew g q kc m) a)
        ∗ has c arg20 (upto hd h (mNew g q kc m) m))
      ⊢ iprop((iprop(has c arg15 q ∗ has c arg16 kc ∗ has c arg17 (upto hd (h + 1) (sNew g q kc) s) ∗ has c arg19 (upto hd (h + 1) (aNew g q kc m) a)
        ∗ has c arg20 (upto hd (h + 1) (mNew g q kc m) m)) -∗ runs c k Φ)
        -∗ runs c (scHead arg15 arg16 arg17 arg19 arg20 g h hh k) Φ) := by
  unfold scHead
  iintro ⟨H15, H16, H17, H19, H20⟩ Hk
  iapply (wp_ld c arg15 q) $$ H15
  iintro H15
  iapply (wp_ld c arg16 kc) $$ H16
  iintro H16
  iapply (wp_ld c arg17 _) $$ H17
  iintro H17
  iapply (wp_st c arg17 _) $$ H17
  iintro H17
  iapply (wp_ld c arg20 _) $$ H20
  iintro H20
  rw [show VecWindow.window (upto hd h (mNew g q kc m) m) ![h, 0, 0] S1x512x128.size (inb_l128 hh) = VecWindow.window m ![h, 0, 0] S1x512x128.size (inb_l128 hh)
    from window_slab h _ m _]
  iapply (wp_ld c arg19 _) $$ H19
  iintro H19
  iapply (wp_st c arg19 _) $$ H19
  iintro H19
  iapply (wp_ld c arg20 _) $$ H20
  iintro H20
  iapply (wp_st c arg20 _) $$ H20
  iintro H20
  iapply Hk
  isplitl [H15]; · iexact H15
  isplitl [H16]; · iexact H16
  isplitl [H17]
  · iapply (Entails.of_eq (congrArg (has c arg17) (put_s g q kc h hh s))) $$ H17
  isplitl [H19]
  · iapply (Entails.of_eq (congrArg (has c arg19) (put_a g q kc m h hh a))) $$ H19
  · iapply (Entails.of_eq (congrArg (has c arg20) (put_m g q kc m h hh m))) $$ H20

theorem smBlock_runs (s : Vec F S8x512x512 .f32) (m a l : Vec F S8x512x128 .f32) (p : S8x512x512.Idx → Elt F .bf16)
    (h : ℕ) (hh : h < 8) (b : ℕ) (hb : b < 8) (k : Pr F) :
    iprop(has c arg17 s ∗ has c arg20 m ∗ has c arg19 a ∗ has c arg18 (upto rb (8 * h + b) (pNew s m) p) ∗ has c arg21 (upto rb (8 * h + b) (lNew s m a l) l))
      ⊢ iprop((iprop(has c arg17 s ∗ has c arg20 m ∗ has c arg19 a ∗ has c arg18 (upto rb (8 * h + b + 1) (pNew s m) p)
          ∗ has c arg21 (upto rb (8 * h + b + 1) (lNew s m a l) l)) -∗ runs c k Φ)
        -∗ runs c (smBlock arg17 arg18 harg18 arg19 arg20 arg21 h hh b hb k) Φ) := by
  unfold smBlock
  iintro ⟨H17, H20, H19, H18, H21⟩ Hk
  iapply (wp_ld c arg17 s) $$ H17
  iintro H17
  iapply (wp_ld c arg20 m) $$ H20
  iintro H20
  iapply (wp_ld c arg18 _) $$ H18
  iintro H18
  iapply (wp_st c arg18 _) $$ H18
  iintro H18
  iapply (wp_ld c arg19 a) $$ H19
  iintro H19
  iapply (wp_ld c arg21 _) $$ H21
  iintro H21
  rw [show VecWindow.window (upto rb (8 * h + b) (lNew s m a l) l) ![h, 64 * b, 0] S1x64x128.size (inb_lb hh hb)
    = VecWindow.window l ![h, 64 * b, 0] S1x64x128.size (inb_lb hh hb) from window_block h b hb _ l _]
  iapply (wp_ld c arg21 _) $$ H21
  iintro H21
  iapply (wp_st c arg21 _) $$ H21
  iintro H21
  iapply Hk
  isplitl [H17]; · iexact H17
  isplitl [H20]; · iexact H20
  isplitl [H19]; · iexact H19
  isplitl [H18]
  · iapply (Entails.of_eq (congrArg (has c arg18) (put_p s m h hh b hb p))) $$ H18
  · iapply (Entails.of_eq (congrArg (has c arg21) (put_l s m a l h hh b hb l))) $$ H21

theorem accHead_runs (a o : Vec F S8x512x128 .f32) (p : Vec F S8x512x512 .bf16) (v : Vec F S512x1024 .bf16) (h : ℕ) (hh : h < 8) (k : Pr F) :
    iprop(has c arg19 a ∗ has c arg18 p ∗ has c arg9 v ∗ has c arg22 (upto hd h (accNew a o p v) o))
      ⊢ iprop((iprop(has c arg19 a ∗ has c arg18 p ∗ has c arg9 v ∗ has c arg22 (upto hd (h + 1) (accNew a o p v) o)) -∗ runs c k Φ)
        -∗ runs c (accHead arg9 arg18 arg19 arg22 h hh k) Φ) := by
  unfold accHead
  iintro ⟨H19, H18, H9, H22⟩ Hk
  iapply (wp_ld c arg19 a) $$ H19
  iintro H19
  iapply (wp_ld c arg22 _) $$ H22
  iintro H22
  rw [show VecWindow.window (upto hd h (accNew a o p v) o) ![h, 0, 0] S1x512x128.size (inb_l128 hh) = VecWindow.window o ![h, 0, 0] S1x512x128.size (inb_l128 hh)
    from window_slab h _ o _]
  iapply (wp_ld c arg18 p) $$ H18
  iintro H18
  iapply (wp_ld c arg9 v) $$ H9
  iintro H9
  iapply (wp_ld c arg22 _) $$ H22
  iintro H22
  iapply (wp_st c arg22 _) $$ H22
  iintro H22
  iapply Hk
  isplitl [H19]; · iexact H19
  isplitl [H18]; · iexact H18
  isplitl [H9]; · iexact H9
  iapply (Entails.of_eq (congrArg (has c arg22) (put_acc a o p v h hh o))) $$ H22

theorem outHead_runs (o l : Vec F S8x512x128 .f32) (z : Vec F S512x1024 .f32) (x : S512x1024.Idx → Elt F .bf16) (h : ℕ) (hh : h < 8) (k : Pr F) :
    iprop(has c arg22 o ∗ has c arg21 l ∗ has c arg13 z ∗ has c arg14 (upto oc h (outNew o l z) x))
      ⊢ iprop((iprop(has c arg22 o ∗ has c arg21 l ∗ has c arg13 z ∗ has c arg14 (upto oc (h + 1) (outNew o l z) x)) -∗ runs c k Φ)
        -∗ runs c (outHead arg13 arg14 harg14 arg21 arg22 h hh k) Φ) := by
  unfold outHead
  iintro ⟨H22, H21, H13, H14⟩ Hk
  iapply (wp_ld c arg22 o) $$ H22
  iintro H22
  iapply (wp_ld c arg21 l) $$ H21
  iintro H21
  iapply (wp_ld c arg13 z) $$ H13
  iintro H13
  iapply (wp_ld c arg14 _) $$ H14
  iintro H14
  iapply (wp_st c arg14 _) $$ H14
  iintro H14
  iapply Hk
  isplitl [H22]; · iexact H22
  isplitl [H21]; · iexact H21
  isplitl [H13]; · iexact H13
  iapply (Entails.of_eq (congrArg (has c arg14) (put_out o l z h hh x))) $$ H14

/-- The eight heads' row blocks. -/
theorem smAll_runs (s : Vec F S8x512x512 .f32) (m a l : Vec F S8x512x128 .f32) (p : S8x512x512.Idx → Elt F .bf16) (k : Pr F) :
    iprop(has c arg17 s ∗ has c arg20 m ∗ has c arg19 a ∗ has c arg18 p ∗ has c arg21 l)
      ⊢ iprop((iprop(has c arg17 s ∗ has c arg20 m ∗ has c arg19 a ∗ has c arg18 (pNew s m) ∗ has c arg21 (lNew s m a l)) -∗ runs c k Φ)
        -∗ runs c (all8 (fun h hh => all8 (smBlock arg17 arg18 harg18 arg19 arg20 arg21 h hh)) k) Φ) := by
  iintro ⟨H17, H20, H19, H18, H21⟩ Hk
  iapply (wp_all8 c (f := fun h hh => all8 (smBlock arg17 arg18 harg18 arg19 arg20 arg21 h hh))
    (fun h => iprop(has c arg17 s ∗ has c arg20 m ∗ has c arg19 a ∗ has c arg18 (upto rb (8 * h) (pNew s m) p) ∗ has c arg21 (upto rb (8 * h) (lNew s m a l) l)))
    (fun h hh k => wp_all8 c (f := smBlock arg17 arg18 harg18 arg19 arg20 arg21 h hh)
      (fun b => iprop(has c arg17 s ∗ has c arg20 m ∗ has c arg19 a ∗ has c arg18 (upto rb (8 * h + b) (pNew s m) p) ∗ has c arg21 (upto rb (8 * h + b) (lNew s m a l) l)))
      (fun b hb k => smBlock_runs c arg17 arg18 harg18 arg19 arg20 arg21 s m a l p h hh b hb k))) $$ [H17 H20 H19 H18 H21]
  · isplitl [H17]; · iexact H17
    isplitl [H20]; · iexact H20
    isplitl [H19]; · iexact H19
    isplitl [H18]
    · iapply (Entails.of_eq (congrArg (has c arg18) (upto_zero rb _ p).symm)) $$ H18
    · iapply (Entails.of_eq (congrArg (has c arg21) (upto_zero rb _ l).symm)) $$ H21
  iintro ⟨H17, H20, H19, H18, H21⟩
  iapply Hk
  isplitl [H17]; · iexact H17
  isplitl [H20]; · iexact H20
  isplitl [H19]; · iexact H19
  isplitl [H18]
  · iapply (Entails.of_eq (congrArg (has c arg18) (upto_all rb 64 _ p rb_lt))) $$ H18
  · iapply (Entails.of_eq (congrArg (has c arg21) (upto_all rb 64 _ l rb_lt))) $$ H21

/-- The keys of a key tile, stored. -/
def kcTile (kk : Vec F S512x1024 .bf16) (kpe : Vec F S512x128 .f32) (co si : Vec F S512x64 .f32) : S8x512x192.Idx → Elt F .bf16 :=
  kcNew (kpP kpe co si) kk

/-- The maxima after a key tile whose stored keys are `kc`. -/
abbrev mTile (g : FVec F S512x512 .f32 → FVec F S512x512 .f32) (q : Vec F S512x1536 .bf16) (kc : Vec F S8x512x192 .bf16) (m : Vec F S8x512x128 .f32) :
    S8x512x128.Idx → Elt F .f32 := mNew g q kc m
/-- The running sums after a key tile. -/
def lTile (g : FVec F S512x512 .f32 → FVec F S512x512 .f32) (q : Vec F S512x1536 .bf16) (kc : Vec F S8x512x192 .bf16) (m l : Vec F S8x512x128 .f32) :
    S8x512x128.Idx → Elt F .f32 := lNew (sNew g q kc) (mNew g q kc m) (aNew g q kc m) l
/-- The weighted sums after a key tile. -/
def accTile (g : FVec F S512x512 .f32 → FVec F S512x512 .f32) (q : Vec F S512x1536 .bf16) (kc : Vec F S8x512x192 .bf16) (v : Vec F S512x1024 .bf16) (m o : Vec F S8x512x128 .f32) :
    S8x512x128.Idx → Elt F .f32 := accNew (aNew g q kc m) o (pNew (sNew g q kc) (mNew g q kc m)) v

theorem step_runs (g : FVec F S512x512 .f32 → FVec F S512x512 .f32) (kk v : Vec F S512x1024 .bf16) (kpe : Vec F S512x128 .f32) (co si : Vec F S512x64 .f32)
    (q : Vec F S512x1536 .bf16) (kc : S8x512x192.Idx → Elt F .bf16) (s : S8x512x512.Idx → Elt F .f32) (p : S8x512x512.Idx → Elt F .bf16)
    (a m l acc : S8x512x128.Idx → Elt F .f32) (k : Pr F) :
    iprop(has c arg8 kk ∗ has c arg9 v ∗ has c arg10 kpe ∗ has c arg11 co ∗ has c arg12 si ∗ has c arg15 q ∗ has c arg16 kc ∗ has c arg17 s ∗ has c arg18 p
        ∗ has c arg19 a ∗ has c arg20 m ∗ has c arg21 l ∗ has c arg22 acc)
      ⊢ iprop((∀ kc' s' p' a', iprop(has c arg8 kk ∗ has c arg9 v ∗ has c arg10 kpe ∗ has c arg11 co ∗ has c arg12 si ∗ has c arg15 q ∗ has c arg16 kc'
          ∗ has c arg17 s' ∗ has c arg18 p' ∗ has c arg19 a' ∗ has c arg20 (mTile g q (kcTile kk kpe co si) m)
          ∗ has c arg21 (lTile g q (kcTile kk kpe co si) m l) ∗ has c arg22 (accTile g q (kcTile kk kpe co si) v m acc)) -∗ runs c k Φ)
        -∗ runs c (step arg8 arg9 arg10 arg11 arg12 arg15 arg16 harg16 arg17 arg18 harg18 arg19 arg20 arg21 arg22 g k) Φ) := by
  unfold step
  iintro ⟨H8, H9, H10, H11, H12, H15, H16, H17, H18, H19, H20, H21, H22⟩ Hk
  iapply (wp_ld c arg10 kpe) $$ H10
  iintro H10
  iapply (wp_ld c arg11 co) $$ H11
  iintro H11
  iapply (wp_ld c arg12 si) $$ H12
  iintro H12
  rw [show VecWindow.window kpe ![0, 0] S512x128.size inb_w128 = kpe from window_all (s := S512x128) kpe _ _,
    show VecWindow.window co ![0, 0] S512x64.size inb_w64 = co from window_all (s := S512x64) co _ _,
    show VecWindow.window si ![0, 0] S512x64.size inb_w64 = si from window_all (s := S512x64) si _ _]
  iapply (wp_all8 c (f := kcHead arg8 arg16 harg16 (kpP kpe co si))
    (fun h => iprop(has c arg8 kk ∗ has c arg16 (upto hd h (kcTile kk kpe co si) kc)))
    (fun h hh k => kcHead_runs c arg8 arg16 harg16 _ kk kc h hh k)) $$ [H8 H16]
  · isplitl [H8]; · iexact H8
    iapply (Entails.of_eq (congrArg (has c arg16) (upto_zero hd _ kc).symm)) $$ H16
  rw [show upto hd 8 (kcTile kk kpe co si) kc = kcTile kk kpe co si from upto_all hd 8 _ kc hd_lt]
  iintro ⟨H8, H16⟩
  iapply (wp_all8 c (f := scHead arg15 arg16 arg17 arg19 arg20 g)
    (fun h => iprop(has c arg15 q ∗ has c arg16 (kcTile kk kpe co si) ∗ has c arg17 (upto hd h (sNew g q (kcTile kk kpe co si)) s)
      ∗ has c arg19 (upto hd h (aNew g q (kcTile kk kpe co si) m) a) ∗ has c arg20 (upto hd h (mNew g q (kcTile kk kpe co si) m) m)))
    (fun h hh k => scHead_runs c arg15 arg16 arg17 arg19 arg20 g q _ s a m h hh k)) $$ [H15 H16 H17 H19 H20]
  · isplitl [H15]; · iexact H15
    isplitl [H16]; · iexact H16
    isplitl [H17]; · iapply (Entails.of_eq (congrArg (has c arg17) (upto_zero hd _ s).symm)) $$ H17
    isplitl [H19]; · iapply (Entails.of_eq (congrArg (has c arg19) (upto_zero hd _ a).symm)) $$ H19
    iapply (Entails.of_eq (congrArg (has c arg20) (upto_zero hd _ m).symm)) $$ H20
  rw [show upto hd 8 (sNew g q (kcTile kk kpe co si)) s = sNew g q (kcTile kk kpe co si) from upto_all hd 8 _ s hd_lt,
    show upto hd 8 (aNew g q (kcTile kk kpe co si) m) a = aNew g q (kcTile kk kpe co si) m from upto_all hd 8 _ a hd_lt,
    show upto hd 8 (mNew g q (kcTile kk kpe co si) m) m = mNew g q (kcTile kk kpe co si) m from upto_all hd 8 _ m hd_lt]
  iintro ⟨H15, H16, H17, H19, H20⟩
  iapply (smAll_runs c arg17 arg18 harg18 arg19 arg20 arg21 _ _ _ l p _) $$ [H17 H20 H19 H18 H21]
  · isplitl [H17]; · iexact H17
    isplitl [H20]; · iexact H20
    isplitl [H19]; · iexact H19
    isplitl [H18]; · iexact H18
    iexact H21
  iintro ⟨H17, H20, H19, H18, H21⟩
  iapply (wp_all8 c (f := accHead arg9 arg18 arg19 arg22)
    (fun h => iprop(has c arg19 (aNew g q (kcTile kk kpe co si) m) ∗ has c arg18 (pNew (sNew g q (kcTile kk kpe co si)) (mNew g q (kcTile kk kpe co si) m)) ∗ has c arg9 v
      ∗ has c arg22 (upto hd h (accTile g q (kcTile kk kpe co si) v m acc) acc)))
    (fun h hh k => accHead_runs c arg9 arg18 arg19 arg22 _ acc _ v h hh k)) $$ [H19 H18 H9 H22]
  · isplitl [H19]; · iexact H19
    isplitl [H18]; · iexact H18
    isplitl [H9]; · iexact H9
    iapply (Entails.of_eq (congrArg (has c arg22) (upto_zero hd _ acc).symm)) $$ H22
  rw [show upto hd 8 (accTile g q (kcTile kk kpe co si) v m acc) acc = accTile g q (kcTile kk kpe co si) v m acc from upto_all hd 8 _ acc hd_lt]
  iintro ⟨H19, H18, H9, H22⟩
  iapply Hk $$ [H8 H9 H10 H11 H12 H15 H16 H17 H18 H19 H20 H21 H22]
  isplitl [H8]; · iexact H8
  isplitl [H9]; · iexact H9
  isplitl [H10]; · iexact H10
  isplitl [H11]; · iexact H11
  isplitl [H12]; · iexact H12
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The eight heads' results. -/
theorem outAll_runs (o l : Vec F S8x512x128 .f32) (z : Vec F S512x1024 .f32) (x : S512x1024.Idx → Elt F .bf16) (k : Pr F) :
    iprop(has c arg22 o ∗ has c arg21 l ∗ has c arg13 z ∗ has c arg14 x)
      ⊢ iprop((iprop(has c arg22 o ∗ has c arg21 l ∗ has c arg13 z ∗ has c arg14 (outNew o l z)) -∗ runs c k Φ)
        -∗ runs c (all8 (outHead arg13 arg14 harg14 arg21 arg22) k) Φ) := by
  iintro ⟨H22, H21, H13, H14⟩ Hk
  iapply (wp_all8 c (f := outHead arg13 arg14 harg14 arg21 arg22)
    (fun h => iprop(has c arg22 o ∗ has c arg21 l ∗ has c arg13 z ∗ has c arg14 (upto oc h (outNew o l z) x)))
    (fun h hh k => outHead_runs c arg13 arg14 harg14 arg21 arg22 o l z x h hh k)) $$ [H22 H21 H13 H14]
  · isplitl [H22]; · iexact H22
    isplitl [H21]; · iexact H21
    isplitl [H13]; · iexact H13
    iapply (Entails.of_eq (congrArg (has c arg14) (upto_zero oc _ x).symm)) $$ H14
  rw [show upto oc 8 (outNew o l z) x = outNew o l z from upto_all oc 8 _ x oc_lt]
  iintro ⟨H22, H21, H13, H14⟩
  iapply Hk
  isplitl [H22]; · iexact H22
  isplitl [H21]; · iexact H21
  isplitl [H13]; · iexact H13
  iexact H14

end Cert.KernelIdeal.Mla

end
-- ==== Proof.Mla.Body.lean ====
module

public import proofs.«01_k».proof.Proof.Mla.Tables
public import proofs.«01_k».proof.Proof.Mla.Steps

@[expose] public section

/-! # The body at one point

The state carried from point to point is the rotated query tile, the running maximum, the running sum and the
accumulator. At the first key block they are set afresh; every point takes one step of the online softmax; at the
diagonal, where the mask applies, the output block is written. -/

noncomputable section

namespace Cert.KernelIdeal.Mla

open Idealize.ShloMosaic Idealize.ShloMosaic.TcCoe Cert.KernelIdeal Cert.KernelIdeal.Gen
open Idealize.SL Idealize.SL.RA Idealize.SL.BI
open scoped Idealize.SL.BI
open Idealize.ShloMosaic.Pipeline
open Idealize.SL.BI.BIBase Idealize.SL.BI.Laws Idealize.SL.Sem Idealize.SL.ProofMode

variable {F : FTy → Type} [FloatOps F] [Named F]

local notation "𝕄" => MT nD τ sig Unit (Elt F) ℕ (UR sig nD τ) ℕ

/-- The blocks a point reads. -/
structure Ins (F : FTy → Type) [FloatOps F] where
  qn : Vec F S512x1024 .bf16
  qp : Vec F S512x512 .bf16
  qpr : Vec F S512x512 .bf16
  cq : Vec F S512x64 .f32
  sq : Vec F S512x64 .f32
  k : Vec F S512x1024 .bf16
  v : Vec F S512x1024 .bf16
  kpe : Vec F S512x128 .f32
  ck : Vec F S512x64 .f32
  sk : Vec F S512x64 .f32
  z : Vec F S512x1024 .f32

/-- What is carried from point to point. -/
structure St (F : FTy → Type) [FloatOps F] where
  q : Vec F S512x1536 .bf16
  m : Vec F S8x512x128 .f32
  l : Vec F S8x512x128 .f32
  acc : Vec F S8x512x128 .f32

/-- The state set afresh. -/
def fresh (I : Ins F) : St F := ⟨qTile I.qn I.qp I.qpr I.cq I.sq, filled 0xE0AD78EC#32, filled 0x00000000#32, filled 0x00000000#32⟩

/-- The state a point starts from. -/
def entry (t : Fin 136) (I : Ins F) (st : St F) : St F := if ki t = 0 then fresh I else st

/-- What is done to the scores: masked on the diagonal. -/
def maskAt (t : Fin 136) : FVec F S512x512 .f32 → FVec F S512x512 .f32 := if ki t = qi t then maskP else fun s => s

/-- One step of the online softmax. -/
def advance (g : FVec F S512x512 .f32 → FVec F S512x512 .f32) (I : Ins F) (st : St F) : St F :=
  ⟨st.q, mTile g st.q (kcTile I.k I.kpe I.ck I.sk) st.m, lTile g st.q (kcTile I.k I.kpe I.ck I.sk) st.m st.l,
    accTile g st.q (kcTile I.k I.kpe I.ck I.sk) I.v st.m st.acc⟩

/-- The state after a point. -/
def next (t : Fin 136) (I : Ins F) (st : St F) : St F := advance (maskAt t) I (entry t I st)

variable (c : Dev nD) {Φ : PUnit.{1} → sProp (MT nD τ sig Unit (Elt F) ℕ (UR sig nD τ) ℕ)}

/-- The two tables as the body holds them. -/
abbrev tabs : sProp 𝕄 :=
  iprop((((c : Thread nD τ).loc main_c) ↦{fullShare.right} (pf (F := F) 0)) ∗ (((c : Thread nD τ).loc main_c_0) ↦{fullShare.right} (pf (F := F) 1)))

theorem table0_runs (i : grid0.Coords) (k : BitVec 32 → Pr F) :
    (((c : Thread nD τ).loc main_c) ↦{fullShare.right} (pf (F := F) 0))
      ⊢ iprop(((((c : Thread nD τ).loc main_c) ↦{fullShare.right} (pf (F := F) 0)) -∗ runs c (k (lit0 (pt i))) Φ)
        -∗ runs c ((smemLoad (Λ := Λ₀) (Val := Elt F) (Memref.whole main_c) (Rect.unit (s := S136) (k0_off1 i) S1.size (k0_off1_inb i)) numel1_S1 rfl).bind k) Φ) := by
  rw [← at0 (F := F) i]
  exact wp_smemLoadElt (defs := defs₀ (F := F)) Idealize.ShloMosaic.Variants.none (c : Thread nD τ) none Set.univ (Q := Φ)
    (m := Memref.whole main_c) (r := Rect.unit (s := S136) (k0_off1 i) S1.size (k0_off1_inb i)) (hw := View.loads_smem_one rfl numel1_S1)
    (x := Shape.Idx.first (numel1_S1.symm ▸ Nat.one_pos)) (k := k) (S := Finset.univ) (q := fullShare.right) (f := pf (F := F) 0) (Finset.subset_univ _)

theorem table1_runs (i : grid0.Coords) (k : BitVec 32 → Pr F) :
    (((c : Thread nD τ).loc main_c_0) ↦{fullShare.right} (pf (F := F) 1))
      ⊢ iprop(((((c : Thread nD τ).loc main_c_0) ↦{fullShare.right} (pf (F := F) 1)) -∗ runs c (k (lit1 (pt i))) Φ)
        -∗ runs c ((smemLoad (Λ := Λ₀) (Val := Elt F) (Memref.whole main_c_0) (Rect.unit (s := S136) (k0_off1 i) S1.size (k0_off1_inb i)) numel1_S1 rfl).bind k) Φ) := by
  rw [← at1 (F := F) i]
  exact wp_smemLoadElt (defs := defs₀ (F := F)) Idealize.ShloMosaic.Variants.none (c : Thread nD τ) none Set.univ (Q := Φ)
    (m := Memref.whole main_c_0) (r := Rect.unit (s := S136) (k0_off1 i) S1.size (k0_off1_inb i)) (hw := View.loads_smem_one rfl numel1_S1)
    (x := Shape.Idx.first (numel1_S1.symm ▸ Nat.one_pos)) (k := k) (S := Finset.univ) (q := fullShare.right) (f := pf (F := F) 1) (Finset.subset_univ _)

section
variable (arg3 : Memref sig .tc .vmem S512x1024 .bf16) (harg3 : arg3.IsWhole) (arg4 : Memref sig .tc .vmem S512x512 .bf16) (harg4 : arg4.IsWhole)
  (arg5 : Memref sig .tc .vmem S512x512 .bf16) (harg5 : arg5.IsWhole) (arg6 : Memref sig .tc .vmem S512x64 .f32) (harg6 : arg6.IsWhole)
  (arg7 : Memref sig .tc .vmem S512x64 .f32) (harg7 : arg7.IsWhole) (arg8 : Memref sig .tc .vmem S512x1024 .bf16) (harg8 : arg8.IsWhole)
  (arg9 : Memref sig .tc .vmem S512x1024 .bf16) (harg9 : arg9.IsWhole) (arg10 : Memref sig .tc .vmem S512x128 .f32) (harg10 : arg10.IsWhole)
  (arg11 : Memref sig .tc .vmem S512x64 .f32) (harg11 : arg11.IsWhole) (arg12 : Memref sig .tc .vmem S512x64 .f32) (harg12 : arg12.IsWhole)
  (arg13 : Memref sig .tc .vmem S512x1024 .f32) (harg13 : arg13.IsWhole) (arg14 : Memref sig .tc .vmem S512x1024 .bf16) (harg14 : arg14.IsWhole)
  (arg15 : Memref sig .tc .vmem S512x1536 .bf16) (harg15 : arg15.IsWhole) (arg16 : Memref sig .tc .vmem S8x512x192 .bf16) (harg16 : arg16.IsWhole)
  (arg17 : Memref sig .tc .vmem S8x512x512 .f32) (harg17 : arg17.IsWhole) (arg18 : Memref sig .tc .vmem S8x512x512 .bf16) (harg18 : arg18.IsWhole)
  (arg19 : Memref sig .tc .vmem S8x512x128 .f32) (harg19 : arg19.IsWhole) (arg20 : Memref sig .tc .vmem S8x512x128 .f32) (harg20 : arg20.IsWhole)
  (arg21 : Memref sig .tc .vmem S8x512x128 .f32) (harg21 : arg21.IsWhole) (arg22 : Memref sig .tc .vmem S8x512x128 .f32) (harg22 : arg22.IsWhole)

/-- The input buffers at a point's blocks. -/
abbrev insHeld (I : Ins F) : sProp 𝕄 :=
  iprop(has c arg3 I.qn ∗ has c arg4 I.qp ∗ has c arg5 I.qpr ∗ has c arg6 I.cq ∗ has c arg7 I.sq ∗ has c arg8 I.k ∗ has c arg9 I.v
    ∗ has c arg10 I.kpe ∗ has c arg11 I.ck ∗ has c arg12 I.sk ∗ has c arg13 I.z)

/-- The carried buffers at a state. -/
abbrev stHeld (st : St F) : sProp 𝕄 := iprop(has c arg15 st.q ∗ has c arg20 st.m ∗ has c arg21 st.l ∗ has c arg22 st.acc)

/-- The buffers a point fills before it reads them, at any contents. -/
abbrev tmpHeld : sProp 𝕄 :=
  iprop((∃ x, has (F := F) c arg16 x) ∗ (∃ x, has (F := F) c arg17 x) ∗ (∃ x, has (F := F) c arg18 x) ∗ (∃ x, has (F := F) c arg19 x))

theorem softmax_runs (g : FVec F S512x512 .f32 → FVec F S512x512 .f32) (I : Ins F) (st : St F) (k : Pr F) :
    iprop(insHeld c arg3 arg4 arg5 arg6 arg7 arg8 arg9 arg10 arg11 arg12 arg13 I ∗ stHeld c arg15 arg20 arg21 arg22 st ∗ tmpHeld c arg16 arg17 arg18 arg19)
      ⊢ iprop((iprop(insHeld c arg3 arg4 arg5 arg6 arg7 arg8 arg9 arg10 arg11 arg12 arg13 I ∗ stHeld c arg15 arg20 arg21 arg22 (advance g I st)
          ∗ tmpHeld c arg16 arg17 arg18 arg19) -∗ runs c k Φ)
        -∗ runs c (step arg8 arg9 arg10 arg11 arg12 arg15 arg16 harg16 arg17 arg18 harg18 arg19 arg20 arg21 arg22 g k) Φ) := by
  iintro ⟨⟨H3, H4, H5, H6, H7, H8, H9, H10, H11, H12, H13⟩, ⟨H15, H20, H21, H22⟩, ⟨⟨%x16, H16⟩, ⟨%x17, H17⟩, ⟨%x18, H18⟩, ⟨%x19, H19⟩⟩⟩ Hk
  iapply (step_runs c arg8 arg9 arg10 arg11 arg12 arg15 arg16 harg16 arg17 arg18 harg18 arg19 arg20 arg21 arg22 g I.k I.v I.kpe I.ck I.sk
    st.q x16 x17 x18 x19 st.m st.l st.acc k) $$ [H8 H9 H10 H11 H12 H15 H16 H17 H18 H19 H20 H21 H22]
  · isplitl [H8]; · iexact H8
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %kc' %s' %p' %a' ⟨H8, H9, H10, H11, H12, H15, H16, H17, H18, H19, H20, H21, H22⟩
  iapply Hk
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H15 H20 H21 H22]
  · isplitl [H15]; · iexact H15
    isplitl [H20]; · iexact H20
    isplitl [H21]; · iexact H21
    iexact H22
  isplitl [H16]; · iexists kc'; iexact H16
  isplitl [H17]; · iexists s'; iexact H17
  isplitl [H18]; · iexists p'; iexact H18
  iexists a'; iexact H19

theorem fresh_runs (I : Ins F) (st : St F) (k : Pr F) :
    iprop(insHeld c arg3 arg4 arg5 arg6 arg7 arg8 arg9 arg10 arg11 arg12 arg13 I ∗ stHeld c arg15 arg20 arg21 arg22 st)
      ⊢ iprop((iprop(insHeld c arg3 arg4 arg5 arg6 arg7 arg8 arg9 arg10 arg11 arg12 arg13 I ∗ stHeld c arg15 arg20 arg21 arg22 (fresh I)) -∗ runs c k Φ)
        -∗ runs c (initAll arg3 arg4 arg5 arg6 arg7 arg15 harg15 arg20 arg21 arg22 k) Φ) := by
  iintro ⟨⟨H3, H4, H5, H6, H7, H8, H9, H10, H11, H12, H13⟩, ⟨H15, H20, H21, H22⟩⟩ Hk
  iapply (initAll_runs c arg3 arg4 arg5 arg6 arg7 arg15 harg15 arg20 arg21 arg22 I.qn I.qp I.qpr I.cq I.sq st.q st.m st.l st.acc k)
    $$ [H3 H4 H5 H6 H7 H15 H20 H21 H22]
  · isplitl [H3]; · iexact H3
    isplitl [H4]; · iexact H4
    isplitl [H5]; · iexact H5
    isplitl [H6]; · iexact H6
    isplitl [H7]; · iexact H7
    isplitl [H15]; · iexact H15
    isplitl [H20]; · iexact H20
    isplitl [H21]; · iexact H21
    iexact H22
  iintro ⟨H3, H4, H5, H6, H7, H15, H20, H21, H22⟩
  iapply Hk
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H15]; · iexact H15
  isplitl [H20]; · iexact H20
  isplitl [H21]; · iexact H21
  iexact H22

theorem write_runs (I : Ins F) (st : St F) (x : Vec F S512x1024 .bf16) (k : Pr F) :
    iprop(insHeld c arg3 arg4 arg5 arg6 arg7 arg8 arg9 arg10 arg11 arg12 arg13 I ∗ stHeld c arg15 arg20 arg21 arg22 st ∗ has c arg14 x)
      ⊢ iprop((iprop(insHeld c arg3 arg4 arg5 arg6 arg7 arg8 arg9 arg10 arg11 arg12 arg13 I ∗ stHeld c arg15 arg20 arg21 arg22 st
          ∗ has c arg14 (outNew st.acc st.l I.z)) -∗ runs c k Φ)
        -∗ runs c (all8 (outHead arg13 arg14 harg14 arg21 arg22) k) Φ) := by
  iintro ⟨⟨H3, H4, H5, H6, H7, H8, H9, H10, H11, H12, H13⟩, ⟨H15, H20, H21, H22⟩, H14⟩ Hk
  iapply (outAll_runs c arg13 arg14 harg14 arg21 arg22 st.acc st.l I.z x k) $$ [H22 H21 H13 H14]
  · isplitl [H22]; · iexact H22
    isplitl [H21]; · iexact H21
    isplitl [H13]; · iexact H13
    iexact H14
  iintro ⟨H22, H21, H13, H14⟩
  iapply Hk
  isplitl [H3 H4 H5 H6 H7 H8 H9 H10 H11 H12 H13]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H15 H20 H21 H22]
  · isplitl [H15]; · iexact H15
    isplitl [H20]; · iexact H20
    isplitl [H21]; · iexact H21
    iexact H22
  iexact H14

/-- The output block a point leaves. -/
def outAt (t : Fin 136) (I : Ins F) (st : St F) (x : Vec F S512x1024 .bf16) : Vec F S512x1024 .bf16 :=
  if ki t = qi t then outNew (next t I st).acc (next t I st).l I.z else x

/-- From the state a point starts from: the step, and on the diagonal the output. -/
theorem tail_runs (t : Fin 136) (I : Ins F) (st : St F) (x : Vec F S512x1024 .bf16) (Q : PUnit.{1} → sProp 𝕄) :
    iprop(insHeld c arg3 arg4 arg5 arg6 arg7 arg8 arg9 arg10 arg11 arg12 arg13 I ∗ stHeld c arg15 arg20 arg21 arg22 st ∗ tmpHeld c arg16 arg17 arg18 arg19 ∗ has c arg14 x)
      ⊢ iprop((iprop(insHeld c arg3 arg4 arg5 arg6 arg7 arg8 arg9 arg10 arg11 arg12 arg13 I ∗ stHeld c arg15 arg20 arg21 arg22 (advance (maskAt t) I st)
          ∗ tmpHeld c arg16 arg17 arg18 arg19
          ∗ has c arg14 (if ki t = qi t then outNew (advance (maskAt t) I st).acc (advance (maskAt t) I st).l I.z else x)) -∗ Q ⟨⟩)
        -∗ runs c (if Scalar.cmpi .ne ((Scalar.extui (Scalar.cmpi .slt (lit1 t) (lit0 t)) : BitVec 32)) 0#32 = 1#1
          then step arg8 arg9 arg10 arg11 arg12 arg15 arg16 harg16 arg17 arg18 harg18 arg19 arg20 arg21 arg22 (fun s => s)
            (if k0_cond3 (lit0 t) (lit1 t) = 1#1 then step arg8 arg9 arg10 arg11 arg12 arg15 arg16 harg16 arg17 arg18 harg18 arg19 arg20 arg21 arg22 maskP
              (all8 (outHead arg13 arg14 harg14 arg21 arg22) (.ret ⟨⟩)) else .ret ⟨⟩)
          else (if k0_cond3 (lit0 t) (lit1 t) = 1#1 then step arg8 arg9 arg10 arg11 arg12 arg15 arg16 harg16 arg17 arg18 harg18 arg19 arg20 arg21 arg22 maskP
              (all8 (outHead arg13 arg14 harg14 arg21 arg22) (.ret ⟨⟩)) else .ret ⟨⟩)) Q) := by
  by_cases h : ki t = qi t
  · rw [if_neg (mt (mid_iff t).mp (by omega)), if_pos ((last_iff t).mpr h), if_pos h, show maskAt (F := F) t = maskP from if_pos h]
    iintro ⟨HI, HS, HT, HX⟩ Hk
    iapply (softmax_runs c arg3 arg4 arg5 arg6 arg7 arg8 arg9 arg10 arg11 arg12 arg13 arg15 arg16 harg16 arg17 arg18 harg18 arg19 arg20 arg21 arg22 maskP I st _) $$ [HI HS HT]
    · isplitl [HI]; · iexact HI
      isplitl [HS]; · iexact HS
      iexact HT
    iintro ⟨HI, HS, HT⟩
    iapply (write_runs c arg3 arg4 arg5 arg6 arg7 arg8 arg9 arg10 arg11 arg12 arg13 arg14 harg14 arg15 arg20 arg21 arg22 I (advance maskP I st) x _) $$ [HI HS HX]
    · isplitl [HI]; · iexact HI
      isplitl [HS]; · iexact HS
      iexact HX
    iintro ⟨HI, HS, HX⟩
    simp only [runs, wp_ret]
    imodintro
    iapply Hk
    isplitl [HI]; · iexact HI
    isplitl [HS]; · iexact HS
    isplitl [HT]; · iexact HT
    iexact HX
  · rw [if_pos ((mid_iff t).mpr (by have := ki_le t; omega)), if_neg (mt (last_iff t).mp h), if_neg h, show maskAt (F := F) t = (fun s => s) from if_neg h]
    iintro ⟨HI, HS, HT, HX⟩ Hk
    iapply (softmax_runs c arg3 arg4 arg5 arg6 arg7 arg8 arg9 arg10 arg11 arg12 arg13 arg15 arg16 harg16 arg17 arg18 harg18 arg19 arg20 arg21 arg22 (fun s => s) I st _) $$ [HI HS HT]
    · isplitl [HI]; · iexact HI
      isplitl [HS]; · iexact HS
      iexact HT
    iintro ⟨HI, HS, HT⟩
    simp only [runs, wp_ret]
    imodintro
    iapply Hk
    isplitl [HI]; · iexact HI
    isplitl [HS]; · iexact HS
    isplitl [HT]; · iexact HT
    iexact HX

/-- The body at a point. -/
theorem body_runs (i : grid0.Coords) (I : Ins F) (st : St F) (x : Vec F S512x1024 .bf16) (Q : PUnit.{1} → sProp 𝕄) :
    iprop(tabs (F := F) c ∗ insHeld c arg3 arg4 arg5 arg6 arg7 arg8 arg9 arg10 arg11 arg12 arg13 I ∗ stHeld c arg15 arg20 arg21 arg22 st
        ∗ tmpHeld c arg16 arg17 arg18 arg19 ∗ has c arg14 x)
      ⊢ iprop((iprop(tabs (F := F) c ∗ insHeld c arg3 arg4 arg5 arg6 arg7 arg8 arg9 arg10 arg11 arg12 arg13 I ∗ stHeld c arg15 arg20 arg21 arg22 (next (pt i) I st)
          ∗ tmpHeld c arg16 arg17 arg18 arg19 ∗ has c arg14 (outAt (pt i) I st x)) -∗ Q ⟨⟩)
        -∗ runs c (cc0_mla_attention (F := F) i (Memref.whole main_c) (Memref.isWhole_whole _) (Memref.whole main_c_0) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q) := by
  rw [body_eq]
  unfold body
  iintro ⟨⟨H1, H2⟩, HI, HS, HT, HX⟩ Hk
  iapply (table0_runs c i _) $$ H1
  iintro H1
  iapply (table1_runs c i _) $$ H2
  iintro H2
  dsimp only
  by_cases h : ki (pt i) = 0
  · rw [if_pos ((init_iff (pt i)).mpr h)]
    iapply (fresh_runs c arg3 arg4 arg5 arg6 arg7 arg8 arg9 arg10 arg11 arg12 arg13 arg15 harg15 arg20 arg21 arg22 I st _) $$ [HI HS]
    · isplitl [HI]; · iexact HI
      iexact HS
    iintro ⟨HI, HS⟩
    iapply (tail_runs c arg3 arg4 arg5 arg6 arg7 arg8 arg9 arg10 arg11 arg12 arg13 arg14 harg14 arg15 arg16 harg16 arg17 arg18 harg18 arg19 arg20 arg21 arg22 (pt i) I (fresh I) x Q) $$ [HI HS HT HX]
    · isplitl [HI]; · iexact HI
      isplitl [HS]; · iexact HS
      isplitl [HT]; · iexact HT
      iexact HX
    iintro ⟨HI, HS, HT, HX⟩
    iapply Hk
    isplitl [H1 H2]
    · isplitl [H1]; · iexact H1
      iexact H2
    isplitl [HI]; · iexact HI
    unfold outAt next
    rw [show entry (pt i) I st = fresh I from if_pos h]
    isplitl [HS]; · iexact HS
    isplitl [HT]; · iexact HT
    iexact HX
  · rw [if_neg (mt (init_iff (pt i)).mp h)]
    iapply (tail_runs c arg3 arg4 arg5 arg6 arg7 arg8 arg9 arg10 arg11 arg12 arg13 arg14 harg14 arg15 arg16 harg16 arg17 arg18 harg18 arg19 arg20 arg21 arg22 (pt i) I st x Q) $$ [HI HS HT HX]
    · isplitl [HI]; · iexact HI
      isplitl [HS]; · iexact HS
      isplitl [HT]; · iexact HT
      iexact HX
    iintro ⟨HI, HS, HT, HX⟩
    iapply Hk
    isplitl [H1 H2]
    · isplitl [H1]; · iexact H1
      iexact H2
    isplitl [HI]; · iexact HI
    unfold outAt next
    rw [show entry (pt i) I st = st from if_neg h]
    isplitl [HS]; · iexact HS
    isplitl [HT]; · iexact HT
    iexact HX

end

end Cert.KernelIdeal.Mla

end
-- ==== Proof.Mla.Data.lean ====
module

public import proofs.«01_k».proof.Proof.Mla.Body

@[expose] public section

/-! # What each point finds and leaves

The arrays at the region's entry are those after the host lines; a point reads their blocks; the state after a point
follows from the state before it, and the output block at a diagonal point from the state there. -/

noncomputable section

namespace Cert.KernelIdeal.Mla

open Idealize.ShloMosaic Idealize.ShloMosaic.TcCoe Cert.KernelIdeal Cert.KernelIdeal.Gen
open Idealize.SL Idealize.SL.RA Idealize.SL.BI
open scoped Idealize.SL.BI
open Idealize.ShloMosaic.Pipeline
open Idealize.SL.BI.BIBase Idealize.SL.BI.Laws Idealize.SL.Sem Idealize.SL.ProofMode

variable {F : FTy → Type} [FloatOps F] [Named F]

local notation "𝕄" => MT nD τ sig Unit (Elt F) ℕ (UR sig nD τ) ℕ

/-- The pipeline at the tables. -/
abbrev C (F : FTy → Type) [FloatOps F] [Named F] : Cfg sig Λ₀ := pin (pcfgs (F := F)) adm 0

variable (m : (ℓ : Loc nD τ sig) → Buf (Elt F) ℓ) (c : Dev nD)

/-- The buffers at the region's entry. -/
def V₀ (c : Dev nD) : Valuation τ sig (Elt F) := StableHlo.after hostOps0 (fun b => m (c, b))

/-- A window's array at the region's entry. -/
def arr (w : Fin (C F).W) : Buf (Elt F) (((C F).win w).arr.view.loc (c.tc : Thread nD τ)) := V₀ m c (Proc.devRef .tc (arrRef (C F).spec w))

/-- A window's block at a point. -/
def blkOf (w : Fin (C F).W) (t : Fin (C F).N) : (((C F).win w).xblock ((C F).grid.coords t)).Idx → Elt F ((C F).win w).elt :=
  (((C F).win w).blk t).view.read (Elt F) (arr m c w)

/-- The point as the pipeline counts it. -/
abbrev gp (t : Fin 136) : Fin (C F).N := t.cast N_0.symm

/-- The blocks a point reads. -/
def ins (t : Fin 136) : Ins F where
  qn := blkOf m c (0 : Fin 12) (gp t)
  qp := blkOf m c (1 : Fin 12) (gp t)
  qpr := blkOf m c (2 : Fin 12) (gp t)
  cq := blkOf m c (3 : Fin 12) (gp t)
  sq := blkOf m c (4 : Fin 12) (gp t)
  k := blkOf m c (5 : Fin 12) (gp t)
  v := blkOf m c (6 : Fin 12) (gp t)
  kpe := blkOf m c (7 : Fin 12) (gp t)
  ck := blkOf m c (8 : Fin 12) (gp t)
  sk := blkOf m c (9 : Fin 12) (gp t)
  z := blkOf m c (10 : Fin 12) (gp t)

/-- The state before point `n`. -/
def states : ℕ → St F
  | 0 => fresh (ins m c 0)
  | n + 1 => if h : n < 136 then next ⟨n, h⟩ (ins m c ⟨n, h⟩) (states n) else states n

theorem states_succ (t : Fin 136) : states m c (t.val + 1) = next t (ins m c t) (states m c t.val) := dif_pos t.isLt

/-- The output block at a diagonal point. -/
def outBlk (t : Fin 136) : Vec F S512x1024 .bf16 := outNew (states m c (t.val + 1)).acc (states m c (t.val + 1)).l (ins m c t).z

/-- What the body keeps between points. -/
abbrev inv (n : ℕ) : sProp 𝕄 := iprop(∃ st : St F, ⌜n ≠ 0 → st = states m c n⌝
    ∗ stHeld c (Memref.whole cc0_scratch0) (Memref.whole cc0_scratch5) (Memref.whole cc0_scratch6) (Memref.whole cc0_scratch7) st
    ∗ tmpHeld (F := F) c (Memref.whole cc0_scratch1) (Memref.whole cc0_scratch2) (Memref.whole cc0_scratch3) (Memref.whole cc0_scratch4)
    ∗ (∃ r, prngReg c r) ∗ tabs (F := F) c)

set_option backward.proofsInPublic true in
/-- The data of the region. -/
def dats (p : Fin 1) (c : Dev nD) : Dat τ (Elt F) Unit ℕ (UR sig nD τ) ℕ (pin (pcfgs (F := F)) adm p) c where
  A := arr m c
  after := fun
    | 0 => blkOf m c (0 : Fin 12)
    | 1 => blkOf m c (1 : Fin 12)
    | 2 => blkOf m c (2 : Fin 12)
    | 3 => blkOf m c (3 : Fin 12)
    | 4 => blkOf m c (4 : Fin 12)
    | 5 => blkOf m c (5 : Fin 12)
    | 6 => blkOf m c (6 : Fin 12)
    | 7 => blkOf m c (7 : Fin 12)
    | 8 => blkOf m c (8 : Fin 12)
    | 9 => blkOf m c (9 : Fin 12)
    | 10 => blkOf m c (10 : Fin 12)
    | 11 => fun t => outBlk m c (t.cast N_0)
    | ⟨_ + 12, h⟩ => absurd h (Nat.not_lt.2 (Nat.le_add_left _ _))
  Φ := fun n => inv m c n.val
  q := shareOf (C F).spec
  owed := fun _ => 0

variable (t : Fin (C F).N)

theorem before_in (w : Fin (C F).W) (hw : ((C F).win w).isOut = false) (hlive : ∀ i, (C F).idle w i = false)
    (hkeep : ∀ t, ((C F).win w).cut ((C F).grid.coords t) ((dats m 0 c).after w t) = (dats m 0 c).blockOf w t)
    (hclip : ∀ t t' : Fin (C F).N, ((C F).win w).index t = ((C F).win w).index t' →
      ((C F).win w).clip ((C F).grid.coords t) = ((C F).win w).clip ((C F).grid.coords t')) (d) :
    (dats m 0 c).before w t d = (dats m 0 c).fetched w t d :=
  (dats m 0 c).before_in_eq_fetched w hw hlive hclip hkeep t d

theorem before0 (d) : (dats m 0 c).before (0 : Fin 12) t d = (blkOf m c (0 : Fin 12) t : _) :=
  before_in m c t (0 : Fin 12) rfl (fun _ => rfl) (fun _ => rfl) (fun _ _ _ => rfl) d
theorem before1 (d) : (dats m 0 c).before (1 : Fin 12) t d = (blkOf m c (1 : Fin 12) t : _) :=
  before_in m c t (1 : Fin 12) rfl (fun _ => rfl) (fun _ => rfl) (fun _ _ _ => rfl) d
theorem before2 (d) : (dats m 0 c).before (2 : Fin 12) t d = (blkOf m c (2 : Fin 12) t : _) :=
  before_in m c t (2 : Fin 12) rfl (fun _ => rfl) (fun _ => rfl) (fun _ _ _ => rfl) d
theorem before3 (d) : (dats m 0 c).before (3 : Fin 12) t d = (blkOf m c (3 : Fin 12) t : _) :=
  before_in m c t (3 : Fin 12) rfl (fun _ => rfl) (fun _ => rfl) (fun _ _ _ => rfl) d
theorem before4 (d) : (dats m 0 c).before (4 : Fin 12) t d = (blkOf m c (4 : Fin 12) t : _) :=
  before_in m c t (4 : Fin 12) rfl (fun _ => rfl) (fun _ => rfl) (fun _ _ _ => rfl) d
theorem before5 (d) : (dats m 0 c).before (5 : Fin 12) t d = (blkOf m c (5 : Fin 12) t : _) :=
  before_in m c t (5 : Fin 12) rfl (fun _ => rfl) (fun _ => rfl) (fun _ _ _ => rfl) d
theorem before6 (d) : (dats m 0 c).before (6 : Fin 12) t d = (blkOf m c (6 : Fin 12) t : _) :=
  before_in m c t (6 : Fin 12) rfl (fun _ => rfl) (fun _ => rfl) (fun _ _ _ => rfl) d
theorem before7 (d) : (dats m 0 c).before (7 : Fin 12) t d = (blkOf m c (7 : Fin 12) t : _) :=
  before_in m c t (7 : Fin 12) rfl (fun _ => rfl) (fun _ => rfl) (fun _ _ _ => rfl) d
theorem before8 (d) : (dats m 0 c).before (8 : Fin 12) t d = (blkOf m c (8 : Fin 12) t : _) :=
  before_in m c t (8 : Fin 12) rfl (fun _ => rfl) (fun _ => rfl) (fun _ _ _ => rfl) d
theorem before9 (d) : (dats m 0 c).before (9 : Fin 12) t d = (blkOf m c (9 : Fin 12) t : _) :=
  before_in m c t (9 : Fin 12) rfl (fun _ => rfl) (fun _ => rfl) (fun _ _ _ => rfl) d
theorem before10 (d) : (dats m 0 c).before (10 : Fin 12) t d = (blkOf m c (10 : Fin 12) t : _) :=
  before_in m c t (10 : Fin 12) rfl (fun _ => rfl) (fun _ => rfl) (fun _ _ _ => rfl) d

/-! ## The output window's points -/

theorem index11 : ((C F).win (11 : Fin 12)).index t = ![qi (t.cast N_0), 0] :=
  (tr11 (F := F) (grid0.coords t)).trans (by rw [pt_coords])

theorem row_end : ∀ t : Fin 136, ki t < qi t ↔ ∃ h : t.val + 1 < 136, qi ⟨t.val + 1, h⟩ = qi t := by decide +kernel

theorem flush11 : ((C F).win (11 : Fin 12)).flush t = decide (ki (t.cast N_0) = qi (t.cast N_0)) := by
  have hN : (C F).N = 136 := N_0
  have hr := row_end (t.cast N_0)
  have hle := ki_le (t.cast N_0)
  unfold Window.flush
  by_cases h : ki (t.cast N_0) = qi (t.cast N_0)
  · rw [decide_eq_true h]
    show (true && _) = true
    rw [Bool.true_and, Bool.or_eq_true, decide_eq_true_iff, decide_eq_true_iff]
    by_cases hl : t.val + 1 = (C F).grid.N
    · exact .inl hl
    · have hlt : t.val + 1 < (C F).N := by have := t.isLt; have : (C F).grid.N = (C F).N := rfl; omega
      refine .inr ⟨hlt, fun e => ?_⟩
      rw [index11, index11] at e
      have e0 : qi _ = qi _ := congrFun e 0
      have := hr.mpr ⟨(hN ▸ hlt : t.val + 1 < 136), e0⟩
      omega
  · rw [decide_eq_false h]
    obtain ⟨hlt, e⟩ := hr.mp (by omega)
    show (true && _) = false
    rw [Bool.true_and, Bool.or_eq_false_iff, decide_eq_false_iff_not, decide_eq_false_iff_not]
    refine ⟨fun hl => ?_, fun ⟨h', hne⟩ => hne ?_⟩
    · have : (C F).grid.N = 136 := N_0
      have : (t.cast N_0).val = t.val := rfl
      omega
    · rw [index11, index11]
      exact congrArg (fun v => ![v, 0]) e

theorem idle11 : (C F).idle (11 : Fin 12) ((C F).grid.coords t) = !decide (ki (t.cast N_0) = qi (t.cast N_0)) := by
  have e : (C F).idle (11 : Fin 12) ((C F).grid.coords t)
      = !(k0_cond3 ((pf (F := F)).atD 0 (k0_off1 (grid0.coords t))) ((pf (F := F)).atD 1 (k0_off1 (grid0.coords t))) == 1#1) := rfl
  rw [e, atD0, atD1, pt_coords]
  congr 1
  rw [Bool.eq_iff_iff, beq_iff_eq, decide_eq_true_iff]
  exact last_iff _

end Cert.KernelIdeal.Mla

end
-- ==== Proof.Mla.Run.lean ====
module

public import proofs.«01_k».proof.Proof.Mla.Data
public import Idealize.ShloMosaic.Lib.StableHlo.RunRead

@[expose] public section

/-! # The run

The body meets its obligation at every point, so the program runs, its arguments end as they began and the output array
is what the points wrote. -/

noncomputable section

namespace Cert.KernelIdeal.Mla

open Idealize.ShloMosaic Idealize.ShloMosaic.TcCoe Cert.KernelIdeal Cert.KernelIdeal.Gen
open Idealize.SL Idealize.SL.RA Idealize.SL.BI
open scoped Idealize.SL.BI
open Idealize.ShloMosaic.Pipeline
open Idealize.SL.BI.BIBase Idealize.SL.BI.Laws Idealize.SL.Sem Idealize.SL.ProofMode

variable {F : FTy → Type} [FloatOps F] [Named F]

local notation "𝕄" => MT nD τ sig Unit (Elt F) ℕ (UR sig nD τ) ℕ

variable (m : (ℓ : Loc nD τ sig) → Buf (Elt F) ℓ) (c : Dev nD)

/-- A window's buffer at a point. -/
abbrev stg (t : Fin (C F).N) (w : Fin (C F).W) := ((C F).win w).stage ((C F).slots t w)

/-- The output buffer after a point is as the loop asks: at the block written on the diagonal, untouched elsewhere. -/
theorem leave11 (t : Fin (C F).N) (d) :
    has c (stg (F := F) t (11 : Fin 12)) (outAt (t.cast N_0) (ins m c (t.cast N_0)) (states m c t.val) ((dats m 0 c).before (11 : Fin 12) t d))
      ⊢ ((dats m 0 c).leavesExact (11 : Fin 12) t : sProp 𝕄) := by
  have e1 := idle11 (F := F) t
  have e2 := flush11 (F := F) t
  have e3 := states_succ m c (t.cast N_0)
  by_cases h : ki (t.cast N_0) = qi (t.cast N_0)
  · rw [decide_eq_true h] at e1 e2
    unfold Dat.leavesExact
    rw [e1]
    refine Entails.of_eq (congrArg (has c (stg (F := F) t (11 : Fin 12))) ?_)
    unfold outAt
    rw [if_pos h]
    show _ = outNew (states m c (t.val + 1)).acc (states m c (t.val + 1)).l (ins m c (t.cast N_0)).z
    rw [show states m c (t.val + 1) = _ from e3]
    rfl
  · rw [decide_eq_false h] at e1 e2
    rw [Dat.leavesExact_idle _ _ _ e1 e2]
    unfold outAt
    rw [if_neg h]
    iintro H; iexists d; iexact H

theorem next_irrel (t : Fin 136) (h : t.val = 0) (I : Ins F) (st st' : St F) : next t I st = next t I st' := by
  have e : t = 0 := Fin.ext h
  subst e
  unfold next entry
  rw [if_pos (by decide), if_pos (by decide)]

set_option maxHeartbeats 4000000 in
/-- The body meets its obligation. -/
theorem body_ok : BodyObligation (dats m 0 c) (defs₀ (F := F)) Idealize.ShloMosaic.Variants.none () Set.univ := fun t => by
  rw [bigSep_W0, bigSep_W0]
  show iprop(inv m c t.val ∗ _) ⊢ runs c (cc0_mla_attention (F := F) ((C F).grid.coords t) (Memref.whole main_c) (Memref.isWhole_whole _) (Memref.whole main_c_0) (Memref.isWhole_whole _)
    (stg (F := F) t (0 : Fin 12)) (hstage0_0 (((C F).slots t (0 : Fin 12)).cast nbuf0_0)) (stg (F := F) t (1 : Fin 12)) (hstage0_1 (((C F).slots t (1 : Fin 12)).cast nbuf0_1))
    (stg (F := F) t (2 : Fin 12)) (hstage0_2 (((C F).slots t (2 : Fin 12)).cast nbuf0_2)) (stg (F := F) t (3 : Fin 12)) (hstage0_3 (((C F).slots t (3 : Fin 12)).cast nbuf0_3))
    (stg (F := F) t (4 : Fin 12)) (hstage0_4 (((C F).slots t (4 : Fin 12)).cast nbuf0_4)) (stg (F := F) t (5 : Fin 12)) (hstage0_5 (((C F).slots t (5 : Fin 12)).cast nbuf0_5))
    (stg (F := F) t (6 : Fin 12)) (hstage0_6 (((C F).slots t (6 : Fin 12)).cast nbuf0_6)) (stg (F := F) t (7 : Fin 12)) (hstage0_7 (((C F).slots t (7 : Fin 12)).cast nbuf0_7))
    (stg (F := F) t (8 : Fin 12)) (hstage0_8 (((C F).slots t (8 : Fin 12)).cast nbuf0_8)) (stg (F := F) t (9 : Fin 12)) (hstage0_9 (((C F).slots t (9 : Fin 12)).cast nbuf0_9))
    (stg (F := F) t (10 : Fin 12)) (hstage0_10 (((C F).slots t (10 : Fin 12)).cast nbuf0_10)) (stg (F := F) t (11 : Fin 12)) (hstage0_11 (((C F).slots t (11 : Fin 12)).cast nbuf0_11))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)) _
  have hpt : pt ((C F).grid.coords t) = t.cast N_0 := pt_coords t
  iintro ⟨⟨%st, %hst, HS, HT, Hp, Htab⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs c (stg (F := F) t (0 : Fin 12)) (hstage0_0 (((C F).slots t (0 : Fin 12)).cast nbuf0_0)) (stg (F := F) t (1 : Fin 12)) (hstage0_1 (((C F).slots t (1 : Fin 12)).cast nbuf0_1))
    (stg (F := F) t (2 : Fin 12)) (hstage0_2 (((C F).slots t (2 : Fin 12)).cast nbuf0_2)) (stg (F := F) t (3 : Fin 12)) (hstage0_3 (((C F).slots t (3 : Fin 12)).cast nbuf0_3))
    (stg (F := F) t (4 : Fin 12)) (hstage0_4 (((C F).slots t (4 : Fin 12)).cast nbuf0_4)) (stg (F := F) t (5 : Fin 12)) (hstage0_5 (((C F).slots t (5 : Fin 12)).cast nbuf0_5))
    (stg (F := F) t (6 : Fin 12)) (hstage0_6 (((C F).slots t (6 : Fin 12)).cast nbuf0_6)) (stg (F := F) t (7 : Fin 12)) (hstage0_7 (((C F).slots t (7 : Fin 12)).cast nbuf0_7))
    (stg (F := F) t (8 : Fin 12)) (hstage0_8 (((C F).slots t (8 : Fin 12)).cast nbuf0_8)) (stg (F := F) t (9 : Fin 12)) (hstage0_9 (((C F).slots t (9 : Fin 12)).cast nbuf0_9))
    (stg (F := F) t (10 : Fin 12)) (hstage0_10 (((C F).slots t (10 : Fin 12)).cast nbuf0_10)) (stg (F := F) t (11 : Fin 12)) (hstage0_11 (((C F).slots t (11 : Fin 12)).cast nbuf0_11))
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _)
    ((C F).grid.coords t) (ins m c (t.cast N_0)) st ((dats m 0 c).before (11 : Fin 12) t d11) _) $$ [HS HT Htab H0 H1 H2 H3 H4 H5 H6 H7 H8 H9 H10 H11]
  · isplitl [Htab]; · iexact Htab
    isplitl [H0 H1 H2 H3 H4 H5 H6 H7 H8 H9 H10]
    · isplitl [H0]; · iapply (Entails.of_eq (congrArg (has c (stg (F := F) t (0 : Fin 12))) (before0 m c t d0))); iexact H0
      isplitl [H1]; · iapply (Entails.of_eq (congrArg (has c (stg (F := F) t (1 : Fin 12))) (before1 m c t d1))); iexact H1
      isplitl [H2]; · iapply (Entails.of_eq (congrArg (has c (stg (F := F) t (2 : Fin 12))) (before2 m c t d2))); iexact H2
      isplitl [H3]; · iapply (Entails.of_eq (congrArg (has c (stg (F := F) t (3 : Fin 12))) (before3 m c t d3))); iexact H3
      isplitl [H4]; · iapply (Entails.of_eq (congrArg (has c (stg (F := F) t (4 : Fin 12))) (before4 m c t d4))); iexact H4
      isplitl [H5]; · iapply (Entails.of_eq (congrArg (has c (stg (F := F) t (5 : Fin 12))) (before5 m c t d5))); iexact H5
      isplitl [H6]; · iapply (Entails.of_eq (congrArg (has c (stg (F := F) t (6 : Fin 12))) (before6 m c t d6))); iexact H6
      isplitl [H7]; · iapply (Entails.of_eq (congrArg (has c (stg (F := F) t (7 : Fin 12))) (before7 m c t d7))); iexact H7
      isplitl [H8]; · iapply (Entails.of_eq (congrArg (has c (stg (F := F) t (8 : Fin 12))) (before8 m c t d8))); iexact H8
      isplitl [H9]; · iapply (Entails.of_eq (congrArg (has c (stg (F := F) t (9 : Fin 12))) (before9 m c t d9))); iexact H9
      iapply (Entails.of_eq (congrArg (has c (stg (F := F) t (10 : Fin 12))) (before10 m c t d10))); iexact H10
    isplitl [HS]; · iexact HS
    isplitl [HT]; · iexact HT
    iexact H11
  rw [hpt]
  have hnext : next (t.cast N_0) (ins m c (t.cast N_0)) st = states m c (t.val + 1) := by
    refine Eq.trans ?_ (states_succ m c (t.cast N_0)).symm
    by_cases h0 : t.val = 0
    · exact next_irrel _ h0 _ _ _
    · rw [hst h0]; rfl
  have hout : outAt (t.cast N_0) (ins m c (t.cast N_0)) st ((dats m 0 c).before (11 : Fin 12) t d11)
      = outAt (t.cast N_0) (ins m c (t.cast N_0)) (states m c t.val) ((dats m 0 c).before (11 : Fin 12) t d11) := by
    unfold outAt
    rw [hnext]
    exact congrArg (fun s : St F => if ki (t.cast N_0) = qi (t.cast N_0) then outNew s.acc s.l (ins m c (t.cast N_0)).z else _) (states_succ m c (t.cast N_0))
  rw [hnext, hout]
  iintro ⟨Htab, ⟨H0, H1, H2, H3, H4, H5, H6, H7, H8, H9, H10⟩, HS, HT, H11⟩
  isplitl [HS HT Hp Htab]
  · iapply (Entails.of_eq (show inv m c (t.val + 1) = (dats m 0 c).Φ t.succ from rfl))
    iexists (states m c (t.val + 1))
    isplitr; · ipureintro; exact fun _ => rfl
    isplitl [HS]; · iexact HS
    isplitl [HT]; · iexact HT
    isplitl [Hp]; · iexact Hp
    iexact Htab
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (leave11 m c t d11); iexact H11

/-! ## The region's entry and exit -/

theorem entry_ok : iprop(ΦA (C F).spec c ∗ ΦT pre0 (pf (F := F)) c) ⊢ (inv m c 0 : sProp 𝕄) := by
  show iprop((scopedRest spec0 c ∗ ∃ r, prngReg c r) ∗ prefHeld pre0 c (fun _ => fullShare.right) (pf (F := F))) ⊢ _
  rw [scopedRest0_eq]
  unfold prefHeld
  rw [bigSep_univ_eq_bigSepL [(0 : Fin 2), (1 : Fin 2)] (by decide) (by decide)]
  show iprop((_ ∗ _) ∗ (((c : Thread nD τ).loc main_c) ↦{fullShare.right} (pf (F := F) 0)) ∗ (((c : Thread nD τ).loc main_c_0) ↦{fullShare.right} (pf (F := F) 1))) ⊢ _
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩⟩, Hp⟩, T0, T1⟩
  iexists (⟨f0, f5, f6, f7⟩ : St F)
  isplitr; · ipureintro; exact fun h => absurd rfl h
  isplitl [H0 H5 H6 H7]
  · isplitl [H0]; · iapply (Entails.of_eq (owns_whole (c : Thread nD τ) cc0_scratch0 fullShare f0).symm); iexact H0
    isplitl [H5]; · iapply (Entails.of_eq (owns_whole (c : Thread nD τ) cc0_scratch5 fullShare f5).symm); iexact H5
    isplitl [H6]; · iapply (Entails.of_eq (owns_whole (c : Thread nD τ) cc0_scratch6 fullShare f6).symm); iexact H6
    iapply (Entails.of_eq (owns_whole (c : Thread nD τ) cc0_scratch7 fullShare f7).symm); iexact H7
  isplitl [H1 H2 H3 H4]
  · isplitl [H1]; · iexists f1; iapply (Entails.of_eq (owns_whole (c : Thread nD τ) cc0_scratch1 fullShare f1).symm); iexact H1
    isplitl [H2]; · iexists f2; iapply (Entails.of_eq (owns_whole (c : Thread nD τ) cc0_scratch2 fullShare f2).symm); iexact H2
    isplitl [H3]; · iexists f3; iapply (Entails.of_eq (owns_whole (c : Thread nD τ) cc0_scratch3 fullShare f3).symm); iexact H3
    iexists f4; iapply (Entails.of_eq (owns_whole (c : Thread nD τ) cc0_scratch4 fullShare f4).symm); iexact H4
  isplitl [Hp]; · iexact Hp
  isplitl [T0]; · iexact T0
  iexact T1

theorem exit_ok (n : ℕ) : (inv m c n : sProp 𝕄) ⊢ ΦA (C F).spec c := by
  show _ ⊢ iprop(scopedRest spec0 c ∗ ∃ r, prngReg c r)
  rw [scopedRest0_eq]
  iintro ⟨%st, -, ⟨H0, H5, H6, H7⟩, ⟨⟨%f1, H1⟩, ⟨%f2, H2⟩, ⟨%f3, H3⟩, ⟨%f4, H4⟩⟩, Hp, -⟩
  isplitr [Hp]
  · isplitl [H0]; · iexists st.q; iapply (Entails.of_eq (owns_whole (c : Thread nD τ) cc0_scratch0 fullShare st.q)); iexact H0
    isplitl [H1]; · iexists f1; iapply (Entails.of_eq (owns_whole (c : Thread nD τ) cc0_scratch1 fullShare f1)); iexact H1
    isplitl [H2]; · iexists f2; iapply (Entails.of_eq (owns_whole (c : Thread nD τ) cc0_scratch2 fullShare f2)); iexact H2
    isplitl [H3]; · iexists f3; iapply (Entails.of_eq (owns_whole (c : Thread nD τ) cc0_scratch3 fullShare f3)); iexact H3
    isplitl [H4]; · iexists f4; iapply (Entails.of_eq (owns_whole (c : Thread nD τ) cc0_scratch4 fullShare f4)); iexact H4
    isplitl [H5]; · iexists st.m; iapply (Entails.of_eq (owns_whole (c : Thread nD τ) cc0_scratch5 fullShare st.m)); iexact H5
    isplitl [H6]; · iexists st.l; iapply (Entails.of_eq (owns_whole (c : Thread nD τ) cc0_scratch6 fullShare st.l)); iexact H6
    iexists st.acc; iapply (Entails.of_eq (owns_whole (c : Thread nD τ) cc0_scratch7 fullShare st.acc)); iexact H7
  iexact Hp

theorem tables_ok (k : Fin 2) : V₀ m c (Proc.devRef .tc (pre0.ref k)) = pf (F := F) k := by
  fin_cases k
  · show V₀ m c (Proc.devRef .tc main_c) = _
    unfold V₀
    after_reads_simp
    rfl
  · show V₀ m c (Proc.devRef .tc main_c_0) = _
    unfold V₀
    after_reads_simp
    rfl

theorem arg0_ok : V₀ m c (Proc.devRef .tc main_arg0) = m ((c : Thread nD τ).loc main_arg0) := by unfold V₀; after_reads_simp
theorem arg1_ok : V₀ m c (Proc.devRef .tc main_arg1) = m ((c : Thread nD τ).loc main_arg1) := by unfold V₀; after_reads_simp
theorem arg2_ok : V₀ m c (Proc.devRef .tc main_arg2) = m ((c : Thread nD τ).loc main_arg2) := by unfold V₀; after_reads_simp
theorem arg3_ok : V₀ m c (Proc.devRef .tc main_arg3) = m ((c : Thread nD τ).loc main_arg3) := by unfold V₀; after_reads_simp
theorem arg4_ok : V₀ m c (Proc.devRef .tc main_arg4) = m ((c : Thread nD τ).loc main_arg4) := by unfold V₀; after_reads_simp

theorem not_window (b : Ref sig .tc) (h : ∀ w : Fin 12, (spec0 w).arr.view.ref ≠ b) (w : Fin (C F).W) : ((C F).spec w).arr.view.ref ≠ b := h w

/-- Every thread ends, at no fault, with the arguments as they began and the output array as the points wrote it. -/
theorem run (g : Dev nD → PrngReg) :
    θ_run (defs (F := F)) (onTc (τ := τ) (main (F := F))) ⟨m, fun _ => 0, g⟩ (fun r => (∀ c : Dev nD,
      r.2.mem ((c : Thread nD τ).loc main_v36) = (dats m 0 c).arrAt (11 : Fin 12) (C F).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  have hrest : ∀ (c : Dev nD) (b : Ref sig .tc) (hs : b.isScoped = false) (ha : ∀ w, ((C F).spec w).arr.view.ref ≠ b)
      (r : PUnit × MemSt nD τ sig (Elt F)), FramePost (pin pcfgs adm) (dats m) 0 (afterTail pcfgs adm (dats m) 0 (V₀ m) []) r →
      r.2.mem ((c : Thread nD τ).loc b) = V₀ m c (Proc.devRef .tc b) := fun c b hs ha r h =>
    ((h c).2 b (mem_restRefs_of b hs ha)).trans (by unfold afterTail; exact withArrays_of_ne _ c (V₀ m c) _ b ha)
  refine θ_run_frameP_around_track_shared pcfgs adm (dats m) 0 launch₀0 defs₀ Idealize.ShloMosaic.Variants.none m g main
    (fun c => (body_ok m c).loose) (fun _ _ _ => rfl) (fun _ _ => rfl) (V₀ m) []
    (fun _ h => absurd h List.not_mem_nil) (fun _ h => absurd h List.not_mem_nil) (fun _ h => absurd h List.not_mem_nil)
    ?_ (fun _ _ => rfl) (fun c k => tables_ok m c k) (fun c => entry_ok m c) (fun c => exit_ok m c _) _ ?_
  · exact hmainP_around pcfgs 0 defs₀ Idealize.ShloMosaic.Variants.none m main [hostOps0] [] hostOps0_sub
      (by simp only [List.map, List.Forall, hostOps0]; repeat' constructor) (fun c => main_chain c)
  · rintro r ⟨h, hsem⟩
    refine ⟨fun c => ⟨(h c).1 (11 : Fin 12), (hrest c main_arg0 rfl (not_window main_arg0 (by decide)) r h).trans (arg0_ok m c), (hrest c main_arg1 rfl (not_window main_arg1 (by decide)) r h).trans (arg1_ok m c),
      (hrest c main_arg2 rfl (not_window main_arg2 (by decide)) r h).trans (arg2_ok m c), (hrest c main_arg3 rfl (not_window main_arg3 (by decide)) r h).trans (arg3_ok m c),
      (hrest c main_arg4 rfl (not_window main_arg4 (by decide)) r h).trans (arg4_ok m c)⟩, hsem⟩

end Cert.KernelIdeal.Mla

end
-- ==== Proof.MlaWords.Shape.lean ====
module

public import proofs.«01_k».proof.Proof.MlaWords.Ops

@[expose] public section

set_option maxRecDepth 1000000
set_option maxHeartbeats 0

/-! # The kernel function is the program of `Ops.lean` -/

noncomputable section

namespace Cert.Kernel.Mla

open Idealize.ShloMosaic Idealize.SL.Sem Cert.Kernel Cert.Kernel.Gen

variable {F : FTy → Type} [FloatOps F]

/-- The kernel function, as a program over heads and row blocks. -/
def body (i : grid0.Coords) (arg1 : Memref sig .tc .smem S136 .i32) (harg1 : arg1.IsWhole) (arg2 : Memref sig .tc .smem S136 .i32) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S8x512x192 .bf16) (harg16 : arg16.IsWhole) (arg17 : Memref sig .tc .vmem S8x512x512 .f32) (harg17 : arg17.IsWhole) (arg18 : Memref sig .tc .vmem S8x512x512 .bf16) (harg18 : arg18.IsWhole) (arg19 : Memref sig .tc .vmem S8x512x128 .f32) (harg19 : arg19.IsWhole) (arg20 : Memref sig .tc .vmem S8x512x128 .f32) (harg20 : arg20.IsWhole) (arg21 : Memref sig .tc .vmem S8x512x128 .f32) (harg21 : arg21.IsWhole) (arg22 : Memref sig .tc .vmem S8x512x128 .f32) (harg22 : arg22.IsWhole) : Pr F :=
  (smemLoad (Λ := Λ₀) (Val := Elt F) arg1 (Rect.unit (s := S136) (k0_off1 i) S1.size (k0_off1_inb i)) numel1_S1 rfl).bind fun v1 =>
  (smemLoad (Λ := Λ₀) (Val := Elt F) arg2 (Rect.unit (s := S136) (k0_off1 i) S1.size (k0_off1_inb i)) numel1_S1 rfl).bind fun v3 =>
  let last : Pr F := if k0_cond3 v1 v3 = 1#1 then step arg8 arg9 arg10 arg11 arg12 arg15 arg16 harg16 arg17 arg18 harg18 arg19 arg20 arg21 arg22 maskP (all8 (outHead arg13 arg14 harg14 arg21 arg22) (.ret ⟨⟩)) else .ret ⟨⟩
  let mid : Pr F := if Scalar.cmpi .ne ((Scalar.extui (Scalar.cmpi .slt v3 v1) : BitVec 32)) 0#32 = 1#1 then step arg8 arg9 arg10 arg11 arg12 arg15 arg16 harg16 arg17 arg18 harg18 arg19 arg20 arg21 arg22 (fun s => s) last else last
  if Scalar.cmpi .ne ((Scalar.extui (Scalar.cmpi .eq v3 0#32) : BitVec 32)) 0#32 = 1#1 then initAll arg3 arg4 arg5 arg6 arg7 arg15 harg15 arg20 arg21 arg22 mid else mid

theorem body_eq (i : grid0.Coords) (arg1 : Memref sig .tc .smem S136 .i32) (harg1 : arg1.IsWhole) (arg2 : Memref sig .tc .smem S136 .i32) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x64 .f32) (harg6 : arg6.IsWhole) (arg7 : Memref sig .tc .vmem S512x64 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x128 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S512x1024 .f32) (harg13 : arg13.IsWhole) (arg14 : Memref sig .tc .vmem S512x1024 .bf16) (harg14 : arg14.IsWhole) (arg15 : Memref sig .tc .vmem S512x1536 .bf16) (harg15 : arg15.IsWhole) (arg16 : Memref sig .tc .vmem S8x512x192 .bf16) (harg16 : arg16.IsWhole) (arg17 : Memref sig .tc .vmem S8x512x512 .f32) (harg17 : arg17.IsWhole) (arg18 : Memref sig .tc .vmem S8x512x512 .bf16) (harg18 : arg18.IsWhole) (arg19 : Memref sig .tc .vmem S8x512x128 .f32) (harg19 : arg19.IsWhole) (arg20 : Memref sig .tc .vmem S8x512x128 .f32) (harg20 : arg20.IsWhole) (arg21 : Memref sig .tc .vmem S8x512x128 .f32) (harg21 : arg21.IsWhole) (arg22 : Memref sig .tc .vmem S8x512x128 .f32) (harg22 : arg22.IsWhole) : cc0_mla_attention (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 = body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 := rfl

end Cert.Kernel.Mla

end
-- ==== Proof.Mla.Frames.lean ====
module

public import proofs.«01_k».proof.Defs
public import proofs.«01_k».proof.Proof.Gen.ReferenceIdeal
public import proofs.«01_k».proof.Proof.Gen.ReferenceIdeal.Run
public import proofs.«01_k».proof.Proof.Mla.Run
public import proofs.«01_k».proof.Proof.MlaWords.Run

@[expose] public section

/-! # The frames, and the constants named -/

noncomputable section

namespace Cert.Proof

open Idealize.ShloMosaic Idealize.ShloMosaic.TcCoe Idealize.SL.Sem

theorem frame_words : @Cert.quiescent_Kernel Cert.Kernel.Gen.facts := fun m g _ =>
  (θ_run _ _ _).mono (fun _ h => ⟨fun c => (h.1 c).2, h.2⟩) (Cert.Kernel.Mla.run m g)

theorem frame_ideal : @Cert.quiescent_KernelIdeal Cert.KernelIdeal.Gen.facts := fun m g _ =>
  (θ_run _ _ _).mono (fun _ h => ⟨fun c => (h.1 c).2, h.2⟩) (Cert.KernelIdeal.Mla.run m g)

theorem frame_reference : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

theorem constants_named : Cert.preserves_Kernel_KernelIdeal :=
  ⟨IdealRules.named_const.statement Cert.KernelIdeal.κ "qscale" .f32 0x3DD53B95#32 (((Real.sqrt 192)⁻¹ * (Real.log 2)⁻¹ : ℝ) : EReal) rfl,
    IdealRules.named_const.statement Cert.KernelIdeal.κ "mask" .f32 0xF149F2CA#32 ⊥ rfl⟩

end Cert.Proof

end
-- ==== Proof.Mla.Online.lean ====
module

public import Idealize.ShloMosaic.Lib.Pointwise

@[expose] public section

/-! # The running maximum and the running sums of one row

A row's weights are computed key tile by key tile, each tile against the largest score so far, and the sums are
rescaled when a larger one appears. Here a row is a finite set of keys with real scores, the values are any extended
reals, and what is kept is `M`, the sum `∑ 2^(s j - M)` and the weighted sum `∑ 2^(s j - M) · v j`; the quotient of the
last two does not depend on `M`. -/

noncomputable section

namespace Cert.KernelIdeal.Mla

open Idealize.ShloMosaic

/-- A nonnegative real factor goes into a finite sum of extended reals. -/
theorem coe_mul_sum {ι : Type*} (s : Finset ι) {a : ℝ} (ha : 0 ≤ a) (f : ι → EReal) :
    (a : EReal) * ∑ j ∈ s, f j = ∑ j ∈ s, (a : EReal) * f j := by
  classical
  induction s using Finset.induction_on with
  | empty => simp
  | insert j s hj ih =>
    rw [Finset.sum_insert hj, Finset.sum_insert hj, EReal.left_distrib_of_nonneg_of_ne_top (EReal.coe_nonneg.mpr ha) (EReal.coe_ne_top a), ih]

/-- A finite sum of reals, among the extended reals. -/
theorem coe_sum {ι : Type*} (s : Finset ι) (f : ι → ℝ) : ((∑ j ∈ s, f j : ℝ) : EReal) = ∑ j ∈ s, (f j : EReal) := by
  classical
  induction s using Finset.induction_on with
  | empty => simp
  | insert j s hj ih => rw [Finset.sum_insert hj, Finset.sum_insert hj, EReal.coe_add, ih]

/-- Two to the power `x`. -/
abbrev two (x : ℝ) : ℝ := Real.rpow 2 x

theorem two_pos (x : ℝ) : 0 < two x := Real.rpow_pos_of_pos (by norm_num) x
theorem two_add (x y : ℝ) : two (x + y) = two x * two y := Real.rpow_add (by norm_num) x y

variable {ι : Type*}

/-- The sum of the weights of the keys `J` against `M`. -/
def lsum (J : Finset ι) (s : ι → ℝ) (M : ℝ) : ℝ := ∑ j ∈ J, two (s j - M)
/-- The weighted sum of the values of the keys `J` against `M`. -/
def asum (J : Finset ι) (s : ι → ℝ) (v : ι → EReal) (M : ℝ) : EReal := ∑ j ∈ J, ((two (s j - M) : ℝ) : EReal) * v j

/-- Changing `M` rescales the sum of the weights. -/
theorem lsum_scale (J : Finset ι) (s : ι → ℝ) (M M' : ℝ) : two (M - M') * lsum J s M = lsum J s M' := by
  unfold lsum
  rw [Finset.mul_sum]
  refine Finset.sum_congr rfl fun j _ => ?_
  rw [← two_add]; congr 1; ring

/-- Changing `M` rescales the weighted sum. -/
theorem asum_scale (J : Finset ι) (s : ι → ℝ) (v : ι → EReal) (M M' : ℝ) :
    ((two (M - M') : ℝ) : EReal) * asum J s v M = asum J s v M' := by
  unfold asum
  rw [coe_mul_sum _ (two_pos _).le]
  refine Finset.sum_congr rfl fun j _ => ?_
  rw [← mul_assoc, ← EReal.coe_mul, ← two_add]; congr 3; ring

/-- The quotient of the sums, whatever `M` is: the weights of the whole row are `2^(s j) / ∑ 2^(s i)`. -/
theorem asum_div (J : Finset ι) (hJ : J.Nonempty) (s : ι → ℝ) (v : ι → EReal) (M : ℝ) :
    Ideal.div (asum J s v M) ((lsum J s M : ℝ) : EReal) = ∑ j ∈ J, ((two (s j) / ∑ i ∈ J, two (s i) : ℝ) : EReal) * v j := by
  have hl : 0 < lsum J s M := Finset.sum_pos (fun j _ => two_pos _) hJ
  have h0 : lsum J s 0 = ∑ i ∈ J, two (s i) := by unfold lsum; simp
  have hl0 : 0 < ∑ i ∈ J, two (s i) := Finset.sum_pos (fun j _ => two_pos _) hJ
  rw [Ideal.div_coe hl.ne', mul_comm, asum, coe_mul_sum _ (by positivity)]
  refine Finset.sum_congr rfl fun j _ => ?_
  rw [← mul_assoc, ← EReal.coe_mul]
  congr 2
  have e : lsum J s M = two (-M) * ∑ i ∈ J, two (s i) := by
    rw [← h0, ← lsum_scale J s 0 M]; congr 2; ring
  rw [e, show s j - M = -M + s j by ring, two_add]
  have := two_pos (-M)
  field_simp

/-! ## One key tile more -/

/-- The keys row `R` attends to among the first `n`. -/
def keys (R n : ℕ) : Finset (Fin 8192) := Finset.univ.filter fun k => k.val < n ∧ k.val ≤ R

theorem keys_zero (R : ℕ) : keys R 0 = ∅ := by
  unfold keys; simp

/-- A sum over the keys of one tile more. -/
theorem sum_keys {A : Type*} [AddCommMonoid A] (R i : ℕ) (hi : i < 16) (f : Fin 8192 → A) :
    ∑ k ∈ keys R (512 * (i + 1)), f k
      = ∑ k ∈ keys R (512 * i), f k + ∑ j : Fin 512, if 512 * i + j.val ≤ R then f ⟨512 * i + j.val, by omega⟩ else 0 := by
  let g : Fin 512 ↪ Fin 8192 := ⟨fun j => ⟨512 * i + j.val, by omega⟩, fun a b h => by
    have := congrArg Fin.val h; dsimp at this; exact Fin.ext (by omega)⟩
  have e : keys R (512 * (i + 1)) = keys R (512 * i) ∪ (Finset.univ.filter fun j : Fin 512 => 512 * i + j.val ≤ R).map g := by
    ext k
    simp only [keys, Finset.mem_union, Finset.mem_filter, Finset.mem_univ, true_and, Finset.mem_map]
    constructor
    · rintro ⟨h1, h2⟩
      by_cases h : k.val < 512 * i
      · exact .inl ⟨h, h2⟩
      · exact .inr ⟨⟨k.val - 512 * i, by omega⟩, by dsimp; omega, Fin.ext (by show 512 * i + (k.val - 512 * i) = k.val; omega)⟩
    · rintro (⟨h1, h2⟩ | ⟨j, h1, rfl⟩)
      · exact ⟨by omega, h2⟩
      · exact ⟨by show 512 * i + j.val < _; omega, h1⟩
  rw [e, Finset.sum_union, Finset.sum_map, Finset.sum_filter]
  · rfl
  · rw [Finset.disjoint_left]
    intro k h1 h2
    obtain ⟨j, -, rfl⟩ := Finset.mem_map.mp h2
    have : 512 * i + j.val < 512 * i := (Finset.mem_filter.mp h1).2.1
    omega

/-- A sum over the lanes, four lane tiles added first, is the sum over all keys of the tile. -/
theorem sum_lanes {A : Type*} [AddCommMonoid A] (f : Fin 512 → A) :
    ∑ k : Fin 128, ((f ⟨k.val, by omega⟩ + f ⟨128 + k.val, by omega⟩) + (f ⟨256 + k.val, by omega⟩ + f ⟨384 + k.val, by omega⟩)) = ∑ j : Fin 512, f j := by
  rw [Finset.sum_add_distrib, Finset.sum_add_distrib, Finset.sum_add_distrib]
  have h := Fin.sum_univ_add (a := 256) (b := 256) f
  have h1 := Fin.sum_univ_add (a := 128) (b := 128) (fun i => f (Fin.castAdd 256 i))
  have h2 := Fin.sum_univ_add (a := 128) (b := 128) (fun i => f (Fin.natAdd 256 i))
  rw [h, h1, h2]
  refine congrArg₂ (· + ·) rfl (congrArg₂ (· + ·) rfl (Finset.sum_congr rfl fun k _ => congrArg f (Fin.ext ?_)))
  show 384 + k.val = 256 + (128 + k.val)
  omega

/-- The running maximum stays real. -/
theorem max_real (M : ℝ) (f : Fin 128 → EReal) (hf : ∀ k, f k ≠ ⊤) : ∃ M' : ℝ, max (M : EReal) (Finset.univ.fold max ⊥ f) = (M' : EReal) := by
  refine ⟨EReal.toReal _, (EReal.coe_toReal ?_ ?_).symm⟩
  · refine (max_lt (EReal.coe_lt_top M) ((Finset.fold_max_lt _).mpr ⟨bot_lt_top, fun k _ => lt_top_iff_ne_top.mpr (hf k)⟩)).ne
  · exact (lt_of_lt_of_le (EReal.bot_lt_coe M) (le_max_left _ _)).ne'

/-- A weight: two to the score less the maximum, nothing where the key is masked out. -/
theorem weight (p : Prop) [Decidable p] (x M : ℝ) :
    Ideal.exp2 ((if p then (x : EReal) else ⊥) - (M : EReal)) = ((if p then two (x - M) else 0 : ℝ) : EReal) := by
  split
  · rw [← EReal.coe_sub]; rfl
  · rw [sub_eq_add_neg, EReal.bot_add]; rfl

/-- What is kept of a row whose keys `J` are done. -/
def Kept (J : Finset (Fin 8192)) (s : Fin 8192 → ℝ) (v : Fin 128 → Fin 8192 → EReal) (m l a : Fin 128 → EReal) : Prop :=
  ∃ M : ℝ, ∀ c, m c = (M : EReal) ∧ l c = ((lsum J s M : ℝ) : EReal) ∧ a c = asum J s (v c) M

/-- Before the first key tile. -/
theorem kept_zero (R : ℕ) (s : Fin 8192 → ℝ) (v : Fin 128 → Fin 8192 → EReal) (x : EReal) (hx : ∃ M : ℝ, x = (M : EReal)) (m l a : Fin 128 → EReal)
    (hm : ∀ c, m c = x) (hl : ∀ c, l c = 0) (ha : ∀ c, a c = 0) : Kept (keys R 0) s v m l a := by
  obtain ⟨M, rfl⟩ := hx
  refine ⟨M, fun c => ⟨hm c, ?_, ?_⟩⟩
  · rw [hl, keys_zero]; simp [lsum]
  · rw [ha, keys_zero]; simp [asum]

/-- One key tile more: the tile's scores `σ` are `s` where the key is allowed and `⊥` where it is masked out. -/
theorem kept_step (R i : ℕ) (hi : i < 16) (s : Fin 8192 → ℝ) (v : Fin 128 → Fin 8192 → EReal) (m l a m' l' a' : Fin 128 → EReal) (σ : Fin 512 → EReal)
    (hσ : ∀ j : Fin 512, σ j = if 512 * i + j.val ≤ R then ((s ⟨512 * i + j.val, by omega⟩ : ℝ) : EReal) else ⊥)
    (hm : ∀ c, m' c = max (m c) (Finset.univ.fold max ⊥ fun k : Fin 128 =>
      max (max (σ ⟨k.val, by omega⟩) (σ ⟨128 + k.val, by omega⟩)) (max (σ ⟨256 + k.val, by omega⟩) (σ ⟨384 + k.val, by omega⟩))))
    (hl : ∀ c, l' c = Ideal.exp2 (m c - m' c) * l c + ∑ j : Fin 512, Ideal.exp2 (σ j - m' ⟨j.val % 128, by omega⟩))
    (ha : ∀ c, a' c = Ideal.exp2 (m c - m' c) * a c + ∑ j : Fin 512, Ideal.exp2 (σ j - m' ⟨j.val % 128, by omega⟩) * v c ⟨512 * i + j.val, by omega⟩)
    (h : Kept (keys R (512 * i)) s v m l a) : Kept (keys R (512 * (i + 1))) s v m' l' a' := by
  obtain ⟨M, H⟩ := h
  have hσt : ∀ j, σ j ≠ ⊤ := fun j => by
    rw [hσ]; split
    · exact EReal.coe_ne_top _
    · exact bot_ne_top
  obtain ⟨M', hM'⟩ := max_real M (fun k : Fin 128 =>
      max (max (σ ⟨k.val, by omega⟩) (σ ⟨128 + k.val, by omega⟩)) (max (σ ⟨256 + k.val, by omega⟩) (σ ⟨384 + k.val, by omega⟩)))
    (fun k => (max_lt (max_lt (lt_top_iff_ne_top.mpr (hσt _)) (lt_top_iff_ne_top.mpr (hσt _)))
      (max_lt (lt_top_iff_ne_top.mpr (hσt _)) (lt_top_iff_ne_top.mpr (hσt _)))).ne)
  have hm' : ∀ c, m' c = (M' : EReal) := fun c => by rw [hm, (H c).1, hM']
  have ew : ∀ j : Fin 512, Ideal.exp2 (σ j - m' ⟨j.val % 128, by omega⟩)
      = ((if 512 * i + j.val ≤ R then two (s ⟨512 * i + j.val, by omega⟩ - M') else 0 : ℝ) : EReal) := fun j => by
    rw [hm', hσ, weight]
  have ea : ∀ c, Ideal.exp2 (m c - m' c) = ((two (M - M') : ℝ) : EReal) := fun c => by
    rw [hm', (H c).1, ← EReal.coe_sub]; rfl
  refine ⟨M', fun c => ⟨hm' c, ?_, ?_⟩⟩
  · rw [hl, ea, (H c).2.1, ← EReal.coe_mul, lsum_scale]
    simp only [ew]
    rw [← coe_sum, ← EReal.coe_add]
    unfold lsum
    rw [sum_keys R i hi]
  · rw [ha, ea, (H c).2.2, asum_scale]
    simp only [ew]
    unfold asum
    rw [sum_keys R i hi]
    refine congrArg (_ + ·) (Finset.sum_congr rfl fun j _ => ?_)
    split
    · rfl
    · rw [EReal.coe_zero, zero_mul]

end Cert.KernelIdeal.Mla

end
-- ==== Proof.Mla.Tile.lean ====
module

public import proofs.«01_k».proof.Proof.Mla.Steps
public import Idealize.ShloMosaic.Lib.Pointwise
public import Idealize.ShloMosaic.Lib.WordCmp

@[expose] public section

/-! # The payloads, read at an index over the extended reals -/

noncomputable section

namespace Cert.KernelIdeal.Mla

open Idealize.ShloMosaic Cert.KernelIdeal Cert.KernelIdeal.Gen

/-- The scale of the scores. -/
abbrev qsc : EReal := Named.named (F := Ideal) κ "qscale" (φ := .f32) 0x3DD53B95#32

theorem minus_inf : Ideal.ofBits .f32 0xFF800000#32 = (⊥ : EReal) := by simp [Ideal.ofBits, Ideal.ieee]

theorem floor_real : ∃ M : ℝ, Ideal.ofBits .f32 0xE0AD78EC#32 = (M : EReal) := by
  refine ⟨EReal.toReal (Ideal.ofBits .f32 0xE0AD78EC#32), (EReal.coe_toReal ?_ ?_).symm⟩ <;>
    simp [Ideal.ofBits, Ideal.ieee, -EReal.coe_mul, -EReal.coe_neg]

theorem mask_value : (Named.named (F := Ideal) κ "mask" (φ := .f32) 0xF149F2CA#32 : EReal) = ⊥ :=
  IdealRules.named_const.ideal_named_scalar _ _ _ _ rfl

theorem qsc_real : ∃ x : ℝ, qsc = (x : EReal) := by
  refine ⟨(Real.sqrt 192)⁻¹ * (Real.log 2)⁻¹, ?_⟩
  exact (IdealRules.named_const.ideal_named_scalar _ _ _ _ rfl)

theorem qnP_at (x : Vec Ideal S512x1024 .bf16) (r : Fin 512) (c : Fin 1024) : qnP x (ix2 r c) = x (ix2 r c) * qsc := by
  pointwise [qnP]

theorem cP_at (x : Vec Ideal S512x64 .f32) (r : Fin 512) (c : Fin 64) : cP x (ix2 r c) = x (ix2 r c) * qsc := by
  pointwise [cP]

theorem qpP_at (x y : Vec Ideal S512x64 .bf16) (c s : FVec Ideal S512x64 .f32) (r : Fin 512) (e : Fin 64) :
    qpP x y c s (ix2 r e) = x (ix2 r e) * c (ix2 r e) + y (ix2 r e) * s (ix2 r e) := by
  pointwise [qpP]

theorem kpP_at (x : Vec Ideal S512x128 .f32) (c s : Vec Ideal S512x64 .f32) (r : Fin 512) (e : Fin 64) :
    kpP x c s (ix2 r e) = x (ix2 r ⟨e.val, by omega⟩) * c (ix2 r e) + x (ix2 r ⟨64 + e.val, by omega⟩) * s (ix2 r e) := by
  pointwise [kpP]

theorem scP_at (q : Vec Ideal S512x192 .bf16) (k : Vec Ideal S1x512x192 .bf16) (r j : Fin 512) :
    scP q k (ix2 r j) = ∑ e : Fin 192, q (ix2 r e) * k (ix3 0 j e) := by
  pointwise [scP]

theorem maskP_at (s : FVec Ideal S512x512 .f32) (r j : Fin 512) :
    maskP s (ix2 r j) = if j ≤ r then s (ix2 r j) else ⊥ := by
  rw [← mask_value]
  pointwise [maskP]
  rw [WordCmp.cmpi_sge_ofNat (by omega) (by omega)]
  by_cases h : j ≤ r
  · rw [if_pos h, show decide (j.val ≤ r.val) = true from decide_eq_true h]; rfl
  · rw [if_neg h, show decide (j.val ≤ r.val) = false from decide_eq_false h]; rfl

theorem mxP_at (s : FVec Ideal S512x512 .f32) (m : Vec Ideal S1x512x128 .f32) (r : Fin 512) (l : Fin 128) :
    mxP s m (ix2 r l) = max (m (ix3 0 r l)) (Finset.univ.fold max ⊥ fun k : Fin 128 =>
      max (max (s (ix2 r ⟨k.val, by omega⟩)) (s (ix2 r ⟨128 + k.val, by omega⟩))) (max (s (ix2 r ⟨256 + k.val, by omega⟩)) (s (ix2 r ⟨384 + k.val, by omega⟩)))) := by
  pointwise [mxP]
  rw [minus_inf]

theorem alP_at (s : FVec Ideal S512x512 .f32) (m : Vec Ideal S1x512x128 .f32) (r : Fin 512) (l : Fin 128) :
    alP s m (ix2 r l) = Ideal.exp2 (m (ix3 0 r l) - mxP s m (ix2 r l)) := by
  pointwise [alP]
  rfl

theorem pP_at (s : Vec Ideal S1x64x512 .f32) (m : Vec Ideal S1x64x128 .f32) (r : Fin 64) (j : Fin 512) :
    pP s m (ix2 r j) = Ideal.exp2 (s (ix3 0 r j) - m (ix3 0 r ⟨j.val % 128, by omega⟩)) := by
  pointwise [pP]
  have e : ∀ (a : Fin 128), j.val % 128 = a.val → m (ix3 0 r a) = m (ix3 0 r ⟨j.val % 128, by omega⟩) := fun a h => by
    congr 2; exact Fin.ext h.symm
  refine congrArg (fun x : EReal => Ideal.exp2 (s (ix3 0 r j) - x)) ?_
  split
  · exact e _ (by dsimp only; omega)
  · split
    · exact e _ (by dsimp only; omega)
    · split
      · exact e _ (by dsimp only; omega)
      · exact e _ (by dsimp only; omega)

theorem lP_at (p : FVec Ideal S64x512 .f32) (a l : Vec Ideal S1x64x128 .f32) (r : Fin 64) (c : Fin 128) :
    lP p a l (ix2 r c) = a (ix3 0 r c) * l (ix3 0 r c) + ∑ k : Fin 128,
      ((p (ix2 r ⟨k.val, by omega⟩) + p (ix2 r ⟨128 + k.val, by omega⟩)) + (p (ix2 r ⟨256 + k.val, by omega⟩) + p (ix2 r ⟨384 + k.val, by omega⟩))) := by
  pointwise [lP]

theorem accP_at (a o : Vec Ideal S1x512x128 .f32) (p : Vec Ideal S1x512x512 .bf16) (v : Vec Ideal S512x128 .bf16) (r : Fin 512) (d : Fin 128) :
    accP a o p v (ix2 r d) = a (ix3 0 r d) * o (ix3 0 r d) + ∑ j : Fin 512, p (ix3 0 r j) * v (ix2 j d) := by
  pointwise [accP]

theorem outP_at (o l : Vec Ideal S1x512x128 .f32) (z : Vec Ideal S512x128 .f32) (r : Fin 512) (d : Fin 128) :
    outP o l z (ix2 r d) = Ideal.div (o (ix3 0 r d)) (l (ix3 0 r d)) * (z (ix2 r d) * Ideal.logistic (z (ix2 r d))) := by
  pointwise [outP]

end Cert.KernelIdeal.Mla

end
-- ==== Proof.Mla.Cells.lean ====
module

public import proofs.«01_k».proof.Proof.Mla.Tile
public import proofs.«01_k».proof.Proof.Mla.Body

@[expose] public section

/-! # What a point leaves, read at an index over the extended reals -/

noncomputable section

namespace Cert.KernelIdeal.Mla

open Idealize.ShloMosaic Cert.KernelIdeal Cert.KernelIdeal.Gen

/-- A rectangle of a matrix, at an index. -/
theorem window2 {α : Type} {A B n0 n1 o0 o1 : ℕ} (v : (⟨2, ![A, B]⟩ : Shape).Idx → α)
    (inb : ∀ a, (![o0, o1] : Fin 2 → ℕ) a + (![n0, n1] : Fin 2 → ℕ) a ≤ (![A, B] : Fin 2 → ℕ) a) (a : Fin n0) (b : Fin n1) :
    VecWindow.window (s := ⟨2, ![A, B]⟩) v ![o0, o1] ![n0, n1] inb (ix2 a b)
      = v (ix2 ⟨o0 + a.val, by have h0 : o0 + n0 ≤ A := inb 0; omega⟩ ⟨o1 + b.val, by have h1 : o1 + n1 ≤ B := inb 1; omega⟩) := by
  refine congrArg v ?_
  funext i
  match i with
  | ⟨0, _⟩ => exact Fin.ext (show o0 + 1 * a.val = o0 + a.val by omega)
  | ⟨1, _⟩ => exact Fin.ext (show o1 + 1 * b.val = o1 + b.val by omega)

/-- A rectangle of a stack of matrices, at an index. -/
theorem window3 {α : Type} {A B D n0 n1 n2 o0 o1 o2 : ℕ} (v : (⟨3, ![A, B, D]⟩ : Shape).Idx → α)
    (inb : ∀ a, (![o0, o1, o2] : Fin 3 → ℕ) a + (![n0, n1, n2] : Fin 3 → ℕ) a ≤ (![A, B, D] : Fin 3 → ℕ) a) (a : Fin n0) (b : Fin n1) (d : Fin n2) :
    VecWindow.window (s := ⟨3, ![A, B, D]⟩) v ![o0, o1, o2] ![n0, n1, n2] inb (ix3 a b d)
      = v (ix3 ⟨o0 + a.val, by have h0 : o0 + n0 ≤ A := inb 0; omega⟩ ⟨o1 + b.val, by have h1 : o1 + n1 ≤ B := inb 1; omega⟩
          ⟨o2 + d.val, by have h2 : o2 + n2 ≤ D := inb 2; omega⟩) := by
  refine congrArg v ?_
  funext i
  match i with
  | ⟨0, _⟩ => exact Fin.ext (show o0 + 1 * a.val = o0 + a.val by omega)
  | ⟨1, _⟩ => exact Fin.ext (show o1 + 1 * b.val = o1 + b.val by omega)
  | ⟨2, _⟩ => exact Fin.ext (show o2 + 1 * d.val = o2 + d.val by omega)

/-- An entry of a matrix depends on the numbers of its row and column only. -/
theorem at2 {α : Type} {A B : ℕ} (v : (⟨2, ![A, B]⟩ : Shape).Idx → α) {a a' : Fin A} {b b' : Fin B} (ha : a.val = a'.val) (hb : b.val = b'.val) :
    v (ix2 a b) = v (ix2 a' b') := by
  rw [Fin.ext ha, Fin.ext hb]

theorem at3 {α : Type} {A B D : ℕ} (v : (⟨3, ![A, B, D]⟩ : Shape).Idx → α) {a a' : Fin A} {b b' : Fin B} {d d' : Fin D} (ha : a.val = a'.val)
    (hb : b.val = b'.val) (hd : d.val = d'.val) : v (ix3 a b d) = v (ix3 a' b' d') := by
  rw [Fin.ext ha, Fin.ext hb, Fin.ext hd]

theorem cast_l {α : Type} (x : S512x128.Idx → α) (r : Fin 512) (c : Fin 128) :
    shapeCast S1x512x128 x shapeCasts_S512x128_S1x512x128 (ValueIdx.ix3 (0 : Fin 1) r c) = x (ix2 r c) := by
  rw [← ix3_eq_valueIdx]; pointwise
theorem cast_s {α : Type} (x : S512x512.Idx → α) (r : Fin 512) (c : Fin 512) :
    shapeCast S1x512x512 x shapeCasts_S512x512_S1x512x512 (ValueIdx.ix3 (0 : Fin 1) r c) = x (ix2 r c) := by
  rw [← ix3_eq_valueIdx]; pointwise
theorem cast_p {α : Type} (x : S64x512.Idx → α) (r : Fin 64) (c : Fin 512) :
    shapeCast S1x64x512 x shapeCasts_S64x512_S1x64x512 (ValueIdx.ix3 (0 : Fin 1) r c) = x (ix2 r c) := by
  rw [← ix3_eq_valueIdx]; pointwise
theorem cast_b {α : Type} (x : S64x128.Idx → α) (r : Fin 64) (c : Fin 128) :
    shapeCast S1x64x128 x shapeCasts_S64x128_S1x64x128 (ValueIdx.ix3 (0 : Fin 1) r c) = x (ix2 r c) := by
  rw [← ix3_eq_valueIdx]; pointwise
theorem cast_e {α : Type} (x : S512x64.Idx → α) (r : Fin 512) (c : Fin 64) :
    shapeCast S1x512x64 x shapeCasts_S512x64_S1x512x64 (ValueIdx.ix3 (0 : Fin 1) r c) = x (ix2 r c) := by
  rw [← ix3_eq_valueIdx]; pointwise
theorem cast_n {α : Type} (x : S512x128.Idx → α) (r : Fin 512) (c : Fin 128) :
    shapeCast S512x128 x shapeCasts_S512x128_S512x128 (ValueIdx.ix2 r c) = x (ix2 r c) := by
  rw [← ix2_eq_valueIdx]; pointwise
theorem cast_r {α : Type} (x : S512x64.Idx → α) (r : Fin 512) (c : Fin 64) :
    shapeCast S512x64 x shapeCasts_S512x64_S512x64 (ValueIdx.ix2 r c) = x (ix2 r c) := by
  rw [← ix2_eq_valueIdx]; pointwise

/-- The scores of a point: the products of queries and keys where the key is not later than the query, `⊥` elsewhere. -/
theorem scOf_at (t : Fin 136) (q : Vec Ideal S512x1536 .bf16) (kc : Vec Ideal S8x512x192 .bf16) (h : Fin 8) (r j : Fin 512) :
    scOf (maskAt t) q kc h (ix2 r j) = if 512 * ki t + j.val ≤ 512 * qi t + r.val
      then ∑ e : Fin 192, q (ix2 r ⟨192 * h.val + e.val, by omega⟩) * kc (ix3 h j e) else (⊥ : EReal) := by
  have e1 : scP (VecWindow.window q ![0, 192 * h.val] S512x192.size (inb_q192 h.isLt)) (VecWindow.window kc ![h.val, 0, 0] S1x512x192.size (inb_kc192 h.isLt)) (ix2 r j)
      = ∑ e : Fin 192, q (ix2 r ⟨192 * h.val + e.val, by omega⟩) * kc (ix3 h j e) := by
    rw [scP_at]
    refine Finset.sum_congr rfl fun e _ => congrArg₂ (fun x y : EReal => x * y) ?_ ?_
    · exact (window2 (A := 512) (B := 1536) (n0 := 512) (n1 := 192) q _ r e).trans (at2 _ (Nat.zero_add _) rfl)
    · exact (window3 (A := 8) (B := 512) (D := 192) (n0 := 1) (n1 := 512) (n2 := 192) kc _ 0 j e).trans (at3 _ (Nat.add_zero _) (Nat.zero_add _) (Nat.zero_add _))
  have hk := ki_le t
  unfold scOf maskAt
  by_cases hd : ki t = qi t
  · rw [if_pos hd, maskP_at, e1]
    refine if_congr ?_ rfl rfl
    rw [hd]
    constructor
    · intro (x : j.val ≤ r.val); omega
    · intro x; show j.val ≤ r.val; omega
  · rw [if_neg hd, if_pos (by omega)]
    exact e1

variable (g : FVec Ideal S512x512 .f32 → FVec Ideal S512x512 .f32) (q : Vec Ideal S512x1536 .bf16) (kc : Vec Ideal S8x512x192 .bf16)
  (v : Vec Ideal S512x1024 .bf16) (m l o : Vec Ideal S8x512x128 .f32) (h : Fin 8) (r : Fin 512)

theorem mNew_at (c : Fin 128) : mNew g q kc m (ix3 h r c) = max (m (ix3 h r c)) (Finset.univ.fold max ⊥ fun k : Fin 128 =>
      max (max (scOf g q kc h (ix2 r ⟨k.val, by omega⟩)) (scOf g q kc h (ix2 r ⟨128 + k.val, by omega⟩)))
        (max (scOf g q kc h (ix2 r ⟨256 + k.val, by omega⟩)) (scOf g q kc h (ix2 r ⟨384 + k.val, by omega⟩)))) := by
  refine Eq.trans (b := mxP (scOf g q kc h) (VecWindow.window m ![h.val, 0, 0] S1x512x128.size (inb_l128 h.isLt)) (ix2 r c)) ?_ ?_
  · exact cast_l _ r c
  · rw [mxP_at]
    refine congrArg (fun x : EReal => max x _) ?_
    exact (window3 (A := 8) (B := 512) (D := 128) (n0 := 1) (n1 := 512) (n2 := 128) m _ 0 r c).trans (at3 _ (Nat.add_zero _) (Nat.zero_add _) (Nat.zero_add _))

theorem aNew_at (c : Fin 128) : aNew g q kc m (ix3 h r c) = Ideal.exp2 (m (ix3 h r c) - mNew g q kc m (ix3 h r c)) := by
  have e : mNew g q kc m (ix3 h r c) = mxP (scOf g q kc h) (VecWindow.window m ![h.val, 0, 0] S1x512x128.size (inb_l128 h.isLt)) (ix2 r c) := by
    exact cast_l _ r c
  refine Eq.trans (b := alP (scOf g q kc h) (VecWindow.window m ![h.val, 0, 0] S1x512x128.size (inb_l128 h.isLt)) (ix2 r c)) ?_ ?_
  · exact cast_l _ r c
  · rw [alP_at, ← e]
    refine congrArg (fun x : EReal => Ideal.exp2 (x - mNew g q kc m (ix3 h r c))) ?_
    exact (window3 (A := 8) (B := 512) (D := 128) (n0 := 1) (n1 := 512) (n2 := 128) m _ 0 r c).trans (at3 _ (Nat.add_zero _) (Nat.zero_add _) (Nat.zero_add _))

theorem sNew_at (j : Fin 512) : sNew g q kc (ix3 h r j) = scOf g q kc h (ix2 r j) := by
  exact cast_s _ r j

theorem pOf_at (s : Vec Ideal S8x512x512 .f32) (b : ℕ) (hb : b < 8) (x : Fin 64) (j : Fin 512) (hr : r.val = 64 * b + x.val) :
    pOf s m h.val h.isLt b hb (ix2 x j) = Ideal.exp2 (s (ix3 h r j) - m (ix3 h r ⟨j.val % 128, by omega⟩)) := by
  unfold pOf
  rw [pP_at]
  refine congrArg₂ (fun x y : EReal => Ideal.exp2 (x - y)) ?_ ?_
  · exact (window3 (A := 8) (B := 512) (D := 512) (n0 := 1) (n1 := 64) (n2 := 512) s _ 0 x j).trans (at3 _ (Nat.add_zero _) hr.symm (Nat.zero_add _))
  · exact (window3 (A := 8) (B := 512) (D := 128) (n0 := 1) (n1 := 64) (n2 := 128) m _ 0 x _).trans (at3 _ (Nat.add_zero _) hr.symm (Nat.zero_add _))

theorem pNew_at (s : Vec Ideal S8x512x512 .f32) (j : Fin 512) :
    pNew s m (ix3 h r j) = Ideal.exp2 (s (ix3 h r j) - m (ix3 h r ⟨j.val % 128, by omega⟩)) := by
  refine Eq.trans (b := pOf s m h.val h.isLt (r.val / 64) (by omega) (ix2 ⟨r.val % 64, by omega⟩ j)) ?_ (pOf_at m h r s _ _ _ j (by dsimp; omega))
  exact cast_p _ _ j

theorem lTile_at (c : Fin 128) : lTile g q kc m l (ix3 h r c)
    = Ideal.exp2 (m (ix3 h r c) - mNew g q kc m (ix3 h r c)) * l (ix3 h r c)
      + ∑ k : Fin 128, ((pNew (sNew g q kc) (mNew g q kc m) (ix3 h r ⟨k.val, by omega⟩) + pNew (sNew g q kc) (mNew g q kc m) (ix3 h r ⟨128 + k.val, by omega⟩))
        + (pNew (sNew g q kc) (mNew g q kc m) (ix3 h r ⟨256 + k.val, by omega⟩) + pNew (sNew g q kc) (mNew g q kc m) (ix3 h r ⟨384 + k.val, by omega⟩))) := by
  have hb : r.val / 64 < 8 := by omega
  refine Eq.trans (b := lP (pOf (sNew g q kc) (mNew g q kc m) h.val h.isLt (r.val / 64) hb)
      (VecWindow.window (aNew g q kc m) ![h.val, 64 * (r.val / 64), 0] S1x64x128.size (inb_lb h.isLt hb))
      (VecWindow.window l ![h.val, 64 * (r.val / 64), 0] S1x64x128.size (inb_lb h.isLt hb)) (ix2 (⟨r.val % 64, by omega⟩ : Fin 64) c)) ?_ ?_
  · exact cast_b _ _ c
  · rw [lP_at]
    have hr : 64 * (r.val / 64) + r.val % 64 = r.val := by omega
    refine congrArg₂ (fun x y : EReal => x + y) (congrArg₂ (fun x y : EReal => x * y) ?_ ?_) (Finset.sum_congr rfl fun k _ => ?_)
    · exact ((window3 (A := 8) (B := 512) (D := 128) (n0 := 1) (n1 := 64) (n2 := 128) (aNew g q kc m) _ 0 _ c).trans (at3 _ (Nat.add_zero _) hr (Nat.zero_add _))).trans
        (aNew_at g q kc m h r c)
    · exact (window3 (A := 8) (B := 512) (D := 128) (n0 := 1) (n1 := 64) (n2 := 128) l _ 0 _ c).trans (at3 _ (Nat.add_zero _) hr (Nat.zero_add _))
    · simp only [pNew_at]
      rw [pOf_at _ h r _ _ hb _ _ hr.symm, pOf_at _ h r _ _ hb _ _ hr.symm, pOf_at _ h r _ _ hb _ _ hr.symm, pOf_at _ h r _ _ hb _ _ hr.symm]

theorem accTile_at (d : Fin 128) : accTile g q kc v m o (ix3 h r d)
    = Ideal.exp2 (m (ix3 h r d) - mNew g q kc m (ix3 h r d)) * o (ix3 h r d)
      + ∑ j : Fin 512, pNew (sNew g q kc) (mNew g q kc m) (ix3 h r j) * v (ix2 j ⟨128 * h.val + d.val, by omega⟩) := by
  refine Eq.trans (b := accP (VecWindow.window (aNew g q kc m) ![h.val, 0, 0] S1x512x128.size (inb_l128 h.isLt))
      (VecWindow.window o ![h.val, 0, 0] S1x512x128.size (inb_l128 h.isLt))
      (VecWindow.window (pNew (sNew g q kc) (mNew g q kc m)) ![h.val, 0, 0] S1x512x512.size (inb_s512 h.isLt))
      (VecWindow.window v ![0, 128 * h.val] S512x128.size (inb_c128 h.isLt)) (ix2 r d)) ?_ ?_
  · exact cast_l _ r d
  · rw [accP_at]
    refine congrArg₂ (fun x y : EReal => x + y) (congrArg₂ (fun x y : EReal => x * y) ?_ ?_) (Finset.sum_congr rfl fun j _ => congrArg₂ (fun x y : EReal => x * y) ?_ ?_)
    · exact ((window3 (A := 8) (B := 512) (D := 128) (n0 := 1) (n1 := 512) (n2 := 128) (aNew g q kc m) _ 0 r d).trans
        (at3 _ (Nat.add_zero _) (Nat.zero_add _) (Nat.zero_add _))).trans (aNew_at g q kc m h r d)
    · exact (window3 (A := 8) (B := 512) (D := 128) (n0 := 1) (n1 := 512) (n2 := 128) o _ 0 r d).trans (at3 _ (Nat.add_zero _) (Nat.zero_add _) (Nat.zero_add _))
    · exact (window3 (A := 8) (B := 512) (D := 512) (n0 := 1) (n1 := 512) (n2 := 512) (pNew (sNew g q kc) (mNew g q kc m)) _ 0 r j).trans
        (at3 _ (Nat.add_zero _) (Nat.zero_add _) (Nat.zero_add _))
    · exact (window2 (A := 512) (B := 1024) (n0 := 512) (n1 := 128) v _ j d).trans (at2 _ (Nat.zero_add _) rfl)

theorem outNew_at (z : Vec Ideal S512x1024 .f32) (d : Fin 128) : outNew o l z (ix2 r ⟨128 * h.val + d.val, by omega⟩)
    = Ideal.div (o (ix3 h r d)) (l (ix3 h r d)) * (z (ix2 r ⟨128 * h.val + d.val, by omega⟩) * Ideal.logistic (z (ix2 r ⟨128 * h.val + d.val, by omega⟩))) := by
  have e : (128 * h.val + d.val) / 128 = h.val := by omega
  have e' : (128 * h.val + d.val) % 128 = d.val := by omega
  refine (congrArg _ (ix2_eq_valueIdx _ _).symm).trans ((outP_at _ _ _ r (⟨(128 * h.val + d.val) % 128, by omega⟩ : Fin 128)).trans ?_)
  have ez := (window2 (A := 512) (B := 1024) (n0 := 512) (n1 := 128) z (inb_c128 (oc_lt (ix2 r ⟨128 * h.val + d.val, by omega⟩))) r ⟨(128 * h.val + d.val) % 128, by omega⟩).trans
    (at2 (a' := r) (b' := ⟨128 * h.val + d.val, by omega⟩) _ (Nat.zero_add _) (by show 128 * ((128 * h.val + d.val) / 128) + (128 * h.val + d.val) % 128 = 128 * h.val + d.val; omega))
  refine congrArg₂ (fun x y : EReal => x * y) (congrArg₂ (fun x y : EReal => Ideal.div x y) ?_ ?_) (congrArg (fun x : EReal => x * Ideal.logistic x) ez)
  · exact (window3 (A := 8) (B := 512) (D := 128) (n0 := 1) (n1 := 512) (n2 := 128) o _ 0 r _).trans (at3 _ e (Nat.zero_add _) ((Nat.zero_add _).trans e'))
  · exact (window3 (A := 8) (B := 512) (D := 128) (n0 := 1) (n1 := 512) (n2 := 128) l _ 0 r _).trans (at3 _ e (Nat.zero_add _) ((Nat.zero_add _).trans e'))

/-- The queries of a fresh row block. -/
theorem qTile_at (qn : Vec Ideal S512x1024 .bf16) (qp qpr : Vec Ideal S512x512 .bf16) (co si : Vec Ideal S512x64 .f32) (e : Fin 192) :
    qTile qn qp qpr co si (ix2 r ⟨192 * h.val + e.val, by omega⟩) = if he : e.val < 128 then qn (ix2 r ⟨128 * h.val + e.val, by omega⟩) * qsc
      else qp (ix2 r ⟨64 * h.val + (e.val - 128), by omega⟩) * (co (ix2 r ⟨e.val - 128, by omega⟩) * qsc)
        + qpr (ix2 r ⟨64 * h.val + (e.val - 128), by omega⟩) * (si (ix2 r ⟨e.val - 128, by omega⟩) * qsc) := by
  have e1 : (192 * h.val + e.val) / 192 = h.val := by omega
  have e2 : (192 * h.val + e.val) % 192 = e.val := by omega
  by_cases he : e.val < 128
  · rw [dif_pos he]
    refine (dif_pos (show (192 * h.val + e.val) % 192 < 128 by omega)).trans ?_
    refine (cast_n _ r (⟨(192 * h.val + e.val) % 192, by omega⟩ : Fin 128)).trans ?_
    refine Eq.trans (b := qnP qn (ix2 r ⟨128 * h.val + e.val, by omega⟩)) ?_ (qnP_at _ _ _)
    refine congrArg (qnP qn) (funext fun i => ?_)
    match i with
    | ⟨0, _⟩ => exact Fin.ext (Nat.zero_add _)
    | ⟨1, _⟩ => exact Fin.ext (show 128 * ((192 * h.val + e.val) / 192) + (192 * h.val + e.val) % 192 = _ by dsimp; omega)
  · rw [dif_neg he]
    refine (dif_neg (show ¬(192 * h.val + e.val) % 192 < 128 by omega)).trans ?_
    refine (cast_r _ r (⟨(192 * h.val + e.val) % 192 - 128, by omega⟩ : Fin 64)).trans ?_
    refine (qpP_at _ _ _ _ _ _).trans ?_
    have ec : (⟨(192 * h.val + e.val) % 192 - 128, by omega⟩ : Fin 64) = ⟨e.val - 128, by omega⟩ := Fin.ext (by dsimp; omega)
    rw [ec, cP_at, cP_at]
    refine congrArg₂ (fun x y : EReal => x + y) (congrArg (fun x : EReal => x * _) ?_) (congrArg (fun x : EReal => x * _) ?_)
    · exact (window2 (A := 512) (B := 512) (n0 := 512) (n1 := 64) qp _ r _).trans (at2 _ (Nat.zero_add _) (by
        show 64 * ((192 * h.val + e.val) / 192) + _ = _; rw [e1]))
    · exact (window2 (A := 512) (B := 512) (n0 := 512) (n1 := 64) qpr _ r _).trans (at2 _ (Nat.zero_add _) (by
        show 64 * ((192 * h.val + e.val) / 192) + _ = _; rw [e1]))

/-- The keys of a tile. -/
theorem kcTile_at (kk : Vec Ideal S512x1024 .bf16) (kpe : Vec Ideal S512x128 .f32) (co si : Vec Ideal S512x64 .f32) (j : Fin 512) (e : Fin 192) :
    kcTile kk kpe co si (ix3 h j e) = if he : e.val < 128 then kk (ix2 j ⟨128 * h.val + e.val, by omega⟩)
      else kpe (ix2 j ⟨e.val - 128, by omega⟩) * co (ix2 j ⟨e.val - 128, by omega⟩) + kpe (ix2 j ⟨64 + (e.val - 128), by omega⟩) * si (ix2 j ⟨e.val - 128, by omega⟩) := by
  by_cases he : e.val < 128
  · rw [dif_pos he]
    refine (dif_pos (show e.val < 128 from he)).trans ?_
    refine (cast_l _ j (⟨e.val, he⟩ : Fin 128)).trans ((congrArg _ (ix2_eq_valueIdx _ _)).trans ((cast_n _ j (⟨e.val, he⟩ : Fin 128)).trans ?_))
    exact (window2 (A := 512) (B := 1024) (n0 := 512) (n1 := 128) kk _ j _).trans (at2 _ (Nat.zero_add _) rfl)
  · rw [dif_neg he]
    refine (dif_neg (show ¬e.val < 128 from he)).trans ?_
    refine (cast_e _ j (⟨e.val - 128, by omega⟩ : Fin 64)).trans ?_
    rw [kpP_at]

theorem filled_at (b : BitVec 32) (c : Fin 128) : filled (F := Ideal) b (ix3 h r c) = Ideal.ofBits .f32 b := by
  pointwise [filled]

end Cert.KernelIdeal.Mla

end
-- ==== Proof.Mla.Spec.lean ====
module

public import proofs.«01_k».proof.Proof.Mla.Online
public import proofs.«01_k».proof.Proof.Mla.Cells

@[expose] public section

/-! # The attention in real numbers

From arrays of projections, queries, keys and values, cosines and sines: the score of a query and a key, to base two,
and the output as a sum over the keys of no later position. The scores' entries are real; values and gates may be
anything. -/

noncomputable section

namespace Cert.KernelIdeal.Mla

open Idealize.ShloMosaic

variable (P : (⟨2, ![8192, 4976]⟩ : Shape).Idx → EReal) (Q : (⟨2, ![8192, 1536]⟩ : Shape).Idx → EReal)
  (KV : (⟨2, ![8192, 2048]⟩ : Shape).Idx → EReal) (C S : (⟨2, ![8192, 32]⟩ : Shape).Idx → EReal)

/-- The entries the scores are made of, as real numbers. -/
def rP (k : Fin 8192) (e : ℕ) (he : e < 64) : ℝ := (P (ix2 k ⟨3888 + e, by omega⟩)).toReal
def rQ (R : Fin 8192) (x : ℕ) (hx : x < 1536) : ℝ := (Q (ix2 R ⟨x, hx⟩)).toReal
def rK (k : Fin 8192) (h : Fin 8) (d : Fin 128) : ℝ := (KV (ix2 k ⟨256 * h.val + d.val, by omega⟩)).toReal
def rC (R : Fin 8192) (e : Fin 32) : ℝ := (C (ix2 R e)).toReal

/-- The scores' entries are real. -/
structure AllReal : Prop where
  p : ∀ k e he, P (ix2 k ⟨3888 + e, by omega⟩) = (rP P k e he : EReal)
  q : ∀ R x hx, Q (ix2 R ⟨x, hx⟩) = (rQ Q R x hx : EReal)
  k : ∀ k h d, KV (ix2 k ⟨256 * h.val + d.val, by omega⟩) = (rK KV k h d : EReal)
  c : ∀ R e, C (ix2 R e) = (rC C R e : EReal)
  s : ∀ R e, S (ix2 R e) = (rC S R e : EReal)

/-- A pair turned by an angle: its first half and its second half. -/
def turn (x y c s : ℝ) (first : Prop) [Decidable first] : ℝ := if first then x * c - y * s else x * s + y * c

/-- A query's positional part, turned. -/
def qTurn (h : Fin 8) (R : Fin 8192) (e : Fin 64) : ℝ :=
  turn (rQ Q R (192 * h.val + 128 + e.val % 32) (by omega)) (rQ Q R (192 * h.val + 160 + e.val % 32) (by omega))
    (rC C R ⟨e.val % 32, by omega⟩) (rC S R ⟨e.val % 32, by omega⟩) (e.val < 32)
/-- A key's positional part, turned. -/
def kTurn (k : Fin 8192) (e : Fin 64) : ℝ :=
  turn (rP P k (e.val % 32) (by omega)) (rP P k (32 + e.val % 32) (by omega)) (rC C k ⟨e.val % 32, by omega⟩) (rC S k ⟨e.val % 32, by omega⟩) (e.val < 32)

/-- The products of a query and a key, scaled. -/
def logit (h : Fin 8) (R k : Fin 8192) : ℝ :=
  ((∑ d : Fin 128, rQ Q R (192 * h.val + d.val) (by omega) * rK KV k h d) + ∑ e : Fin 64, kTurn P C S k e * qTurn Q C S h R e) * (Real.sqrt 192)⁻¹
/-- The same to base two. -/
def score (h : Fin 8) (R k : Fin 8192) : ℝ := logit P Q KV C S h R k * (Real.log 2)⁻¹

/-- The keys of no later position. -/
def upTo (R : Fin 8192) : Finset (Fin 8192) := Finset.univ.filter fun k => k.val ≤ R.val

theorem upTo_nonempty (R : Fin 8192) : (upTo R).Nonempty := ⟨R, by simp [upTo]⟩

theorem keys_upTo (R : Fin 8192) (n : ℕ) (hn : R.val < n) : keys R.val n = upTo R := by
  ext k; simp only [keys, upTo, Finset.mem_filter, Finset.mem_univ, true_and]; omega

/-- The values of the keys, weighted. -/
def attend (h : Fin 8) (R : Fin 8192) (d : Fin 128) : EReal :=
  ∑ k ∈ upTo R, ((two (score P Q KV C S h R k) / ∑ i ∈ upTo R, two (score P Q KV C S h R i) : ℝ) : EReal) * KV (ix2 k ⟨256 * h.val + 128 + d.val, by omega⟩)

/-- The gate. -/
def gate (h : Fin 8) (R : Fin 8192) (d : Fin 128) : EReal :=
  P (ix2 R ⟨3952 + (128 * h.val + d.val), by omega⟩) * Ideal.logistic (P (ix2 R ⟨3952 + (128 * h.val + d.val), by omega⟩))

/-! ## The kernel's way to the scores -/

/-- A query as the kernel keeps it. -/
def qOf (h : Fin 8) (R : Fin 8192) (e : Fin 192) (a : EReal) : EReal :=
  if he : e.val < 128 then Q (ix2 R ⟨192 * h.val + e.val, by omega⟩) * a
  else Q (ix2 R ⟨192 * h.val + 128 + (e.val - 128), by omega⟩) * (C (ix2 R ⟨(e.val - 128) % 32, by omega⟩) * a)
    + (if he : e.val - 128 < 32 then -Q (ix2 R ⟨192 * h.val + 160 + (e.val - 128), by omega⟩)
        else Q (ix2 R ⟨192 * h.val + 128 + (e.val - 128 - 32), by omega⟩)) * (S (ix2 R ⟨(e.val - 128) % 32, by omega⟩) * a)

/-- A key as the kernel keeps it. -/
def kOf (h : Fin 8) (k : Fin 8192) (e : Fin 192) : EReal :=
  if he : e.val < 128 then KV (ix2 k ⟨256 * h.val + e.val, by omega⟩)
  else P (ix2 k ⟨3888 + (e.val - 128), by omega⟩) * C (ix2 k ⟨(e.val - 128) % 32, by omega⟩)
    + (if he : e.val - 128 < 32 then -P (ix2 k ⟨3920 + (e.val - 128), by omega⟩)
        else P (ix2 k ⟨3888 + (e.val - 128 - 32), by omega⟩)) * S (ix2 k ⟨(e.val - 128) % 32, by omega⟩)

variable {P Q KV C S}

theorem kOf_n (H : AllReal P Q KV C S) (h : Fin 8) (k : Fin 8192) (d : Fin 128) : kOf P KV C S h k ⟨d.val, by omega⟩ = (rK KV k h d : EReal) := by
  unfold kOf
  rw [dif_pos d.isLt]
  exact H.k k h d

theorem kOf_p (H : AllReal P Q KV C S) (h : Fin 8) (k : Fin 8192) (e : Fin 64) : kOf P KV C S h k ⟨128 + e.val, by omega⟩ = (kTurn P C S k e : EReal) := by
  have e1 : 128 + e.val - 128 = e.val := by omega
  unfold kOf kTurn turn
  rw [dif_neg (by dsimp; omega)]
  simp only [e1]
  by_cases he : e.val < 32
  · have em : e.val % 32 = e.val := by omega
    simp only [he, dif_pos, if_pos, em]
    rw [H.p k e.val e.isLt, at2 P (a' := k) (b' := ⟨3888 + (32 + e.val), by omega⟩) rfl (by dsimp; omega), H.p k (32 + e.val) (by omega), H.c, H.s]
    norm_cast
    ring
  · have em : e.val % 32 = e.val - 32 := by omega
    simp only [he, dif_neg, if_neg, em, not_false_eq_true]
    rw [H.p k (e.val - 32) (by omega), H.p k e.val e.isLt, H.c, H.s]
    norm_cast
    have : ∀ hx, rP P k (32 + (e.val - 32)) hx = rP P k e.val e.isLt := fun hx => by congr 1; omega
    rw [this]
    ring

theorem qOf_n (H : AllReal P Q KV C S) (h : Fin 8) (R : Fin 8192) (d : Fin 128) (a : ℝ) :
    qOf Q C S h R ⟨d.val, by omega⟩ a = ((rQ Q R (192 * h.val + d.val) (by omega) * a : ℝ) : EReal) := by
  unfold qOf
  rw [dif_pos d.isLt, H.q]
  norm_cast

theorem qOf_p (H : AllReal P Q KV C S) (h : Fin 8) (R : Fin 8192) (e : Fin 64) (a : ℝ) :
    qOf Q C S h R ⟨128 + e.val, by omega⟩ a = ((qTurn Q C S h R e * a : ℝ) : EReal) := by
  have e1 : 128 + e.val - 128 = e.val := by omega
  unfold qOf qTurn turn
  rw [dif_neg (by dsimp; omega)]
  simp only [e1]
  by_cases he : e.val < 32
  · have em : e.val % 32 = e.val := by omega
    simp only [he, dif_pos, if_pos, em]
    rw [H.q, H.q, H.c, H.s]
    norm_cast
    ring
  · have em : e.val % 32 = e.val - 32 := by omega
    simp only [he, dif_neg, if_neg, em, not_false_eq_true]
    rw [H.q, H.q, H.c, H.s]
    norm_cast
    have : ∀ hx hy, rQ Q R (192 * h.val + 160 + (e.val - 32)) hx = rQ Q R (192 * h.val + 128 + e.val) hy := fun hx hy => by congr 1; omega
    rw [this _ (by omega)]
    ring

/-- The kernel's products of a query and a key add up to the score. -/
theorem products (H : AllReal P Q KV C S) (h : Fin 8) (R k : Fin 8192) :
    ∑ e : Fin 192, qOf Q C S h R e (((Real.sqrt 192)⁻¹ * (Real.log 2)⁻¹ : ℝ) : EReal) * kOf P KV C S h k e = (score P Q KV C S h R k : EReal) := by
  have e1 := Fin.sum_univ_add (a := 128) (b := 64) fun e : Fin 192 => qOf Q C S h R e (((Real.sqrt 192)⁻¹ * (Real.log 2)⁻¹ : ℝ) : EReal) * kOf P KV C S h k e
  refine e1.trans ?_
  have e2 : ∀ d : Fin 128, qOf Q C S h R (Fin.castAdd 64 d) (((Real.sqrt 192)⁻¹ * (Real.log 2)⁻¹ : ℝ) : EReal) * kOf P KV C S h k (Fin.castAdd 64 d)
      = ((rQ Q R (192 * h.val + d.val) (by omega) * ((Real.sqrt 192)⁻¹ * (Real.log 2)⁻¹) * rK KV k h d : ℝ) : EReal) := fun d => by
    rw [EReal.coe_mul]
    exact congrArg₂ (fun x y : EReal => x * y) (qOf_n H h R d _) (kOf_n H h k d)
  have e3 : ∀ e : Fin 64, qOf Q C S h R (Fin.natAdd 128 e) (((Real.sqrt 192)⁻¹ * (Real.log 2)⁻¹ : ℝ) : EReal) * kOf P KV C S h k (Fin.natAdd 128 e)
      = ((qTurn Q C S h R e * ((Real.sqrt 192)⁻¹ * (Real.log 2)⁻¹) * kTurn P C S k e : ℝ) : EReal) := fun e => by
    rw [EReal.coe_mul]
    exact congrArg₂ (fun x y : EReal => x * y) (qOf_p H h R e _) (kOf_p H h k e)
  rw [Finset.sum_congr rfl fun d _ => e2 d, Finset.sum_congr rfl fun e _ => e3 e, ← coe_sum, ← coe_sum, ← EReal.coe_add]
  refine congrArg _ ?_
  unfold score logit
  rw [add_mul, add_mul, Finset.sum_mul, Finset.sum_mul, Finset.sum_mul, Finset.sum_mul]
  exact congrArg₂ _ (Finset.sum_congr rfl fun d _ => by ring) (Finset.sum_congr rfl fun e _ => by ring)

end Cert.KernelIdeal.Mla

end
-- ==== Proof.Mla.Finite.lean ====
module

public import proofs.«01_k».proof.Pre_logits_finite
public import proofs.«01_k».proof.Proof.Mla.Spec
public import Idealize.ShloMosaic.PureOps.Ideal

@[expose] public section

/-! # What the precondition says: the entries the scores are made of are real -/

noncomputable section

namespace Cert.Pre_logits_finite

open Idealize.ShloMosaic
open Cert.KernelIdeal.Mla (AllReal rP rQ rK rC at2 at3)

/-- The predicate's side conditions hold. -/
theorem holds : Facts where
  shapeCasts_S8192x2048_S8192x8x256 := by decide +kernel
  slices_S8192x8x256_S8192x8x128_0_0_0 := by decide +kernel
  shapeCasts_S8192x8x128_S8192x1024 := by decide +kernel
  slices_S8192x4976_S8192x64_0_3888 := by decide +kernel
  concatenates_S8192x64_S8192x1536_S8192x1024_S8192x32_S8192x32_S8192x2688_d1 := by decide +kernel
  bcast_S_S8192x2688 := by decide +kernel

/-- An extended real below infinity in absolute value is real. -/
theorem real_of_below (x : EReal) (h : Ideal.cmp .olt (max x (-x)) (Ideal.ofBits .f32 0x7F800000#32) = 1#1) : x = (x.toReal : EReal) := by
  have top : Ideal.ofBits .f32 0x7F800000#32 = ⊤ := by simp [Ideal.ofBits, Ideal.ieee]
  rw [top] at h
  have hx : max x (-x) < ⊤ := by
    by_contra hn
    have : Ideal.cmp .olt (max x (-x)) ⊤ = 0#1 := by
      show BitVec.ofBool (decide (max x (-x) < ⊤)) = _
      rw [decide_eq_false hn]; rfl
    rw [this] at h; exact absurd h (by decide)
  obtain ⟨h₁, h₂⟩ := max_lt_iff.mp hx
  refine (EReal.coe_toReal h₁.ne ?_).symm
  rintro rfl
  simp at h₂

section Cat5
variable [Facts]
open Facts
variable (a : S8192x64.Idx → EReal) (b : S8192x1536.Idx → EReal) (k : S8192x1024.Idx → EReal) (x y : S8192x32.Idx → EReal)

abbrev cat5 : S8192x2688.Idx → EReal := concatenate S8192x2688 1 [⟨S8192x64, a⟩, ⟨S8192x1536, b⟩, ⟨S8192x1024, k⟩, ⟨S8192x32, x⟩, ⟨S8192x32, y⟩]
  concatenates_S8192x64_S8192x1536_S8192x1024_S8192x32_S8192x32_S8192x2688_d1

theorem cat5_a (R : Fin 8192) (e : Fin 64) : cat5 a b k x y (ix2 R ⟨e.val, by omega⟩) = a (ix2 R e) := by
  pointwise
theorem cat5_b (R : Fin 8192) (e : Fin 1536) : cat5 a b k x y (ix2 R ⟨64 + e.val, by omega⟩) = b (ix2 R e) := by
  pointwise
theorem cat5_k (R : Fin 8192) (e : Fin 1024) : cat5 a b k x y (ix2 R ⟨1600 + e.val, by omega⟩) = k (ix2 R e) := by
  pointwise
  refine (dif_neg (by omega)).trans ?_
  refine (dif_neg (by omega)).trans ?_
  refine (dif_pos (by omega)).trans ?_
  exact at2 k rfl (by dsimp; omega)
theorem cat5_x (R : Fin 8192) (e : Fin 32) : cat5 a b k x y (ix2 R ⟨2624 + e.val, by omega⟩) = x (ix2 R e) := by
  pointwise
  refine (dif_neg (by omega)).trans ?_
  refine (dif_neg (by omega)).trans ?_
  refine (dif_neg (by omega)).trans ?_
  refine (dif_pos (by omega)).trans ?_
  exact at2 x rfl (by dsimp; omega)
theorem cat5_y (R : Fin 8192) (e : Fin 32) : cat5 a b k x y (ix2 R ⟨2656 + e.val, by omega⟩) = y (ix2 R e) := by
  pointwise
  refine (dif_neg (by omega)).trans ?_
  refine (dif_neg (by omega)).trans ?_
  refine (dif_neg (by omega)).trans ?_
  refine (dif_neg (by omega)).trans ?_
  exact at2 y rfl (by dsimp; omega)
end Cat5

section
variable [Facts]
open Facts
variable (P : FVec Ideal S8192x4976 .f32) (Q : FVec Ideal S8192x1536 .f32) (KV : FVec Ideal S8192x2048 .f32) (C S : FVec Ideal S8192x32 .f32)

/-- The keys, out of the keys and values. -/
def keysOf : S8192x1024.Idx → EReal :=
  shapeCast S8192x1024 (extractStridedSlice S8192x8x128 ![0, 0, 0] (shapeCast S8192x8x256 KV shapeCasts_S8192x2048_S8192x8x256)
    slices_S8192x8x256_S8192x8x128_0_0_0) shapeCasts_S8192x8x128_S8192x1024
/-- The keys' positional part, out of the projections. -/
def posOf : S8192x64.Idx → EReal := extractStridedSlice S8192x64 ![0, 3888] P slices_S8192x4976_S8192x64_0_3888

theorem posOf_at (R : Fin 8192) (e : Fin 64) : posOf P (ix2 R e) = P (ix2 R ⟨3888 + e.val, by omega⟩) := by
  unfold posOf; pointwise

theorem keysOf_at (R : Fin 8192) (h : Fin 8) (d : Fin 128) :
    keysOf KV (ix2 R ⟨128 * h.val + d.val, by omega⟩) = KV (ix2 R ⟨256 * h.val + d.val, by omega⟩) := by
  unfold keysOf; pointwise
  all_goals exact at2 KV rfl (by dsimp; omega)

/-- Each of the five arrays' entries is real. -/
theorem entry (h : fn P Q KV C S = fun _ => 1#1) (i : S8192x2688.Idx) :
    cat5 (posOf P) Q (keysOf KV) C S i = ((cat5 (posOf P) Q (keysOf KV) C S i).toReal : EReal) :=
  real_of_below _ (congrFun h i)

/-- The precondition, as the value proof wants it. -/
theorem all_real (h : fn P Q KV C S = fun _ => 1#1) : AllReal P Q KV C S where
  p := fun k e he => by
    have := entry P Q KV C S h (ix2 k ⟨(⟨e, he⟩ : Fin 64).val, by omega⟩)
    rw [cat5_a, posOf_at] at this; exact this
  q := fun R x hx => by
    have := entry P Q KV C S h (ix2 R ⟨64 + (⟨x, hx⟩ : Fin 1536).val, by omega⟩)
    rw [cat5_b] at this; exact this
  k := fun k h' d => by
    have := entry P Q KV C S h (ix2 k ⟨1600 + (⟨128 * h'.val + d.val, by omega⟩ : Fin 1024).val, by dsimp; omega⟩)
    rw [cat5_k, keysOf_at] at this; exact this
  c := fun R e => by
    have := entry P Q KV C S h (ix2 R ⟨2624 + e.val, by omega⟩)
    rw [cat5_x] at this; exact this
  s := fun R e => by
    have := entry P Q KV C S h (ix2 R ⟨2656 + e.val, by omega⟩)
    rw [cat5_y] at this; exact this
end

end Cert.Pre_logits_finite

end
-- ==== Proof.Mla.Host.lean ====
module

public import proofs.«01_k».proof.Proof.Mla.Data
public import proofs.«01_k».proof.Proof.Mla.Cells
public import Idealize.ShloMosaic.Lib.StableHlo.RunRead

@[expose] public section

/-! # The arrays the kernel is given, read from the arguments -/

noncomputable section

namespace Cert.KernelIdeal.Mla

open Idealize.ShloMosaic Idealize.ShloMosaic.TcCoe Cert.KernelIdeal Cert.KernelIdeal.Gen Idealize.SL.Sem Idealize.ShloMosaic.StableHlo

variable (m : (ℓ : Loc nD τ sig) → Buf (Elt Ideal) ℓ) (c : Dev nD)

/-- The projections. -/
abbrev aP : S8192x4976.Idx → EReal := m ((c : Thread nD τ).loc main_arg0)
/-- The queries. -/
abbrev aQ : S8192x1536.Idx → EReal := m ((c : Thread nD τ).loc main_arg1)
/-- The keys and values. -/
abbrev aKV : S8192x2048.Idx → EReal := m ((c : Thread nD τ).loc main_arg2)
/-- The cosines. -/
abbrev aC : S8192x32.Idx → EReal := m ((c : Thread nD τ).loc main_arg3)
/-- The sines. -/
abbrev aS : S8192x32.Idx → EReal := m ((c : Thread nD τ).loc main_arg4)

/-- The buffers when the arrays of the queries are put together. -/
local notation "U₁" => StableHlo.upto (hostOps0 (F := Ideal)) (fun b => m (c, b)) 12
/-- The buffers when the arrays of the keys are put together. -/
local notation "U₂" => StableHlo.upto (hostOps0 (F := Ideal)) (fun b => m (c, b)) 19
/-- The buffers when the projections are put in order. -/
local notation "U₃" => StableHlo.upto (hostOps0 (F := Ideal)) (fun b => m (c, b)) 36

theorem v2_at (R : Fin 8192) (h : Fin 8) (d : Fin 128) : (U₁ (Proc.devRef .tc main_v2) : S8192x1024.Idx → EReal)
    (ix2 R ⟨128 * h.val + d.val, by omega⟩) = aQ m c (ix2 R ⟨192 * h.val + d.val, by omega⟩) := by
  after_reads_simp
  pointwise
  exact at2 (aQ m c) rfl (by dsimp; omega)

theorem v8_at (R : Fin 8192) (h : Fin 8) (e : Fin 64) : (U₁ (Proc.devRef .tc main_v8) : S8192x512.Idx → EReal)
    (ix2 R ⟨64 * h.val + e.val, by omega⟩) = aQ m c (ix2 R ⟨192 * h.val + 128 + e.val, by omega⟩) := by
  after_reads_simp
  pointwise
  exact at2 (aQ m c) rfl (by dsimp; omega)

theorem v9_at (R : Fin 8192) (h : Fin 8) (e : Fin 64) : (U₁ (Proc.devRef .tc main_v9) : S8192x512.Idx → EReal)
    (ix2 R ⟨64 * h.val + e.val, by omega⟩) = if he : e.val < 32 then -aQ m c (ix2 R ⟨192 * h.val + 160 + e.val, by omega⟩)
      else aQ m c (ix2 R ⟨192 * h.val + 128 + (e.val - 32), by omega⟩) := by
  after_reads_simp
  pointwise
  after_reads_simp
  by_cases he : e.val < 32
  · rw [dif_pos he, dif_pos he]
    pointwise
    exact congrArg (fun x : EReal => -x) (at2 (aQ m c) rfl (by dsimp; omega))
  · rw [dif_neg he, dif_neg he]
    pointwise
    exact at2 (aQ m c) rfl (by dsimp; omega)

theorem cat3_n (a : S8192x1024.Idx → EReal) (b d : S8192x512.Idx → EReal) (R : Fin 8192) (x : Fin 1024) :
    (truncf (F := Ideal) .bf16 (concatenate S8192x2048 1 [⟨S8192x1024, a⟩, ⟨S8192x512, b⟩, ⟨S8192x512, d⟩] concatenates_S8192x1024_S8192x512_S8192x512_S8192x2048_d1 : FVec Ideal S8192x2048 .f32)
      bitsLt_bf16_f32) (ix2 R ⟨x.val, by omega⟩) = a (ix2 R x) := by
  pointwise

theorem cat3_p (a : S8192x1024.Idx → EReal) (b d : S8192x512.Idx → EReal) (R : Fin 8192) (x : Fin 512) :
    (truncf (F := Ideal) .bf16 (concatenate S8192x2048 1 [⟨S8192x1024, a⟩, ⟨S8192x512, b⟩, ⟨S8192x512, d⟩] concatenates_S8192x1024_S8192x512_S8192x512_S8192x2048_d1 : FVec Ideal S8192x2048 .f32)
      bitsLt_bf16_f32) (ix2 R ⟨1024 + x.val, by omega⟩) = b (ix2 R x) := by
  pointwise

theorem cat3_r (a : S8192x1024.Idx → EReal) (b d : S8192x512.Idx → EReal) (R : Fin 8192) (x : Fin 512) :
    (truncf (F := Ideal) .bf16 (concatenate S8192x2048 1 [⟨S8192x1024, a⟩, ⟨S8192x512, b⟩, ⟨S8192x512, d⟩] concatenates_S8192x1024_S8192x512_S8192x512_S8192x2048_d1 : FVec Ideal S8192x2048 .f32)
      bitsLt_bf16_f32) (ix2 R ⟨1536 + x.val, by omega⟩) = d (ix2 R x) := by
  pointwise
  refine (dif_neg (by omega)).trans ?_
  refine (dif_neg (by omega)).trans ?_
  exact at2 d rfl (by dsimp; omega)

/-- The queries without position. -/
theorem v11_n (R : Fin 8192) (h : Fin 8) (d : Fin 128) : (V₀ m c (Proc.devRef .tc main_v11) : S8192x2048.Idx → EReal) (ix2 R ⟨128 * h.val + d.val, by omega⟩)
    = aQ m c (ix2 R ⟨192 * h.val + d.val, by omega⟩) := by
  unfold V₀; after_reads_simp
  exact (cat3_n _ _ _ R ⟨128 * h.val + d.val, by omega⟩).trans (v2_at m c R h d)

/-- The queries to be turned. -/
theorem v11_p (R : Fin 8192) (h : Fin 8) (e : Fin 64) : (V₀ m c (Proc.devRef .tc main_v11) : S8192x2048.Idx → EReal) (ix2 R ⟨1024 + (64 * h.val + e.val), by omega⟩)
    = aQ m c (ix2 R ⟨192 * h.val + 128 + e.val, by omega⟩) := by
  unfold V₀; after_reads_simp
  exact (cat3_p _ _ _ R ⟨64 * h.val + e.val, by omega⟩).trans (v8_at m c R h e)

/-- The same, a quarter turn on. -/
theorem v11_r (R : Fin 8192) (h : Fin 8) (e : Fin 64) : (V₀ m c (Proc.devRef .tc main_v11) : S8192x2048.Idx → EReal) (ix2 R ⟨1536 + (64 * h.val + e.val), by omega⟩)
    = if he : e.val < 32 then -aQ m c (ix2 R ⟨192 * h.val + 160 + e.val, by omega⟩) else aQ m c (ix2 R ⟨192 * h.val + 128 + (e.val - 32), by omega⟩) := by
  unfold V₀; after_reads_simp
  exact (cat3_r _ _ _ R ⟨64 * h.val + e.val, by omega⟩).trans (v9_at m c R h e)

theorem v14_at (R : Fin 8192) (h : Fin 8) (d : Fin 128) : (U₂ (Proc.devRef .tc main_v14) : S8192x1024.Idx → EReal)
    (ix2 R ⟨128 * h.val + d.val, by omega⟩) = aKV m c (ix2 R ⟨256 * h.val + d.val, by omega⟩) := by
  after_reads_simp
  pointwise
  exact at2 (aKV m c) rfl (by dsimp; omega)

theorem v16_at (R : Fin 8192) (h : Fin 8) (d : Fin 128) : (U₂ (Proc.devRef .tc main_v16) : S8192x1024.Idx → EReal)
    (ix2 R ⟨128 * h.val + d.val, by omega⟩) = aKV m c (ix2 R ⟨256 * h.val + 128 + d.val, by omega⟩) := by
  after_reads_simp
  pointwise
  exact at2 (aKV m c) rfl (by dsimp; omega)

theorem cat2_k (a b : S8192x1024.Idx → EReal) (R : Fin 8192) (x : Fin 1024) :
    (truncf (F := Ideal) .bf16 (concatenate S8192x2048 1 [⟨S8192x1024, a⟩, ⟨S8192x1024, b⟩] concatenates_S8192x1024_S8192x1024_S8192x2048_d1 : FVec Ideal S8192x2048 .f32)
      bitsLt_bf16_f32) (ix2 R ⟨x.val, by omega⟩) = a (ix2 R x) := by
  pointwise

theorem cat2_v (a b : S8192x1024.Idx → EReal) (R : Fin 8192) (x : Fin 1024) :
    (truncf (F := Ideal) .bf16 (concatenate S8192x2048 1 [⟨S8192x1024, a⟩, ⟨S8192x1024, b⟩] concatenates_S8192x1024_S8192x1024_S8192x2048_d1 : FVec Ideal S8192x2048 .f32)
      bitsLt_bf16_f32) (ix2 R ⟨1024 + x.val, by omega⟩) = b (ix2 R x) := by
  pointwise

/-- The keys without position. -/
theorem v18_k (R : Fin 8192) (h : Fin 8) (d : Fin 128) : (V₀ m c (Proc.devRef .tc main_v18) : S8192x2048.Idx → EReal) (ix2 R ⟨128 * h.val + d.val, by omega⟩)
    = aKV m c (ix2 R ⟨256 * h.val + d.val, by omega⟩) := by
  unfold V₀; after_reads_simp
  exact (cat2_k _ _ R ⟨128 * h.val + d.val, by omega⟩).trans (v14_at m c R h d)

/-- The values. -/
theorem v18_v (R : Fin 8192) (h : Fin 8) (d : Fin 128) : (V₀ m c (Proc.devRef .tc main_v18) : S8192x2048.Idx → EReal) (ix2 R ⟨1024 + (128 * h.val + d.val), by omega⟩)
    = aKV m c (ix2 R ⟨256 * h.val + 128 + d.val, by omega⟩) := by
  unfold V₀; after_reads_simp
  exact (cat2_v _ _ R ⟨128 * h.val + d.val, by omega⟩).trans (v16_at m c R h d)

theorem cat2_c (a b : S8192x32.Idx → EReal) (R : Fin 8192) (e : Fin 64) :
    concatenate S8192x64 1 [⟨S8192x32, a⟩, ⟨S8192x32, b⟩] concatenates_S8192x32_S8192x32_S8192x64_d1 (ix2 R e)
      = if he : e.val < 32 then a (ix2 R ⟨e.val, he⟩) else b (ix2 R ⟨e.val - 32, by omega⟩) := by
  pointwise

/-- The cosines, twice over. -/
theorem v34_at (R : Fin 8192) (e : Fin 64) : (V₀ m c (Proc.devRef .tc main_v34) : S8192x64.Idx → EReal) (ix2 R e) = aC m c (ix2 R ⟨e.val % 32, by omega⟩) := by
  unfold V₀; after_reads_simp
  refine (cat2_c _ _ R e).trans ?_
  split
  · exact at2 (aC m c) rfl (by dsimp; omega)
  · exact at2 (aC m c) rfl (by dsimp; omega)

/-- The sines, twice over. -/
theorem v35_at (R : Fin 8192) (e : Fin 64) : (V₀ m c (Proc.devRef .tc main_v35) : S8192x64.Idx → EReal) (ix2 R e) = aS m c (ix2 R ⟨e.val % 32, by omega⟩) := by
  unfold V₀; after_reads_simp
  refine (cat2_c _ _ R e).trans ?_
  split
  · exact at2 (aS m c) rfl (by dsimp; omega)
  · exact at2 (aS m c) rfl (by dsimp; omega)

section Cat10
variable (a0 a1 a2 : S8192x1024.Idx → EReal) (a3 a4 : S8192x512.Idx → EReal) (a5 : S8192x768.Idx → EReal) (a6 a7 : S8192x64.Idx → EReal) (a8 : S8192x48.Idx → EReal)
  (a9 : S8192x80.Idx → EReal)

/-- The projections, in the kernel's order. -/
abbrev cat10 : S8192x5120.Idx → EReal := concatenate S8192x5120 1 [⟨S8192x1024, a0⟩, ⟨S8192x1024, a1⟩, ⟨S8192x1024, a2⟩, ⟨S8192x512, a3⟩, ⟨S8192x512, a4⟩, ⟨S8192x768, a5⟩, ⟨S8192x64, a6⟩,
  ⟨S8192x64, a7⟩, ⟨S8192x48, a8⟩, ⟨S8192x80, a9⟩]
  concatenates_S8192x1024_S8192x1024_S8192x1024_S8192x512_S8192x512_S8192x768_S8192x64_S8192x64_S8192x48_S8192x80_S8192x5120_d1

theorem cat10_z (R : Fin 8192) (x : Fin 1024) : cat10 a0 a1 a2 a3 a4 a5 a6 a7 a8 a9 (ix2 R ⟨2048 + x.val, by omega⟩) = a2 (ix2 R x) := by
  pointwise
  refine (dif_neg (by omega)).trans ?_
  refine (dif_neg (by omega)).trans ?_
  refine (dif_pos (by omega)).trans ?_
  exact at2 a2 rfl (by dsimp; omega)
theorem cat10_k (R : Fin 8192) (x : Fin 64) : cat10 a0 a1 a2 a3 a4 a5 a6 a7 a8 a9 (ix2 R ⟨4864 + x.val, by omega⟩) = a6 (ix2 R x) := by
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 a6 rfl (by dsimp; omega)
theorem cat10_r (R : Fin 8192) (x : Fin 64) : cat10 a0 a1 a2 a3 a4 a5 a6 a7 a8 a9 (ix2 R ⟨4928 + x.val, by omega⟩) = a7 (ix2 R x) := by
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 a7 rfl (by dsimp; omega)
end Cat10

theorem v25_at (R : Fin 8192) (x : Fin 1024) : (U₃ (Proc.devRef .tc main_v25) : S8192x1024.Idx → EReal) (ix2 R x) = aP m c (ix2 R ⟨3952 + x.val, by omega⟩) := by
  after_reads_simp
  pointwise

theorem v27_at (R : Fin 8192) (x : Fin 64) : (U₃ (Proc.devRef .tc main_v27) : S8192x64.Idx → EReal) (ix2 R x) = aP m c (ix2 R ⟨3888 + x.val, by omega⟩) := by
  after_reads_simp
  pointwise
  exact at2 (aP m c) rfl (by dsimp; omega)

theorem v32_at (R : Fin 8192) (e : Fin 64) : (U₃ (Proc.devRef .tc main_v32) : S8192x64.Idx → EReal) (ix2 R e)
    = if he : e.val < 32 then -aP m c (ix2 R ⟨3920 + e.val, by omega⟩) else aP m c (ix2 R ⟨3888 + (e.val - 32), by omega⟩) := by
  after_reads_simp
  pointwise
  by_cases he : e.val < 32
  · rw [dif_pos he, dif_pos he]
    exact congrArg (fun x : EReal => -x) (at2 (aP m c) rfl (by dsimp; omega))
  · rw [dif_neg he, dif_neg he]
    exact at2 (aP m c) rfl (by dsimp; omega)

/-- The gate. -/
theorem v33_z (R : Fin 8192) (x : Fin 1024) : (V₀ m c (Proc.devRef .tc main_v33) : S8192x5120.Idx → EReal) (ix2 R ⟨2048 + x.val, by omega⟩)
    = aP m c (ix2 R ⟨3952 + x.val, by omega⟩) := by
  unfold V₀; after_reads_simp
  exact (cat10_z _ _ _ _ _ _ _ _ _ _ R x).trans (v25_at m c R x)

/-- The key to be turned. -/
theorem v33_k (R : Fin 8192) (x : Fin 64) : (V₀ m c (Proc.devRef .tc main_v33) : S8192x5120.Idx → EReal) (ix2 R ⟨4864 + x.val, by omega⟩)
    = aP m c (ix2 R ⟨3888 + x.val, by omega⟩) := by
  unfold V₀; after_reads_simp
  exact (cat10_k _ _ _ _ _ _ _ _ _ _ R x).trans (v27_at m c R x)

/-- The same, a quarter turn on. -/
theorem v33_r (R : Fin 8192) (e : Fin 64) : (V₀ m c (Proc.devRef .tc main_v33) : S8192x5120.Idx → EReal) (ix2 R ⟨4928 + e.val, by omega⟩)
    = if he : e.val < 32 then -aP m c (ix2 R ⟨3920 + e.val, by omega⟩) else aP m c (ix2 R ⟨3888 + (e.val - 32), by omega⟩) := by
  unfold V₀; after_reads_simp
  exact (cat10_r _ _ _ _ _ _ _ _ _ _ R e).trans (v32_at m c R e)

end Cert.KernelIdeal.Mla

end
-- ==== Proof.Mla.Blocks.lean ====
module

public import proofs.«01_k».proof.Proof.Mla.Host
public import Idealize.ShloMosaic.Lib.Pipeline.ValueKit.Geometry

@[expose] public section

/-! # The blocks a point reads, entry by entry -/

noncomputable section

namespace Cert.KernelIdeal.Mla

open Idealize.ShloMosaic Idealize.ShloMosaic.TcCoe Cert.KernelIdeal Cert.KernelIdeal.Gen Idealize.ShloMosaic.Pipeline

variable (m : (ℓ : Loc nD τ sig) → Buf (Elt Ideal) ℓ) (c : Dev nD) (t : Fin 136)

/-- The row of the whole array a block's row is. -/
abbrev qRow (r : Fin 512) : Fin 8192 := ⟨512 * qi t + r.val, by have := qi_lt t; omega⟩
abbrev kRow (r : Fin 512) : Fin 8192 := ⟨512 * ki t + r.val, by have := ki_lt t; omega⟩

theorem coords_gp : pt (grid0.coords (gp (F := Ideal) t)) = t := (pt_coords _).trans (Fin.ext rfl)

theorem qn_in (r : Fin 512) (x : Fin 1024) : (ins m c t).qn (ix2 r x)
    = (V₀ m c (Proc.devRef .tc main_v11) : S8192x2048.Idx → EReal) (ix2 (qRow t r) ⟨0 + x.val, by omega⟩) := by
  have e : ((C Ideal).win (0 : Fin 12)).index (gp t) = ![qi t, 0] := (tr0 (F := Ideal) (grid0.coords (gp (F := Ideal) t))).trans (by rw [coords_gp])
  show (V₀ m c (Proc.devRef .tc main_v11) : S8192x2048.Idx → EReal) ((((C Ideal).win (0 : Fin 12)).rect (gp t)).emb (ix2 r x)) = _
  have e0 := (Window.rect_emb_val ((C Ideal).win (0 : Fin 12)) (gp t) (ix2 r x) (0 : Fin 2) rfl).trans (congrArg (fun v : Fin 2 → ℕ => v 0 * 512 + r.val) e)
  have e1 := (Window.rect_emb_val ((C Ideal).win (0 : Fin 12)) (gp t) (ix2 r x) (1 : Fin 2) rfl).trans (congrArg (fun v : Fin 2 → ℕ => v 1 * 1024 + x.val) e)
  refine congrArg (V₀ m c (Proc.devRef .tc main_v11) : S8192x2048.Idx → EReal) (funext fun a => ?_)
  match a with
  | ⟨0, _⟩ => exact Fin.ext (e0.trans (show qi t * 512 + r.val = 512 * qi t + r.val by omega))
  | ⟨1, _⟩ => exact Fin.ext (e1.trans (show 0 * 1024 + x.val = 0 + x.val by omega))

theorem qp_in (r : Fin 512) (x : Fin 512) : (ins m c t).qp (ix2 r x)
    = (V₀ m c (Proc.devRef .tc main_v11) : S8192x2048.Idx → EReal) (ix2 (qRow t r) ⟨1024 + x.val, by omega⟩) := by
  have e : ((C Ideal).win (1 : Fin 12)).index (gp t) = ![qi t, 2] := (tr1 (F := Ideal) (grid0.coords (gp (F := Ideal) t))).trans (by rw [coords_gp])
  show (V₀ m c (Proc.devRef .tc main_v11) : S8192x2048.Idx → EReal) ((((C Ideal).win (1 : Fin 12)).rect (gp t)).emb (ix2 r x)) = _
  have e0 := (Window.rect_emb_val ((C Ideal).win (1 : Fin 12)) (gp t) (ix2 r x) (0 : Fin 2) rfl).trans (congrArg (fun v : Fin 2 → ℕ => v 0 * 512 + r.val) e)
  have e1 := (Window.rect_emb_val ((C Ideal).win (1 : Fin 12)) (gp t) (ix2 r x) (1 : Fin 2) rfl).trans (congrArg (fun v : Fin 2 → ℕ => v 1 * 512 + x.val) e)
  refine congrArg (V₀ m c (Proc.devRef .tc main_v11) : S8192x2048.Idx → EReal) (funext fun a => ?_)
  match a with
  | ⟨0, _⟩ => exact Fin.ext (e0.trans (show qi t * 512 + r.val = 512 * qi t + r.val by omega))
  | ⟨1, _⟩ => exact Fin.ext (e1.trans (show 2 * 512 + x.val = 1024 + x.val by omega))

theorem qpr_in (r : Fin 512) (x : Fin 512) : (ins m c t).qpr (ix2 r x)
    = (V₀ m c (Proc.devRef .tc main_v11) : S8192x2048.Idx → EReal) (ix2 (qRow t r) ⟨1536 + x.val, by omega⟩) := by
  have e : ((C Ideal).win (2 : Fin 12)).index (gp t) = ![qi t, 3] := (tr2 (F := Ideal) (grid0.coords (gp (F := Ideal) t))).trans (by rw [coords_gp])
  show (V₀ m c (Proc.devRef .tc main_v11) : S8192x2048.Idx → EReal) ((((C Ideal).win (2 : Fin 12)).rect (gp t)).emb (ix2 r x)) = _
  have e0 := (Window.rect_emb_val ((C Ideal).win (2 : Fin 12)) (gp t) (ix2 r x) (0 : Fin 2) rfl).trans (congrArg (fun v : Fin 2 → ℕ => v 0 * 512 + r.val) e)
  have e1 := (Window.rect_emb_val ((C Ideal).win (2 : Fin 12)) (gp t) (ix2 r x) (1 : Fin 2) rfl).trans (congrArg (fun v : Fin 2 → ℕ => v 1 * 512 + x.val) e)
  refine congrArg (V₀ m c (Proc.devRef .tc main_v11) : S8192x2048.Idx → EReal) (funext fun a => ?_)
  match a with
  | ⟨0, _⟩ => exact Fin.ext (e0.trans (show qi t * 512 + r.val = 512 * qi t + r.val by omega))
  | ⟨1, _⟩ => exact Fin.ext (e1.trans (show 3 * 512 + x.val = 1536 + x.val by omega))

theorem cq_in (r : Fin 512) (x : Fin 64) : (ins m c t).cq (ix2 r x)
    = (V₀ m c (Proc.devRef .tc main_v34) : S8192x64.Idx → EReal) (ix2 (qRow t r) ⟨0 + x.val, by omega⟩) := by
  have e : ((C Ideal).win (3 : Fin 12)).index (gp t) = ![qi t, 0] := (tr3 (F := Ideal) (grid0.coords (gp (F := Ideal) t))).trans (by rw [coords_gp])
  show (V₀ m c (Proc.devRef .tc main_v34) : S8192x64.Idx → EReal) ((((C Ideal).win (3 : Fin 12)).rect (gp t)).emb (ix2 r x)) = _
  have e0 := (Window.rect_emb_val ((C Ideal).win (3 : Fin 12)) (gp t) (ix2 r x) (0 : Fin 2) rfl).trans (congrArg (fun v : Fin 2 → ℕ => v 0 * 512 + r.val) e)
  have e1 := (Window.rect_emb_val ((C Ideal).win (3 : Fin 12)) (gp t) (ix2 r x) (1 : Fin 2) rfl).trans (congrArg (fun v : Fin 2 → ℕ => v 1 * 64 + x.val) e)
  refine congrArg (V₀ m c (Proc.devRef .tc main_v34) : S8192x64.Idx → EReal) (funext fun a => ?_)
  match a with
  | ⟨0, _⟩ => exact Fin.ext (e0.trans (show qi t * 512 + r.val = 512 * qi t + r.val by omega))
  | ⟨1, _⟩ => exact Fin.ext (e1.trans (show 0 * 64 + x.val = 0 + x.val by omega))

theorem sq_in (r : Fin 512) (x : Fin 64) : (ins m c t).sq (ix2 r x)
    = (V₀ m c (Proc.devRef .tc main_v35) : S8192x64.Idx → EReal) (ix2 (qRow t r) ⟨0 + x.val, by omega⟩) := by
  have e : ((C Ideal).win (4 : Fin 12)).index (gp t) = ![qi t, 0] := (tr4 (F := Ideal) (grid0.coords (gp (F := Ideal) t))).trans (by rw [coords_gp])
  show (V₀ m c (Proc.devRef .tc main_v35) : S8192x64.Idx → EReal) ((((C Ideal).win (4 : Fin 12)).rect (gp t)).emb (ix2 r x)) = _
  have e0 := (Window.rect_emb_val ((C Ideal).win (4 : Fin 12)) (gp t) (ix2 r x) (0 : Fin 2) rfl).trans (congrArg (fun v : Fin 2 → ℕ => v 0 * 512 + r.val) e)
  have e1 := (Window.rect_emb_val ((C Ideal).win (4 : Fin 12)) (gp t) (ix2 r x) (1 : Fin 2) rfl).trans (congrArg (fun v : Fin 2 → ℕ => v 1 * 64 + x.val) e)
  refine congrArg (V₀ m c (Proc.devRef .tc main_v35) : S8192x64.Idx → EReal) (funext fun a => ?_)
  match a with
  | ⟨0, _⟩ => exact Fin.ext (e0.trans (show qi t * 512 + r.val = 512 * qi t + r.val by omega))
  | ⟨1, _⟩ => exact Fin.ext (e1.trans (show 0 * 64 + x.val = 0 + x.val by omega))

theorem k_in (r : Fin 512) (x : Fin 1024) : (ins m c t).k (ix2 r x)
    = (V₀ m c (Proc.devRef .tc main_v18) : S8192x2048.Idx → EReal) (ix2 (kRow t r) ⟨0 + x.val, by omega⟩) := by
  have e : ((C Ideal).win (5 : Fin 12)).index (gp t) = ![ki t, 0] := (tr5 (F := Ideal) (grid0.coords (gp (F := Ideal) t))).trans (by rw [coords_gp])
  show (V₀ m c (Proc.devRef .tc main_v18) : S8192x2048.Idx → EReal) ((((C Ideal).win (5 : Fin 12)).rect (gp t)).emb (ix2 r x)) = _
  have e0 := (Window.rect_emb_val ((C Ideal).win (5 : Fin 12)) (gp t) (ix2 r x) (0 : Fin 2) rfl).trans (congrArg (fun v : Fin 2 → ℕ => v 0 * 512 + r.val) e)
  have e1 := (Window.rect_emb_val ((C Ideal).win (5 : Fin 12)) (gp t) (ix2 r x) (1 : Fin 2) rfl).trans (congrArg (fun v : Fin 2 → ℕ => v 1 * 1024 + x.val) e)
  refine congrArg (V₀ m c (Proc.devRef .tc main_v18) : S8192x2048.Idx → EReal) (funext fun a => ?_)
  match a with
  | ⟨0, _⟩ => exact Fin.ext (e0.trans (show ki t * 512 + r.val = 512 * ki t + r.val by omega))
  | ⟨1, _⟩ => exact Fin.ext (e1.trans (show 0 * 1024 + x.val = 0 + x.val by omega))

theorem v_in (r : Fin 512) (x : Fin 1024) : (ins m c t).v (ix2 r x)
    = (V₀ m c (Proc.devRef .tc main_v18) : S8192x2048.Idx → EReal) (ix2 (kRow t r) ⟨1024 + x.val, by omega⟩) := by
  have e : ((C Ideal).win (6 : Fin 12)).index (gp t) = ![ki t, 1] := (tr6 (F := Ideal) (grid0.coords (gp (F := Ideal) t))).trans (by rw [coords_gp])
  show (V₀ m c (Proc.devRef .tc main_v18) : S8192x2048.Idx → EReal) ((((C Ideal).win (6 : Fin 12)).rect (gp t)).emb (ix2 r x)) = _
  have e0 := (Window.rect_emb_val ((C Ideal).win (6 : Fin 12)) (gp t) (ix2 r x) (0 : Fin 2) rfl).trans (congrArg (fun v : Fin 2 → ℕ => v 0 * 512 + r.val) e)
  have e1 := (Window.rect_emb_val ((C Ideal).win (6 : Fin 12)) (gp t) (ix2 r x) (1 : Fin 2) rfl).trans (congrArg (fun v : Fin 2 → ℕ => v 1 * 1024 + x.val) e)
  refine congrArg (V₀ m c (Proc.devRef .tc main_v18) : S8192x2048.Idx → EReal) (funext fun a => ?_)
  match a with
  | ⟨0, _⟩ => exact Fin.ext (e0.trans (show ki t * 512 + r.val = 512 * ki t + r.val by omega))
  | ⟨1, _⟩ => exact Fin.ext (e1.trans (show 1 * 1024 + x.val = 1024 + x.val by omega))

theorem kpe_in (r : Fin 512) (x : Fin 128) : (ins m c t).kpe (ix2 r x)
    = (V₀ m c (Proc.devRef .tc main_v33) : S8192x5120.Idx → EReal) (ix2 (kRow t r) ⟨4864 + x.val, by omega⟩) := by
  have e : ((C Ideal).win (7 : Fin 12)).index (gp t) = ![ki t, 38] := (tr7 (F := Ideal) (grid0.coords (gp (F := Ideal) t))).trans (by rw [coords_gp])
  show (V₀ m c (Proc.devRef .tc main_v33) : S8192x5120.Idx → EReal) ((((C Ideal).win (7 : Fin 12)).rect (gp t)).emb (ix2 r x)) = _
  have e0 := (Window.rect_emb_val ((C Ideal).win (7 : Fin 12)) (gp t) (ix2 r x) (0 : Fin 2) rfl).trans (congrArg (fun v : Fin 2 → ℕ => v 0 * 512 + r.val) e)
  have e1 := (Window.rect_emb_val ((C Ideal).win (7 : Fin 12)) (gp t) (ix2 r x) (1 : Fin 2) rfl).trans (congrArg (fun v : Fin 2 → ℕ => v 1 * 128 + x.val) e)
  refine congrArg (V₀ m c (Proc.devRef .tc main_v33) : S8192x5120.Idx → EReal) (funext fun a => ?_)
  match a with
  | ⟨0, _⟩ => exact Fin.ext (e0.trans (show ki t * 512 + r.val = 512 * ki t + r.val by omega))
  | ⟨1, _⟩ => exact Fin.ext (e1.trans (show 38 * 128 + x.val = 4864 + x.val by omega))

theorem ck_in (r : Fin 512) (x : Fin 64) : (ins m c t).ck (ix2 r x)
    = (V₀ m c (Proc.devRef .tc main_v34) : S8192x64.Idx → EReal) (ix2 (kRow t r) ⟨0 + x.val, by omega⟩) := by
  have e : ((C Ideal).win (8 : Fin 12)).index (gp t) = ![ki t, 0] := (tr8 (F := Ideal) (grid0.coords (gp (F := Ideal) t))).trans (by rw [coords_gp])
  show (V₀ m c (Proc.devRef .tc main_v34) : S8192x64.Idx → EReal) ((((C Ideal).win (8 : Fin 12)).rect (gp t)).emb (ix2 r x)) = _
  have e0 := (Window.rect_emb_val ((C Ideal).win (8 : Fin 12)) (gp t) (ix2 r x) (0 : Fin 2) rfl).trans (congrArg (fun v : Fin 2 → ℕ => v 0 * 512 + r.val) e)
  have e1 := (Window.rect_emb_val ((C Ideal).win (8 : Fin 12)) (gp t) (ix2 r x) (1 : Fin 2) rfl).trans (congrArg (fun v : Fin 2 → ℕ => v 1 * 64 + x.val) e)
  refine congrArg (V₀ m c (Proc.devRef .tc main_v34) : S8192x64.Idx → EReal) (funext fun a => ?_)
  match a with
  | ⟨0, _⟩ => exact Fin.ext (e0.trans (show ki t * 512 + r.val = 512 * ki t + r.val by omega))
  | ⟨1, _⟩ => exact Fin.ext (e1.trans (show 0 * 64 + x.val = 0 + x.val by omega))

theorem sk_in (r : Fin 512) (x : Fin 64) : (ins m c t).sk (ix2 r x)
    = (V₀ m c (Proc.devRef .tc main_v35) : S8192x64.Idx → EReal) (ix2 (kRow t r) ⟨0 + x.val, by omega⟩) := by
  have e : ((C Ideal).win (9 : Fin 12)).index (gp t) = ![ki t, 0] := (tr9 (F := Ideal) (grid0.coords (gp (F := Ideal) t))).trans (by rw [coords_gp])
  show (V₀ m c (Proc.devRef .tc main_v35) : S8192x64.Idx → EReal) ((((C Ideal).win (9 : Fin 12)).rect (gp t)).emb (ix2 r x)) = _
  have e0 := (Window.rect_emb_val ((C Ideal).win (9 : Fin 12)) (gp t) (ix2 r x) (0 : Fin 2) rfl).trans (congrArg (fun v : Fin 2 → ℕ => v 0 * 512 + r.val) e)
  have e1 := (Window.rect_emb_val ((C Ideal).win (9 : Fin 12)) (gp t) (ix2 r x) (1 : Fin 2) rfl).trans (congrArg (fun v : Fin 2 → ℕ => v 1 * 64 + x.val) e)
  refine congrArg (V₀ m c (Proc.devRef .tc main_v35) : S8192x64.Idx → EReal) (funext fun a => ?_)
  match a with
  | ⟨0, _⟩ => exact Fin.ext (e0.trans (show ki t * 512 + r.val = 512 * ki t + r.val by omega))
  | ⟨1, _⟩ => exact Fin.ext (e1.trans (show 0 * 64 + x.val = 0 + x.val by omega))

theorem z_in (r : Fin 512) (x : Fin 1024) : (ins m c t).z (ix2 r x)
    = (V₀ m c (Proc.devRef .tc main_v33) : S8192x5120.Idx → EReal) (ix2 (qRow t r) ⟨2048 + x.val, by omega⟩) := by
  have e : ((C Ideal).win (10 : Fin 12)).index (gp t) = ![qi t, 2] := (tr10 (F := Ideal) (grid0.coords (gp (F := Ideal) t))).trans (by rw [coords_gp])
  show (V₀ m c (Proc.devRef .tc main_v33) : S8192x5120.Idx → EReal) ((((C Ideal).win (10 : Fin 12)).rect (gp t)).emb (ix2 r x)) = _
  have e0 := (Window.rect_emb_val ((C Ideal).win (10 : Fin 12)) (gp t) (ix2 r x) (0 : Fin 2) rfl).trans (congrArg (fun v : Fin 2 → ℕ => v 0 * 512 + r.val) e)
  have e1 := (Window.rect_emb_val ((C Ideal).win (10 : Fin 12)) (gp t) (ix2 r x) (1 : Fin 2) rfl).trans (congrArg (fun v : Fin 2 → ℕ => v 1 * 1024 + x.val) e)
  refine congrArg (V₀ m c (Proc.devRef .tc main_v33) : S8192x5120.Idx → EReal) (funext fun a => ?_)
  match a with
  | ⟨0, _⟩ => exact Fin.ext (e0.trans (show qi t * 512 + r.val = 512 * qi t + r.val by omega))
  | ⟨1, _⟩ => exact Fin.ext (e1.trans (show 2 * 1024 + x.val = 2048 + x.val by omega))

end Cert.KernelIdeal.Mla

end
-- ==== Proof.Mla.Rows.lean ====
module

public import proofs.«01_k».proof.Proof.Mla.Blocks
public import proofs.«01_k».proof.Proof.Mla.Spec

@[expose] public section

/-! # The rows of the online softmax

After each point, every row of the query block in hand keeps what the keys seen so far make it. The blocks are first read
back to the arguments, then one point's step is that of `kept_step`, and the points follow by induction. At a diagonal point
the quotient of the weighted sum by the sum of the weights is the attention's row. -/

noncomputable section

namespace Cert.KernelIdeal.Mla

open Idealize.ShloMosaic Idealize.ShloMosaic.TcCoe Cert.KernelIdeal Cert.KernelIdeal.Gen

theorem qsc_eq : qsc = (((Real.sqrt 192)⁻¹ * (Real.log 2)⁻¹ : ℝ) : EReal) :=
  IdealRules.named_const.ideal_named_scalar _ _ _ _ rfl

variable (m : (ℓ : Loc nD τ sig) → Buf (Elt Ideal) ℓ) (c : Dev nD) (t : Fin 136)

/-- A fresh block's queries. -/
theorem fresh_q (h : Fin 8) (r : Fin 512) (e : Fin 192) :
    (fresh (ins m c t)).q (ix2 r ⟨192 * h.val + e.val, by omega⟩) = qOf (aQ m c) (aC m c) (aS m c) h (qRow t r) e qsc := by
  refine (qTile_at h r _ _ _ _ _ e).trans ?_
  unfold qOf
  by_cases he : e.val < 128
  · rw [dif_pos he, dif_pos he]
    refine congrArg (fun x : EReal => x * qsc) ?_
    exact (qn_in m c t r _).trans ((at2 _ rfl (by dsimp; omega)).trans (v11_n m c _ h ⟨e.val, he⟩))
  · rw [dif_neg he, dif_neg he]
    refine congrArg₂ (fun x y : EReal => x + y) (congrArg₂ (fun x y : EReal => x * y) ?_ (congrArg (fun x : EReal => x * qsc) ?_))
      (congrArg₂ (fun x y : EReal => x * y) ?_ (congrArg (fun x : EReal => x * qsc) ?_))
    · exact (qp_in m c t r _).trans (v11_p m c _ h ⟨e.val - 128, by omega⟩)
    · exact (cq_in m c t r _).trans ((at2 _ rfl (by dsimp; omega)).trans (v34_at m c _ ⟨e.val - 128, by omega⟩))
    · exact (qpr_in m c t r _).trans (v11_r m c _ h ⟨e.val - 128, by omega⟩)
    · exact (sq_in m c t r _).trans ((at2 _ rfl (by dsimp; omega)).trans (v35_at m c _ ⟨e.val - 128, by omega⟩))

/-- A tile's keys. -/
abbrev keyTile : Vec Ideal S8x512x192 .bf16 := kcTile (ins m c t).k (ins m c t).kpe (ins m c t).ck (ins m c t).sk

theorem tile_k (h : Fin 8) (j : Fin 512) (e : Fin 192) : keyTile m c t (ix3 h j e) = kOf (aP m c) (aKV m c) (aC m c) (aS m c) h (kRow t j) e := by
  refine (kcTile_at h _ _ _ _ j e).trans ?_
  unfold kOf
  by_cases he : e.val < 128
  · rw [dif_pos he, dif_pos he]
    exact (k_in m c t j _).trans ((at2 _ rfl (by dsimp; omega)).trans (v18_k m c _ h ⟨e.val, he⟩))
  · rw [dif_neg he, dif_neg he]
    refine congrArg₂ (fun x y : EReal => x + y) (congrArg₂ (fun x y : EReal => x * y) ?_ ?_) (congrArg₂ (fun x y : EReal => x * y) ?_ ?_)
    · exact (kpe_in m c t j _).trans (v33_k m c _ ⟨e.val - 128, by omega⟩)
    · exact (ck_in m c t j _).trans ((at2 _ rfl (by dsimp; omega)).trans (v34_at m c _ ⟨e.val - 128, by omega⟩))
    · exact (kpe_in m c t j _).trans ((at2 _ rfl (by dsimp; omega)).trans (v33_r m c _ ⟨e.val - 128, by omega⟩))
    · exact (sk_in m c t j _).trans ((at2 _ rfl (by dsimp; omega)).trans (v35_at m c _ ⟨e.val - 128, by omega⟩))

/-- A tile's values. -/
theorem tile_v (h : Fin 8) (j : Fin 512) (d : Fin 128) : (ins m c t).v (ix2 j ⟨128 * h.val + d.val, by omega⟩)
    = aKV m c (ix2 (kRow t j) ⟨256 * h.val + 128 + d.val, by omega⟩) :=
  (v_in m c t j _).trans (v18_v m c _ h d)

/-- A block's gates. -/
theorem block_z (h : Fin 8) (r : Fin 512) (d : Fin 128) : (ins m c t).z (ix2 r ⟨128 * h.val + d.val, by omega⟩)
    = aP m c (ix2 (qRow t r) ⟨3952 + (128 * h.val + d.val), by omega⟩) :=
  (z_in m c t r _).trans (v33_z m c _ ⟨128 * h.val + d.val, by omega⟩)

/-- The score of a row of the block in hand and a key. -/
abbrev sc (h : Fin 8) (R k : Fin 8192) : ℝ := score (aP m c) (aQ m c) (aKV m c) (aC m c) (aS m c) h R k

/-- A head's values. -/
abbrev vals (h : Fin 8) (d : Fin 128) (k : Fin 8192) : EReal := aKV m c (ix2 k ⟨256 * h.val + 128 + d.val, by omega⟩)

/-- The state `st` keeps of row `r` and head `h` what the first `n` keys make it, and the row's query. -/
def Holds (n : ℕ) (st : St Ideal) : Prop := ∀ (h : Fin 8) (r : Fin 512),
  (∀ e : Fin 192, st.q (ix2 r ⟨192 * h.val + e.val, by omega⟩) = qOf (aQ m c) (aC m c) (aS m c) h (qRow t r) e qsc)
    ∧ Kept (keys (512 * qi t + r.val) n) (sc m c h (qRow t r)) (vals m c h) (fun i => st.m (ix3 h r i)) (fun i => st.l (ix3 h r i)) (fun i => st.acc (ix3 h r i))

theorem holds_fresh : Holds m c t 0 (fresh (ins m c t)) := fun h r =>
  ⟨fresh_q m c t h r, kept_zero _ _ _ (Ideal.ofBits .f32 0xE0AD78EC#32) floor_real _ _ _ (fun i => filled_at h r _ i)
    (fun i => (filled_at h r _ i).trans (by simp [Ideal.ofBits, Ideal.ieee])) (fun i => (filled_at h r _ i).trans (by simp [Ideal.ofBits, Ideal.ieee]))⟩

variable {m c}
variable (H : AllReal (aP m c) (aQ m c) (aKV m c) (aC m c) (aS m c))
include H

/-- One point's step. -/
theorem holds_advance (st : St Ideal) (hst : Holds m c t (512 * ki t) st) : Holds m c t (512 * (ki t + 1)) (advance (maskAt t) (ins m c t) st) := by
  intro h r
  obtain ⟨hq, hk⟩ := hst h r
  refine ⟨hq, ?_⟩
  have hσ : ∀ j : Fin 512, scOf (maskAt t) st.q (keyTile m c t) h (ix2 r j)
      = if 512 * ki t + j.val ≤ 512 * qi t + r.val then ((sc m c h (qRow t r) ⟨512 * ki t + j.val, by have := ki_lt t; omega⟩ : ℝ) : EReal) else ⊥ := fun j => by
    rw [scOf_at]
    refine if_congr Iff.rfl ?_ rfl
    refine Eq.trans (Finset.sum_congr rfl fun e _ => ?_) (products H h (qRow t r) (kRow t j))
    rw [hq e, tile_k, qsc_eq]
  refine kept_step _ (ki t) (ki_lt t) _ _ _ _ _ _ _ _ (fun j => scOf (maskAt t) st.q (keyTile m c t) h (ix2 r j)) hσ ?_ ?_ ?_ hk
  · intro i
    exact mNew_at (maskAt t) st.q (keyTile m c t) st.m h r i
  · intro i
    refine (lTile_at (maskAt t) st.q (keyTile m c t) st.m st.l h r i).trans (congrArg₂ (fun x y : EReal => x + y) rfl ?_)
    refine (sum_lanes fun j => pNew (sNew (maskAt t) st.q (keyTile m c t)) (mNew (maskAt t) st.q (keyTile m c t) st.m) (ix3 h r j)).trans ?_
    refine Finset.sum_congr rfl fun j _ => ?_
    rw [pNew_at, sNew_at]
    rfl
  · intro i
    refine (accTile_at (maskAt t) st.q (keyTile m c t) (ins m c t).v st.m st.acc h r i).trans (congrArg₂ (fun x y : EReal => x + y) rfl ?_)
    refine Finset.sum_congr rfl fun j _ => ?_
    rw [pNew_at, sNew_at, tile_v]
    rfl

omit H in
theorem before_it : ∀ t : Fin 136, ki t ≠ 0 → 0 < t.val ∧ qi ⟨t.val - 1, by omega⟩ = qi t ∧ ki ⟨t.val - 1, by omega⟩ + 1 = ki t := by decide +kernel

/-- After every point. -/
theorem holds_all : ∀ (n : ℕ) (hn : n < 136), Holds m c ⟨n, hn⟩ (512 * (ki ⟨n, hn⟩ + 1)) (states m c (n + 1)) := by
  intro n
  induction n with
  | zero =>
    intro hn
    rw [show states m c (0 + 1) = _ from states_succ m c ⟨0, hn⟩]
    refine holds_advance ⟨0, hn⟩ H _ ?_
    have h0 : ki ⟨0, hn⟩ = 0 := (by decide +kernel : ki (0 : Fin 136) = 0)
    unfold entry
    rw [if_pos h0, h0]
    exact holds_fresh m c ⟨0, hn⟩
  | succ n ih =>
    intro hn
    rw [show states m c (n + 1 + 1) = _ from states_succ m c ⟨n + 1, hn⟩]
    refine holds_advance ⟨n + 1, hn⟩ H _ ?_
    unfold entry
    by_cases h0 : ki ⟨n + 1, hn⟩ = 0
    · rw [if_pos h0, h0]
      exact holds_fresh m c ⟨n + 1, hn⟩
    · rw [if_neg h0]
      obtain ⟨-, e1, e2⟩ := before_it ⟨n + 1, hn⟩ h0
      have e1' : qi ⟨n, by omega⟩ = qi ⟨n + 1, hn⟩ := e1
      have e2' : ki ⟨n, by omega⟩ + 1 = ki ⟨n + 1, hn⟩ := e2
      have g := ih (by omega)
      rw [e2'] at g
      intro h r
      have er : qRow ⟨n + 1, hn⟩ r = qRow ⟨n, by omega⟩ r := Fin.ext (by dsimp; omega)
      rw [er, ← e1']
      exact g h r

/-- The output block at a diagonal point. -/
theorem outBlk_at (hd : ki t = qi t) (h : Fin 8) (r : Fin 512) (d : Fin 128) : outBlk m c t (ix2 r ⟨128 * h.val + d.val, by omega⟩)
    = attend (aP m c) (aQ m c) (aKV m c) (aC m c) (aS m c) h (qRow t r) d * gate (aP m c) h (qRow t r) d := by
  obtain ⟨-, M, hM⟩ := holds_all H t.val t.isLt h r
  obtain ⟨-, hl, ha⟩ := hM d
  refine (outNew_at _ _ h r _ d).trans ?_
  have ek : keys (512 * qi t + r.val) (512 * (ki t + 1)) = upTo (qRow t r) := keys_upTo (qRow t r) _ (by rw [hd]; dsimp; omega)
  refine congrArg₂ (fun x y : EReal => x * y) ?_ ?_
  · refine (congrArg₂ (fun x y : EReal => Ideal.div x y) ha hl).trans ?_
    show Ideal.div (asum (keys (512 * qi t + r.val) (512 * (ki t + 1))) _ _ M) ((lsum (keys (512 * qi t + r.val) (512 * (ki t + 1))) _ M : ℝ) : EReal) = _
    rw [ek, asum_div _ (upTo_nonempty _)]
    rfl
  · unfold gate
    rw [block_z]

end Cert.KernelIdeal.Mla

end
-- ==== Proof.Mla.Out.lean ====
module

public import proofs.«01_k».proof.Proof.Mla.Rows

@[expose] public section

/-! # The array the kernel leaves

Each row block is written at its diagonal point, and the row blocks fill the array. -/

noncomputable section

namespace Cert.KernelIdeal.Mla

open Idealize.ShloMosaic Idealize.ShloMosaic.TcCoe Cert.KernelIdeal Cert.KernelIdeal.Gen Idealize.ShloMosaic.Pipeline

/-- The attention, gated, as an array. -/
def attention (P : (⟨2, ![8192, 4976]⟩ : Shape).Idx → EReal) (Q : (⟨2, ![8192, 1536]⟩ : Shape).Idx → EReal)
    (KV : (⟨2, ![8192, 2048]⟩ : Shape).Idx → EReal) (C S : (⟨2, ![8192, 32]⟩ : Shape).Idx → EReal) : (⟨2, ![8192, 1024]⟩ : Shape).Idx → EReal := fun i =>
  attend P Q KV C S ⟨(i 1).val / 128, by have : (i 1).val < 1024 := (i 1).isLt; omega⟩ (i 0) ⟨(i 1).val % 128, by omega⟩
    * gate P ⟨(i 1).val / 128, by have : (i 1).val < 1024 := (i 1).isLt; omega⟩ (i 0) ⟨(i 1).val % 128, by omega⟩

theorem attention_at (P : (⟨2, ![8192, 4976]⟩ : Shape).Idx → EReal) (Q : (⟨2, ![8192, 1536]⟩ : Shape).Idx → EReal)
    (KV : (⟨2, ![8192, 2048]⟩ : Shape).Idx → EReal) (C S : (⟨2, ![8192, 32]⟩ : Shape).Idx → EReal) (h : Fin 8) (R : Fin 8192) (d : Fin 128) :
    attention P Q KV C S (ix2 R ⟨128 * h.val + d.val, by omega⟩) = attend P Q KV C S h R d * gate P h R d := by
  have e1 : (⟨(128 * h.val + d.val) / 128, by omega⟩ : Fin 8) = h := Fin.ext (by dsimp; omega)
  have e2 : (⟨(128 * h.val + d.val) % 128, by omega⟩ : Fin 128) = d := Fin.ext (by dsimp; omega)
  exact congrArg₂ (fun (h : Fin 8) (d : Fin 128) => attend P Q KV C S h R d * gate P h R d) e1 e2

/-- Every index of such an array is a row, a head and a lane. -/
theorem split_idx {n : ℕ} (i : (⟨2, ![n, 1024]⟩ : Shape).Idx) : ∃ (R : Fin n) (h : Fin 8) (d : Fin 128), i = ix2 R ⟨128 * h.val + d.val, by omega⟩ := by
  have h1 : (i 1).val < 1024 := (i 1).isLt
  refine ⟨i 0, ⟨(i 1).val / 128, by omega⟩, ⟨(i 1).val % 128, by omega⟩, funext fun a => ?_⟩
  match a with
  | ⟨0, _⟩ => rfl
  | ⟨1, _⟩ => exact Fin.ext (show (i 1).val = 128 * ((i 1).val / 128) + (i 1).val % 128 by omega)

variable {m : (ℓ : Loc nD τ sig) → Buf (Elt Ideal) ℓ} {c : Dev nD}

theorem diagonal : ∀ q : Fin 16, ∃ t : Fin 136, qi t = q.val ∧ ki t = q.val := by decide +kernel

theorem out_array (H : AllReal (aP m c) (aQ m c) (aKV m c) (aC m c) (aS m c)) :
    (dats m 0 c).arrAt (11 : Fin 12) (C Ideal).N = (attention (aP m c) (aQ m c) (aKV m c) (aC m c) (aS m c) : S8192x1024.Idx → EReal) := by
  refine (dats m 0 c).arrAt_eq_of_emb (11 : Fin 12) (attention (aP m c) (aQ m c) (aKV m c) (aC m c) (aS m c) : S8192x1024.Idx → EReal) (fun t hf y => ?_) (fun i => ?_)
  · have hd : ki (t.cast N_0) = qi (t.cast N_0) := by
      rw [show ((C Ideal).win (11 : Fin 12)).flush t = _ from flush11 t] at hf
      exact of_decide_eq_true hf
    obtain ⟨r, h, d, hy⟩ := split_idx (n := 512) y
    have e0 := (Window.rect_emb_val ((C Ideal).win (11 : Fin 12)) t y (0 : Fin 2) rfl).trans (congrArg (fun v : Fin 2 → ℕ => v 0 * 512 + (y (0 : Fin 2)).val) (index11 t))
    have e1 := (Window.rect_emb_val ((C Ideal).win (11 : Fin 12)) t y (1 : Fin 2) rfl).trans (congrArg (fun v : Fin 2 → ℕ => v 1 * 1024 + (y (1 : Fin 2)).val) (index11 t))
    have ee : (((C Ideal).win (11 : Fin 12)).rect t).emb y = (ix2 (qRow (t.cast N_0) r) ⟨128 * h.val + d.val, by omega⟩ : S8192x1024.Idx) := by
      subst hy
      refine funext fun a => ?_
      match a with
      | ⟨0, _⟩ => exact Fin.ext (e0.trans (show qi (t.cast N_0) * 512 + r.val = 512 * qi (t.cast N_0) + r.val by omega))
      | ⟨1, _⟩ => exact Fin.ext (e1.trans (show 0 * 1024 + (128 * h.val + d.val) = 128 * h.val + d.val by omega))
    show outBlk m c (t.cast N_0) y = attention (aP m c) (aQ m c) (aKV m c) (aC m c) (aS m c) ((((C Ideal).win (11 : Fin 12)).rect t).emb y)
    refine Eq.trans ?_ (congrArg (attention (aP m c) (aQ m c) (aKV m c) (aC m c) (aS m c)) ee).symm
    refine Eq.trans (congrArg (outBlk m c (t.cast N_0)) hy) ?_
    exact (outBlk_at (t.cast N_0) H hd h r d).trans (attention_at _ _ _ _ _ h _ d).symm
  · obtain ⟨R, h, d, rfl⟩ := split_idx (n := 8192) i
    obtain ⟨t, h1, h2⟩ := diagonal ⟨R.val / 512, by omega⟩
    refine ⟨t.cast N_0.symm, (flush11 _).trans (decide_eq_true (h2.trans h1.symm)), ?_⟩
    refine (((C Ideal).win (11 : Fin 12)).emb_mem_blk_iff (t.cast N_0.symm) (ix2 R ⟨128 * h.val + d.val, by omega⟩ : S8192x1024.Idx) rfl).mpr fun a => ?_
    have ei := index11 (F := Ideal) (t.cast N_0.symm)
    have h1' : qi ((t.cast N_0.symm : Fin (C Ideal).N).cast N_0) = R.val / 512 := h1
    match a with
    | ⟨0, _⟩ =>
      have e := congrFun ei (0 : Fin 2)
      have : ((C Ideal).win (11 : Fin 12)).index (t.cast N_0.symm) (0 : Fin 2) * 512 ≤ R.val ∧ R.val < ((C Ideal).win (11 : Fin 12)).index (t.cast N_0.symm) (0 : Fin 2) * 512 + 512 := by
        rw [e]; show qi _ * 512 ≤ _ ∧ _ < qi _ * 512 + 512; rw [h1']; omega
      exact this
    | ⟨1, _⟩ =>
      have e := congrFun ei (1 : Fin 2)
      have : ((C Ideal).win (11 : Fin 12)).index (t.cast N_0.symm) (1 : Fin 2) * 1024 ≤ 128 * h.val + d.val
          ∧ 128 * h.val + d.val < ((C Ideal).win (11 : Fin 12)).index (t.cast N_0.symm) (1 : Fin 2) * 1024 + 1024 := by
        rw [e]; show 0 * 1024 ≤ _ ∧ _ < 0 * 1024 + 1024; omega
      exact this

end Cert.KernelIdeal.Mla

end
-- ==== Proof.Mla.Ref.lean ====
module

public import proofs.«01_k».proof.Proof.Gen.ReferenceIdeal.Run
public import proofs.«01_k».proof.Proof.Mla.Out

@[expose] public section

/-! # The reference, entry by entry

The reference's one long term is cut at its natural places, and each part is read at an index: the turned parts, the
scores, the mask, the softmax, the weighted values, the gate. -/

noncomputable section

namespace Cert.ReferenceIdeal.Plain

open Cert.ReferenceIdeal Cert.ReferenceIdeal.Gen Idealize.ShloMosaic Idealize.ShloMosaic.TcCoe
open Cert.KernelIdeal.Mla (AllReal rP rQ rK rC turn qTurn kTurn logit score upTo attend gate attention at2 at3 two split_idx attention_at coe_sum)

/-- The keys' positional part, turned. -/
def rotK (P : FVec Ideal S8192x4976 .f32) (C S : FVec Ideal S8192x32 .f32) : FVec Ideal S8192x64 .f32 :=
  concatenate S8192x64 1 [⟨S8192x32, (subf (mulf (extractStridedSlice S8192x32 ![0, 0] (extractStridedSlice S8192x64 ![0, 3888] P slices_S8192x4976_S8192x64_0_3888) slices_S8192x64_S8192x32_0_0) C) (mulf (extractStridedSlice S8192x32 ![0, 32] (extractStridedSlice S8192x64 ![0, 3888] P slices_S8192x4976_S8192x64_0_3888) slices_S8192x64_S8192x32_0_32) S))⟩, ⟨S8192x32, (addf (mulf (extractStridedSlice S8192x32 ![0, 0] (extractStridedSlice S8192x64 ![0, 3888] P slices_S8192x4976_S8192x64_0_3888) slices_S8192x64_S8192x32_0_0) S) (mulf (extractStridedSlice S8192x32 ![0, 32] (extractStridedSlice S8192x64 ![0, 3888] P slices_S8192x4976_S8192x64_0_3888) slices_S8192x64_S8192x32_0_32) C))⟩] concatenates_S8192x32_S8192x32_S8192x64_d1

/-- The queries' positional part, turned. -/
def rotQ (Q : FVec Ideal S8192x1536 .f32) (C S : FVec Ideal S8192x32 .f32) : FVec Ideal S8192x8x64 .f32 :=
  concatenate S8192x8x64 2 [⟨S8192x8x32, (subf (mulf (extractStridedSlice S8192x8x32 ![0, 0, 0] (extractStridedSlice S8192x8x64 ![0, 0, 128] (shapeCast _ Q shapeCasts_S8192x1536_S8192x8x192) slices_S8192x8x192_S8192x8x64_0_0_128) slices_S8192x8x64_S8192x8x32_0_0_0) (broadcastInDim S8192x8x32 ![0, 1, 2] bcast_S8192x1x32_S8192x8x32_0_1_2 (shapeCast _ C shapeCasts_S8192x32_S8192x1x32))) (mulf (extractStridedSlice S8192x8x32 ![0, 0, 32] (extractStridedSlice S8192x8x64 ![0, 0, 128] (shapeCast _ Q shapeCasts_S8192x1536_S8192x8x192) slices_S8192x8x192_S8192x8x64_0_0_128) slices_S8192x8x64_S8192x8x32_0_0_32) (broadcastInDim S8192x8x32 ![0, 1, 2] bcast_S8192x1x32_S8192x8x32_0_1_2 (shapeCast _ S shapeCasts_S8192x32_S8192x1x32))))⟩, ⟨S8192x8x32, (addf (mulf (extractStridedSlice S8192x8x32 ![0, 0, 0] (extractStridedSlice S8192x8x64 ![0, 0, 128] (shapeCast _ Q shapeCasts_S8192x1536_S8192x8x192) slices_S8192x8x192_S8192x8x64_0_0_128) slices_S8192x8x64_S8192x8x32_0_0_0) (broadcastInDim S8192x8x32 ![0, 1, 2] bcast_S8192x1x32_S8192x8x32_0_1_2 (shapeCast _ S shapeCasts_S8192x32_S8192x1x32))) (mulf (extractStridedSlice S8192x8x32 ![0, 0, 32] (extractStridedSlice S8192x8x64 ![0, 0, 128] (shapeCast _ Q shapeCasts_S8192x1536_S8192x8x192) slices_S8192x8x192_S8192x8x64_0_0_128) slices_S8192x8x64_S8192x8x32_0_0_32) (broadcastInDim S8192x8x32 ![0, 1, 2] bcast_S8192x1x32_S8192x8x32_0_1_2 (shapeCast _ C shapeCasts_S8192x32_S8192x1x32))))⟩] concatenates_S8192x8x32_S8192x8x32_S8192x8x64_d2

/-- The scaled products. -/
def raw (P : FVec Ideal S8192x4976 .f32) (Q : FVec Ideal S8192x1536 .f32) (KV : FVec Ideal S8192x2048 .f32) (C S : FVec Ideal S8192x32 .f32) : FVec Ideal S8x8192x8192 .f32 :=
  Host.divf (addf (Host.dotGeneral dot_S8192x8x128_S8192x8x128_S8x8192x8192_2_2_0_0_1_1 none (extractStridedSlice S8192x8x128 ![0, 0, 0] (shapeCast _ Q shapeCasts_S8192x1536_S8192x8x192) slices_S8192x8x192_S8192x8x128_0_0_0) (extractStridedSlice S8192x8x128 ![0, 0, 0] (shapeCast _ KV shapeCasts_S8192x2048_S8192x8x256) slices_S8192x8x256_S8192x8x128_0_0_0)) (transpose S8x8192x8192 [2, 1, 0] (Host.dotGeneral dot_S8192x64_S8192x8x64_S8192x8192x8_1_2_0_01_n_n none (rotK P C S) (rotQ Q C S)) transposes_S8192x8192x8_S8x8192x8192_2_1_0)) (broadcastInDim S8x8192x8192 ![] bcast_S_S8x8192x8192 (Host.sqrt (constant S_ .f32 0x43400000#32)))

/-- Which keys a query may attend to. -/
def maskB : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The masked scores. -/
def masked (P : FVec Ideal S8192x4976 .f32) (Q : FVec Ideal S8192x1536 .f32) (KV : FVec Ideal S8192x2048 .f32) (C S : FVec Ideal S8192x32 .f32) : FVec Ideal S8x8192x8192 .f32 :=
  select maskB (raw P Q KV C S) (broadcastInDim S8x8192x8192 ![] bcast_S_S8x8192x8192 (id (constant S_ .f32 0xFF800000#32)))

/-- Each row's maximum. -/
def maxRow (X : FVec Ideal S8x8192x8192 .f32) : FVec Ideal S8x8192 .f32 :=
  maximumf (broadcastInDim S8x8192 ![] bcast_S_S8x8192 (constant S_ .f32 0xFF800000#32)) (Host.reduce FloatOps.maximumf X (constant S_ .f32 0xFF800000#32) reducesTo_S8x8192x8192_S8x8192_d2 h_S_)

/-- The exponentials of a row. -/
def expRow (X : FVec Ideal S8x8192x8192 .f32) : FVec Ideal S8x8192x8192 .f32 :=
  Host.exp (subf X (broadcastInDim S8x8192x8192 ![0, 1, 2] bcast_S8x8192x1_S8x8192x8192_0_1_2 (broadcastInDim S8x8192x1 ![0, 1] bcast_S8x8192_S8x8192x1_0_1 (maxRow X))))

/-- Each row's sum. -/
def sumRow (E : FVec Ideal S8x8192x8192 .f32) : FVec Ideal S8x8192 .f32 :=
  Host.reduceAdd E (constant S_ .f32 0x00000000#32) reducesTo_S8x8192x8192_S8x8192_d2 h_S_

/-- The softmax, masked again. -/
def probs (X : FVec Ideal S8x8192x8192 .f32) : FVec Ideal S8x8192x8192 .f32 :=
  select maskB (Host.divf (expRow X) (broadcastInDim S8x8192x8192 ![0, 1, 2] bcast_S8x8192x1_S8x8192x8192_0_1_2 (broadcastInDim S8x8192x1 ![0, 1] bcast_S8x8192_S8x8192x1_0_1 (sumRow (expRow X))))) (broadcastInDim S8x8192x8192 ![] bcast_S_S8x8192x8192 (id (constant S_ .f32 0x00000000#32)))

/-- The values, weighted. -/
def mix (KV : FVec Ideal S8192x2048 .f32) (W : FVec Ideal S8x8192x8192 .f32) : FVec Ideal S8x128x8192 .f32 :=
  Host.dotGeneral dot_S8192x8x128_S8x8192x8192_S8x128x8192_0_2_2_1_1_0 none (extractStridedSlice S8192x8x128 ![0, 0, 128] (shapeCast _ KV shapeCasts_S8192x2048_S8192x8x256) slices_S8192x8x256_S8192x8x128_0_0_128) W

/-- The gate. -/
def gateR (P : FVec Ideal S8192x4976 .f32) : FVec Ideal S8192x1024 .f32 :=
  mulf (extractStridedSlice S8192x1024 ![0, 3952] P slices_S8192x4976_S8192x1024_0_3952) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 3952] P slices_S8192x4976_S8192x1024_0_3952)))))

/-- The result. -/
def whole (P : FVec Ideal S8192x4976 .f32) (Q : FVec Ideal S8192x1536 .f32) (KV : FVec Ideal S8192x2048 .f32) (C S : FVec Ideal S8192x32 .f32) : FVec Ideal S8192x1024 .bf16 :=
  truncf .bf16 (mulf (shapeCast _ (transpose S8192x8x128 [2, 0, 1] (mix KV (probs (masked P Q KV C S))) transposes_S8x128x8192_S8192x8x128_2_0_1) shapeCasts_S8192x8x128_S8192x1024) (gateR P)) bitsLt_bf16_f32

theorem whole_eq (m : (ℓ : Loc nD τ sig) → Buf (Elt Ideal) ℓ) (c : Dev nD) : Value.res_main_v63 m c
    = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v63
  rfl

/-- The maximum along the last axis, at any sizes. -/
theorem max_last {a b n : ℕ} (X : FVec Ideal ⟨3, ![a, b, n]⟩ .f32) (w : FVec Ideal ⟨0, ![]⟩ .f32) (h : (⟨3, ![a, b, n]⟩ : Shape).ReducesTo [2] ⟨2, ![a, b]⟩)
    (hu) (i : Fin a) (j : Fin b) :
    Host.reduce FloatOps.maximumf X w h hu (ix2 i j) = Finset.univ.fold max (w ix0) fun k : Fin n => X (ix3 i j k) := by
  have e : Shape.Idx.first hu = (ix0 : (⟨0, ![]⟩ : Shape).Idx) := funext fun a => a.elim0
  pointwise
  rw [e]

theorem root : Ideal.sqrt (Ideal.ofBits .f32 0x43400000#32) = ((Real.sqrt 192 : ℝ) : EReal) := by
  have e : Ideal.ofBits .f32 0x43400000#32 = ((192 : ℝ) : EReal) := by
    simp [Ideal.ofBits, Ideal.ieee]
    norm_num
    rw [← EReal.coe_mul]
    norm_num
  rw [e]
  show (if (192 : ℝ) < 0 then (⊥ : EReal) else ((Real.sqrt 192 : ℝ) : EReal)) = _
  rw [if_neg (by norm_num)]

variable {P : FVec Ideal S8192x4976 .f32} {Q : FVec Ideal S8192x1536 .f32} {KV : FVec Ideal S8192x2048 .f32} {C S : FVec Ideal S8192x32 .f32}

theorem gateR_at (R : Fin 8192) (h : Fin 8) (d : Fin 128) : gateR P (ix2 R ⟨128 * h.val + d.val, by omega⟩) = gate P h R d := by
  pointwise [gateR]
  rfl

theorem mix_at (W : FVec Ideal S8x8192x8192 .f32) (h : Fin 8) (R : Fin 8192) (d : Fin 128) :
    mix KV W (ix3 h d R) = ∑ k : Fin 8192, KV (ix2 k ⟨256 * h.val + 128 + d.val, by omega⟩) * W (ix3 h R k) := by
  pointwise [mix]
  exact Finset.sum_congr rfl fun k _ => congrArg (fun x : EReal => x * W (ix3 h R k)) (at2 KV rfl (by dsimp; omega))

theorem expRow_at (X : FVec Ideal S8x8192x8192 .f32) (h : Fin 8) (R k : Fin 8192) : expRow X (ix3 h R k) = Ideal.exp (X (ix3 h R k) - maxRow X (ix2 h R)) := by
  pointwise [expRow]

theorem sumRow_at (X : FVec Ideal S8x8192x8192 .f32) (h : Fin 8) (R : Fin 8192) : sumRow X (ix2 h R) = ∑ k : Fin 8192, X (ix3 h R k) := by
  pointwise [sumRow]

theorem larger {s : Shape} (A B : FVec Ideal s .f32) (i : s.Idx) : maximumf A B i = max (A i) (B i) := rfl

theorem maxRow_at (X : FVec Ideal S8x8192x8192 .f32) (h : Fin 8) (R : Fin 8192) :
    maxRow X (ix2 h R) = max ⊥ (Finset.univ.fold max ⊥ fun k : Fin 8192 => X (ix3 h R k)) := by
  unfold maxRow
  rw [larger, max_last X]
  refine congrArg₂ (fun (x y : EReal) => max x (Finset.univ.fold max y fun k : Fin 8192 => X (ix3 h R k))) ?_ Cert.KernelIdeal.Mla.minus_inf
  exact Cert.KernelIdeal.Mla.minus_inf

theorem select_le (k R : Fin 8192) (x y : EReal) :
    Scalar.select (IntOp.cmpi CmpIPredicate.sle (BitVec.ofNat 32 k.val) (BitVec.ofNat 32 R.val)) x y = if k.val ≤ R.val then x else y := by
  rw [WordCmp.cmpi_sle_ofNat (by omega) (by omega)]
  by_cases h : k.val ≤ R.val
  · rw [if_pos h, show decide (k.val ≤ R.val) = true from decide_eq_true h]; rfl
  · rw [if_neg h, show decide (k.val ≤ R.val) = false from decide_eq_false h]; rfl

theorem probs_at (X : FVec Ideal S8x8192x8192 .f32) (h : Fin 8) (R k : Fin 8192) :
    probs X (ix3 h R k) = if k.val ≤ R.val then Ideal.div (expRow X (ix3 h R k)) (sumRow (expRow X) (ix2 h R)) else 0 := by
  pointwise [probs, maskB]
  refine (select_le k R _ _).trans (if_congr Iff.rfl rfl ?_)
  show Ideal.ofBits .f32 0x00000000#32 = 0
  simp [Ideal.ofBits, Ideal.ieee]

theorem masked_at (h : Fin 8) (R k : Fin 8192) : masked P Q KV C S (ix3 h R k) = if k.val ≤ R.val then raw P Q KV C S (ix3 h R k) else ⊥ := by
  pointwise [masked, maskB]
  exact (select_le k R _ _).trans (if_congr Iff.rfl rfl Cert.KernelIdeal.Mla.minus_inf)

theorem rotK_at (H : AllReal P Q KV C S) (k : Fin 8192) (e : Fin 64) : rotK P C S (ix2 k e) = (kTurn P C S k e : EReal) := by
  pointwise [rotK]
  unfold kTurn turn
  by_cases he : e.val < 32
  · have em : e.val % 32 = e.val := by omega
    rw [dif_pos he, if_pos he]
    simp only [em]
    rw [H.p k e.val e.isLt, H.p k (32 + e.val) (by omega), H.c, H.s]
    norm_cast
  · have em : e.val % 32 = e.val - 32 := by omega
    rw [dif_neg he, if_neg he]
    simp only [em]
    rw [H.p k (e.val - 32) (by omega), H.p k (32 + (e.val - 32)) (by omega), H.c, H.s]
    norm_cast

theorem q_at (H : AllReal P Q KV C S) (R : Fin 8192) (x : Fin 1536) (y : ℕ) (hy : y < 1536) (e : x.val = y) : Q (ix2 R x) = (rQ Q R y hy : EReal) := by
  subst e; exact H.q R x.val _

theorem rotQ_at (H : AllReal P Q KV C S) (R : Fin 8192) (h : Fin 8) (e : Fin 64) : rotQ Q C S (ix3 R h e) = (qTurn Q C S h R e : EReal) := by
  pointwise [rotQ]
  unfold qTurn turn
  by_cases he : e.val < 32
  · have em : e.val % 32 = e.val := by omega
    rw [dif_pos he, if_pos he]
    simp only [em]
    rw [q_at H R ⟨h.val * 192 + (128 + e.val), by omega⟩ (192 * h.val + 128 + e.val) (by omega) (by dsimp; omega),
      q_at H R ⟨h.val * 192 + (128 + (32 + e.val)), by omega⟩ (192 * h.val + 160 + e.val) (by omega) (by dsimp; omega), H.c, H.s]
    norm_cast
  · have em : e.val % 32 = e.val - 32 := by omega
    rw [dif_neg he, if_neg he]
    simp only [em]
    rw [q_at H R ⟨h.val * 192 + (128 + (e.val - 32)), by omega⟩ (192 * h.val + 128 + (e.val - 32)) (by omega) (by dsimp; omega),
      q_at H R ⟨h.val * 192 + (128 + (32 + (e.val - 32))), by omega⟩ (192 * h.val + 160 + (e.val - 32)) (by omega) (by dsimp; omega), H.c, H.s]
    norm_cast

theorem raw_at (H : AllReal P Q KV C S) (h : Fin 8) (R k : Fin 8192) : raw P Q KV C S (ix3 h R k) = (logit P Q KV C S h R k : EReal) := by
  have e1 : ∀ d : Fin 128, Q (ix2 R ⟨h.val * 192 + d.val, by omega⟩) * KV (ix2 k ⟨h.val * 256 + d.val, by omega⟩)
      = ((rQ Q R (192 * h.val + d.val) (by omega) * rK KV k h d : ℝ) : EReal) := fun d => by
    rw [q_at H R ⟨h.val * 192 + d.val, by omega⟩ (192 * h.val + d.val) (by omega) (by dsimp; omega),
      at2 KV (a' := k) (b' := ⟨256 * h.val + d.val, by omega⟩) rfl (by dsimp; omega), H.k]
    norm_cast
  have e2 : ∀ e : Fin 64, rotK P C S (ix2 k e) * rotQ Q C S (ix3 R h e) = ((kTurn P C S k e * qTurn Q C S h R e : ℝ) : EReal) := fun e => by
    rw [rotK_at H, rotQ_at H]
    norm_cast
  pointwise [raw]
  rw [root, Finset.sum_congr rfl fun d _ => e1 d, Finset.sum_congr rfl fun e _ => e2 e, ← coe_sum, ← coe_sum, ← EReal.coe_add,
    Ideal.div_coe (by positivity), ← EReal.coe_mul]
  unfold logit
  rw [one_div]

/-- The row's maximum is real. -/
theorem maxRow_real (H : AllReal P Q KV C S) (h : Fin 8) (R : Fin 8192) : ∃ M : ℝ, maxRow (masked P Q KV C S) (ix2 h R) = (M : EReal) := by
  rw [maxRow_at]
  refine ⟨EReal.toReal _, (EReal.coe_toReal ?_ ?_).symm⟩
  · refine (max_lt bot_lt_top ((Finset.fold_max_lt _).mpr ⟨bot_lt_top, fun k _ => ?_⟩)).ne
    rw [masked_at, raw_at H]
    split
    · exact EReal.coe_lt_top _
    · exact bot_lt_top
  · refine (lt_of_lt_of_le (EReal.bot_lt_coe (logit P Q KV C S h R R)) ((le_max_right _ _).trans' ((Finset.le_fold_max _).mpr (.inr ⟨R, Finset.mem_univ _, ?_⟩)))).ne'
    rw [masked_at, raw_at H, if_pos le_rfl]

theorem exp_two (x : ℝ) : Real.exp x = two (x * (Real.log 2)⁻¹) := by
  show _ = (2 : ℝ) ^ (x * (Real.log 2)⁻¹)
  rw [Real.rpow_def_of_pos (by norm_num)]
  congr 1
  have : Real.log 2 ≠ 0 := (Real.log_pos (by norm_num)).ne'
  field_simp

/-- The softmax, from the scores to base two. -/
theorem weights (H : AllReal P Q KV C S) (h : Fin 8) (R k : Fin 8192) : probs (masked P Q KV C S) (ix3 h R k)
    = if k.val ≤ R.val then ((two (score P Q KV C S h R k) / ∑ i ∈ upTo R, two (score P Q KV C S h R i) : ℝ) : EReal) else 0 := by
  obtain ⟨M, hM⟩ := maxRow_real H h R
  have ex : ∀ i : Fin 8192, expRow (masked P Q KV C S) (ix3 h R i) = ((if i.val ≤ R.val then Real.exp (logit P Q KV C S h R i - M) else 0 : ℝ) : EReal) := fun i => by
    rw [expRow_at, hM, masked_at, raw_at H]
    split
    · rw [← EReal.coe_sub]; rfl
    · rw [sub_eq_add_neg, EReal.bot_add]; rfl
  have es : sumRow (expRow (masked P Q KV C S)) (ix2 h R) = ((∑ i ∈ upTo R, Real.exp (logit P Q KV C S h R i - M) : ℝ) : EReal) := by
    rw [sumRow_at, Finset.sum_congr rfl fun i _ => ex i, ← coe_sum]
    unfold upTo
    rw [Finset.sum_filter]
  have hpos : 0 < ∑ i ∈ upTo R, Real.exp (logit P Q KV C S h R i - M) := Finset.sum_pos (fun i _ => Real.exp_pos _) (Cert.KernelIdeal.Mla.upTo_nonempty R)
  rw [probs_at]
  refine if_ctx_congr Iff.rfl (fun hk => ?_) fun _ => rfl
  rw [ex, es, if_pos hk, Ideal.div_coe hpos.ne', ← EReal.coe_mul]
  refine congrArg _ ?_
  have e : ∀ i, Real.exp (logit P Q KV C S h R i - M) = two (score P Q KV C S h R i) * Real.exp (-M) := fun i => by
    rw [sub_eq_add_neg, Real.exp_add, exp_two (logit P Q KV C S h R i)]
    rfl
  simp only [e]
  rw [← Finset.sum_mul, mul_one_div, mul_div_mul_right _ _ (Real.exp_pos _).ne']

/-- The reference's result. -/
theorem whole_at (H : AllReal P Q KV C S) : whole P Q KV C S = (attention P Q KV C S : S8192x1024.Idx → EReal) := by
  funext i
  obtain ⟨R, h, d, rfl⟩ := split_idx (n := 8192) i
  rw [attention_at]
  have e : whole P Q KV C S (ix2 R ⟨128 * h.val + d.val, by omega⟩)
      = mix KV (probs (masked P Q KV C S)) (ix3 h d R) * gateR P (ix2 R ⟨128 * h.val + d.val, by omega⟩) := by
    pointwise [whole]
  refine e.trans ?_
  rw [gateR_at, mix_at]
  refine congrArg (fun x : EReal => x * gate P h R d) ?_
  unfold attend upTo
  rw [Finset.sum_filter]
  refine Finset.sum_congr rfl fun k _ => ?_
  rw [weights H]
  split
  · exact mul_comm _ _
  · exact mul_zero _

end Cert.ReferenceIdeal.Plain

end
-- ==== Proof.Mla.Value.lean ====
module

public import proofs.«01_k».proof.Defs
public import proofs.«01_k».proof.Proof.Mla.Frames
public import proofs.«01_k».proof.Proof.Mla.Finite
public import proofs.«01_k».proof.Proof.Mla.Ref

@[expose] public section

/-! # The value: the kernel's array and the reference's are the same attention -/

noncomputable section

namespace Cert.Proof

open Idealize.ShloMosaic Idealize.ShloMosaic.TcCoe Idealize.SL.Sem
open Cert.KernelIdeal.Mla (attention aP aQ aKV aC aS)

theorem frame_ideal_pre : @Cert.quiescent_KernelIdeal_pre_logits_finite Cert.KernelIdeal.Gen.facts Cert.Pre_logits_finite.holds := fun m g _ =>
  frame_ideal m g trivial

theorem frame_reference_pre : @Cert.quiescent_ReferenceIdeal_pre_logits_finite Cert.ReferenceIdeal.Gen.facts Cert.Pre_logits_finite.holds := fun m g _ =>
  frame_reference m g trivial

/-- Both programs end with the attention of the arguments. -/
theorem value : @Cert.algebraic_KernelIdeal_ReferenceIdeal_pre_logits_finite Cert.KernelIdeal.Gen.facts Cert.ReferenceIdeal.Gen.facts
    Cert.Pre_logits_finite.holds := by
  intro m g m' g' hpre hargs
  have H := fun c => @Cert.Pre_logits_finite.all_real Cert.Pre_logits_finite.holds _ _ _ _ _ (hpre c)
  refine ⟨fun c => (attention (aP m c) (aQ m c) (aKV m c) (aC m c) (aS m c) : Cert.KernelIdeal.S8192x1024.Idx → EReal), ?_, ?_⟩
  · exact (θ_run _ _ _).mono (fun r h c => ⟨((h.1 c).1).trans (Cert.KernelIdeal.Mla.out_array (H c)), (h.1 c).2⟩)
      (Cert.KernelIdeal.Mla.run m g)
  · refine (θ_run _ _ _).mono (fun r h c => ⟨((h c).1).trans ?_, (h c).2⟩) (Cert.ReferenceIdeal.Value.run m' g')
    obtain ⟨h0, h1, h2, h3, h4⟩ := hargs c
    rw [Cert.ReferenceIdeal.Plain.whole_eq, h0, h1, h2, h3, h4]
    exact Cert.ReferenceIdeal.Plain.whole_at (H c)

end Cert.Proof

end
-- ==== Proof.Proj.Plain.lean ====
module

public import proofs.«01_k».proof.Proof.Gen.Kernel2Ideal.Value
public import proofs.«01_k».proof.Proof.Gen.Reference2Ideal.Run
public import proofs.«01_k».proof.Proof.Mla.Cells
public import Idealize.ShloMosaic.Lib.Pipeline.ValueKit.Geometry
public import Idealize.ShloMosaic.Lib.StableHlo.RunRead

@[expose] public section

/-! # The second layer's projections: a product in blocks is the product -/

noncomputable section

namespace Cert.Kernel2Ideal.Proj

open Idealize.ShloMosaic Idealize.ShloMosaic.TcCoe Cert.Kernel2Ideal Cert.Kernel2Ideal.Gen Cert.Kernel2Ideal.Value Idealize.ShloMosaic.Pipeline
open Cert.KernelIdeal.Mla (at2)

/-- The product of two arrays. -/
def product (X : S8192x2048.Idx → EReal) (W : S2048x2048.Idx → EReal) : S8192x2048.Idx → EReal :=
  fun i => ∑ k : Fin 2048, X (ix2 (i 0) k) * W (ix2 k (i 1))

/-- What a point computes, at an index. -/
theorem block_at (x : Vec Ideal S1024x2048 .bf16) (w : Vec Ideal S2048x1024 .bf16) (r c : Fin 1024) :
    k0_pay1 x w (ix2 r c) = ∑ k : Fin 2048, x (ix2 r k) * w (ix2 k c) := by
  pointwise [k0_pay1]

variable (m : (ℓ : Loc nD τ sig) → Buf (Elt Ideal) ℓ) (c : Dev nD)

/-- The arguments. -/
abbrev aX : S8192x2048.Idx → EReal := m ((c : Thread nD τ).loc main_arg0)
abbrev aW : S2048x2048.Idx → EReal := m ((c : Thread nD τ).loc main_arg1)

theorem v0_eq : (V m c main_v0 : S8192x2048.Idx → EReal) = aX m c := by
  unfold V; after_reads_simp; rfl
theorem v1_eq : (V m c main_v1 : S2048x2048.Idx → EReal) = aW m c := by
  unfold V; after_reads_simp; rfl

theorem index0 : ∀ t : Fin cfg0.N, win0_0.index t = ![t.val / 2, 0] := (by decide +kernel : ∀ t : Fin grid0.N, win0_0.index t = ![t.val / 2, 0])
theorem index1 : ∀ t : Fin cfg0.N, win0_1.index t = ![0, t.val % 2] := (by decide +kernel : ∀ t : Fin grid0.N, win0_1.index t = ![0, t.val % 2])
theorem index2 : ∀ t : Fin cfg0.N, win0_2.index t = ![t.val / 2, t.val % 2] := (by decide +kernel : ∀ t : Fin grid0.N, win0_2.index t = ![t.val / 2, t.val % 2])
theorem points (t : Fin cfg0.N) : t.val < 16 := t.isLt

/-- The first array's block. -/
theorem x_in (t : Fin cfg0.N) (r : Fin 1024) (k : Fin 2048) : (iblk m c 0 t : S1024x2048.Idx → EReal) (ix2 r k)
    = aX m c (ix2 ⟨t.val / 2 * 1024 + r.val, by have := points t; omega⟩ k) := by
  rw [← v0_eq]
  show (V m c main_v0 : S8192x2048.Idx → EReal) (((cfg0.win (0 : Fin 3)).rect t).emb (ix2 r k)) = _
  have e0 := (Window.rect_emb_val (cfg0.win (0 : Fin 3)) t (ix2 r k) (0 : Fin 2) rfl).trans (congrArg (fun v : Fin 2 → ℕ => v 0 * 1024 + r.val) (index0 t))
  have e1 := (Window.rect_emb_val (cfg0.win (0 : Fin 3)) t (ix2 r k) (1 : Fin 2) rfl).trans (congrArg (fun v : Fin 2 → ℕ => v 1 * 2048 + k.val) (index0 t))
  refine congrArg (V m c main_v0 : S8192x2048.Idx → EReal) (funext fun a => ?_)
  match a with
  | ⟨0, _⟩ => exact Fin.ext e0
  | ⟨1, _⟩ => exact Fin.ext (e1.trans (show 0 * 2048 + k.val = k.val by omega))

/-- The weights' block. -/
theorem w_in (t : Fin cfg0.N) (k : Fin 2048) (r : Fin 1024) : (iblk m c 1 t : S2048x1024.Idx → EReal) (ix2 k r)
    = aW m c (ix2 k ⟨t.val % 2 * 1024 + r.val, by omega⟩) := by
  rw [← v1_eq]
  show (V m c main_v1 : S2048x2048.Idx → EReal) (((cfg0.win (1 : Fin 3)).rect t).emb (ix2 k r)) = _
  have e0 := (Window.rect_emb_val (cfg0.win (1 : Fin 3)) t (ix2 k r) (0 : Fin 2) rfl).trans (congrArg (fun v : Fin 2 → ℕ => v 0 * 2048 + k.val) (index1 t))
  have e1 := (Window.rect_emb_val (cfg0.win (1 : Fin 3)) t (ix2 k r) (1 : Fin 2) rfl).trans (congrArg (fun v : Fin 2 → ℕ => v 1 * 1024 + r.val) (index1 t))
  refine congrArg (V m c main_v1 : S2048x2048.Idx → EReal) (funext fun a => ?_)
  match a with
  | ⟨0, _⟩ => exact Fin.ext (e0.trans (show 0 * 2048 + k.val = k.val by omega))
  | ⟨1, _⟩ => exact Fin.ext e1

/-- What the body leaves is its one store. -/
theorem out_eq (x : Vec Ideal S1024x2048 .bf16) (w : Vec Ideal S2048x1024 .bf16) : out0_2 x w = k0_pay1 x w := by
  unfold out0_2
  rw [View.canon_cons_unit_lit _ _ _ (by decide), View.ld_unit_lit _ _ (by decide), View.ld_unit_lit _ _ (by decide)]

theorem flush2 : ∀ t : Fin cfg0.N, (cfg0.win (2 : Fin 3)).flush t = true := (by decide +kernel : ∀ t : Fin grid0.N, win0_2.flush t = true)

/-- What a point computes is its block of the product. -/
theorem cell (t : Fin cfg0.N) (r k : Fin 1024) : (out0_2 (iblk m c 0 t) (iblk m c 1 t) : S1024x1024.Idx → EReal) (ix2 r k)
    = product (aX m c) (aW m c) (ix2 ⟨t.val / 2 * 1024 + r.val, by have := points t; omega⟩ ⟨t.val % 2 * 1024 + k.val, by omega⟩) := by
  refine (congrFun (out_eq (iblk m c 0 t) (iblk m c 1 t)) (ix2 r k)).trans ((block_at _ _ r k).trans ?_)
  exact Finset.sum_congr rfl fun e _ => congrArg₂ (fun x y : EReal => x * y) (x_in m c t r e) (w_in m c t e k)

/-- The array after the run is the product. -/
theorem final : (dats m 0 c).arrAt (2 : Fin 3) cfg0.N = product (aX m c) (aW m c) := by
  refine (dats m 0 c).arrAt_eq_of_emb (2 : Fin 3) (product (aX m c) (aW m c)) (fun t hf y => ?_) (fun i => ?_)
  · obtain ⟨r, k, hy⟩ : ∃ (r k : Fin 1024), y = (ix2 r k : S1024x1024.Idx) := ⟨y 0, y 1, (ix2_eta y).symm⟩
    have e0 := (Window.rect_emb_val (cfg0.win (2 : Fin 3)) t y (0 : Fin 2) rfl).trans (congrArg (fun v : Fin 2 → ℕ => v 0 * 1024 + (y (0 : Fin 2)).val) (index2 t))
    have e1 := (Window.rect_emb_val (cfg0.win (2 : Fin 3)) t y (1 : Fin 2) rfl).trans (congrArg (fun v : Fin 2 → ℕ => v 1 * 1024 + (y (1 : Fin 2)).val) (index2 t))
    have ee : ((cfg0.win (2 : Fin 3)).rect t).emb y = (ix2 ⟨t.val / 2 * 1024 + r.val, by have := points t; omega⟩ ⟨t.val % 2 * 1024 + k.val, by omega⟩ : S8192x2048.Idx) := by
      subst hy
      refine funext fun a => ?_
      match a with
      | ⟨0, _⟩ => exact Fin.ext e0
      | ⟨1, _⟩ => exact Fin.ext e1
    refine (congrFun (flushed2 m c t) y).trans ?_
    exact (congrArg (out0_2 (iblk m c 0 t) (iblk m c 1 t) : S1024x1024.Idx → EReal) hy).trans ((cell m c t r k).trans (congrArg (product (aX m c) (aW m c)) ee.symm))
  · have h0 : (i 0).val < 8192 := (i 0).isLt
    have h1 : (i 1).val < 2048 := (i 1).isLt
    let t : Fin cfg0.N := ⟨(i 0).val / 1024 * 2 + (i 1).val / 1024, by show _ < 16; omega⟩
    refine ⟨t, flush2 t, ?_⟩
    refine ((cfg0.win (2 : Fin 3)).emb_mem_blk_iff t i rfl).mpr fun a => ?_
    have ei : (cfg0.win (2 : Fin 3)).index t = ![t.val / 2, t.val % 2] := index2 t
    have tv : t.val = (i 0).val / 1024 * 2 + (i 1).val / 1024 := rfl
    match a with
    | ⟨0, _⟩ =>
      have : (cfg0.win (2 : Fin 3)).index t (0 : Fin 2) * 1024 ≤ (i 0).val ∧ (i 0).val < (cfg0.win (2 : Fin 3)).index t (0 : Fin 2) * 1024 + 1024 := by
        rw [ei]; show t.val / 2 * 1024 ≤ _ ∧ _ < t.val / 2 * 1024 + 1024; omega
      exact this
    | ⟨1, _⟩ =>
      have : (cfg0.win (2 : Fin 3)).index t (1 : Fin 2) * 1024 ≤ (i 1).val ∧ (i 1).val < (cfg0.win (2 : Fin 3)).index t (1 : Fin 2) * 1024 + 1024 := by
        rw [ei]; show t.val % 2 * 1024 ≤ _ ∧ _ < t.val % 2 * 1024 + 1024; omega
      exact this

end Cert.Kernel2Ideal.Proj

namespace Cert.Reference2Ideal.Proj

open Cert.Reference2Ideal Cert.Reference2Ideal.Gen Idealize.ShloMosaic

/-- The reference's product. -/
theorem whole (X : FVec Ideal S8192x2048 .f32) (W : FVec Ideal S2048x2048 .f32) :
    truncf .bf16 (Host.dotGeneral dot_S8192x2048_S2048x2048_S8192x2048_1_0_0_1_n_n none X W) bitsLt_bf16_f32 = Cert.Kernel2Ideal.Proj.product X W := by
  funext i
  obtain ⟨r, k, hy⟩ : ∃ (r : Fin 8192) (k : Fin 2048), i = (ix2 r k : S8192x2048.Idx) := ⟨i 0, i 1, (ix2_eta i).symm⟩
  subst hy
  show _ = ∑ e : Fin 2048, X (ix2 r e) * W (ix2 e k)
  pointwise

end Cert.Reference2Ideal.Proj

end
-- ==== Proof.Proj.Last.lean ====
module

public import proofs.«01_k».proof.Proof.Gen.Kernel3Ideal.Value
public import proofs.«01_k».proof.Proof.Gen.Reference3Ideal.Run
public import proofs.«01_k».proof.Proof.Mla.Cells
public import Idealize.ShloMosaic.Lib.Pipeline.ValueKit.Geometry
public import Idealize.ShloMosaic.Lib.StableHlo.RunRead

@[expose] public section

/-! # The layer's last product, its gated residual and the norm of its rows -/

noncomputable section

namespace Cert.Kernel3Ideal.Proj

open Idealize.ShloMosaic Idealize.ShloMosaic.TcCoe Cert.Kernel3Ideal Cert.Kernel3Ideal.Gen Cert.Kernel3Ideal.Value Idealize.ShloMosaic.Pipeline
open Cert.KernelIdeal.Mla (at2)

/-- The residual and the gated product, at an index. -/
def gated (Y : S8192x2048.Idx → EReal) (W : S2048x2048.Idx → EReal) (X : S8192x2048.Idx → EReal) (M : S2x6144.Idx → EReal)
    (R : Fin 8192) (j : Fin 2048) : EReal :=
  X (ix2 R j) + M (ix2 (1 : Fin 2) ⟨4096 + j.val, by omega⟩) * ∑ k : Fin 2048, Y (ix2 R k) * W (ix2 k j)

/-- The layer's result: each row over the root of its mean square, times the gain. -/
def normed (Y : S8192x2048.Idx → EReal) (W : S2048x2048.Idx → EReal) (X : S8192x2048.Idx → EReal) (M : S2x6144.Idx → EReal)
    (G : S2048.Idx → EReal) : S8192x2048.Idx → EReal := fun i =>
  gated Y W X M (i 0) (i 1)
    * Ideal.rsqrt (Ideal.div (∑ j : Fin 2048, gated Y W X M (i 0) j * gated Y W X M (i 0) j) (Ideal.ofBits .f32 0x45000000#32)
        + Ideal.ofBits .f32 0x358637BD#32)
    * G (ix1 (i 1))

/-- What a point computes, at an index. -/
theorem block_at (y : Vec Ideal S512x2048 .bf16) (w : Vec Ideal S2048x2048 .bf16) (x : Vec Ideal S512x2048 .f32)
    (g : Vec Ideal S1x1x2048 .f32) (f : Vec Ideal S1x2048 .f32) (r : Fin 512) (c : Fin 2048) :
    k0_pay1 y w x g f (ix2 r c)
      = (x (ix2 r c) + g (ix3 0 0 c) * ∑ k : Fin 2048, y (ix2 r k) * w (ix2 k c))
        * Ideal.rsqrt (Ideal.div (∑ j : Fin 2048, (x (ix2 r j) + g (ix3 0 0 j) * ∑ k : Fin 2048, y (ix2 r k) * w (ix2 k j))
            * (x (ix2 r j) + g (ix3 0 0 j) * ∑ k : Fin 2048, y (ix2 r k) * w (ix2 k j))) (Ideal.ofBits .f32 0x45000000#32)
          + Ideal.ofBits .f32 0x358637BD#32)
        * f (ix2 0 c) := by
  pointwise [k0_pay1]

variable (m : (ℓ : Loc nD τ sig) → Buf (Elt Ideal) ℓ) (c : Dev nD)

/-- The arguments. -/
abbrev aY : S8192x2048.Idx → EReal := m ((c : Thread nD τ).loc main_arg0)
abbrev aW : S2048x2048.Idx → EReal := m ((c : Thread nD τ).loc main_arg1)
abbrev aX : S8192x2048.Idx → EReal := m ((c : Thread nD τ).loc main_arg2)
abbrev aM : S2x6144.Idx → EReal := m ((c : Thread nD τ).loc main_arg3)
abbrev aG : S2048.Idx → EReal := m ((c : Thread nD τ).loc main_arg4)

theorem v0_eq : (V m c main_v0 : S8192x2048.Idx → EReal) = aY m c := by
  unfold V; after_reads_simp; rfl
theorem v1_eq : (V m c main_v1 : S2048x2048.Idx → EReal) = aW m c := by
  unfold V; after_reads_simp; rfl
theorem v3_eq : (V m c main_v3 : FVec Ideal S2x8x6144 .f32) = broadcastInDim S2x8x6144 ![0, 1, 2] bcast_S2x1x6144_S2x8x6144_0_1_2
    (broadcastInDim S2x1x6144 ![0, 2] bcast_S2x6144_S2x1x6144_0_2 (aM m c : FVec Ideal S2x6144 .f32)) := by
  unfold V; after_reads_simp
theorem v4_eq : (V m c main_v4 : FVec Ideal S1x2048 .f32) = shapeCast S1x2048 (aG m c : FVec Ideal S2048 .f32) shapeCasts_S2048_S1x2048 := by
  unfold V; after_reads_simp; rfl

theorem v3_at (a : Fin 2) (b : Fin 8) (d : Fin 6144) : (V m c main_v3 : S2x8x6144.Idx → EReal) (ix3 a b d) = aM m c (ix2 a d) := by
  rw [v3_eq]; pointwise
theorem v4_at (d : Fin 2048) : (V m c main_v4 : S1x2048.Idx → EReal) (ix2 0 d) = aG m c (ix1 d) := by
  rw [v4_eq]; pointwise

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![1, 0, 2] := (by decide +kernel : ∀ t : Fin grid0.N, win0_3.index t = ![1, 0, 2])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem points (t : Fin cfg0.N) : t.val < 16 := t.isLt

theorem y_in (t : Fin cfg0.N) (r : Fin 512) (k : Fin 2048) : (iblk m c 0 t : S512x2048.Idx → EReal) (ix2 r k)
    = aY m c (ix2 ⟨t.val * 512 + r.val, by have := points t; omega⟩ k) := by
  rw [← v0_eq]
  show (V m c main_v0 : S8192x2048.Idx → EReal) (((cfg0.win (0 : Fin 6)).rect t).emb (ix2 r k)) = _
  have e0 := (Window.rect_emb_val (cfg0.win (0 : Fin 6)) t (ix2 r k) (0 : Fin 2) rfl).trans (congrArg (fun v : Fin 2 → ℕ => v 0 * 512 + r.val) (index0 t))
  have e1 := (Window.rect_emb_val (cfg0.win (0 : Fin 6)) t (ix2 r k) (1 : Fin 2) rfl).trans (congrArg (fun v : Fin 2 → ℕ => v 1 * 2048 + k.val) (index0 t))
  refine congrArg (V m c main_v0 : S8192x2048.Idx → EReal) (funext fun a => ?_)
  match a with
  | ⟨0, _⟩ => exact Fin.ext e0
  | ⟨1, _⟩ => exact Fin.ext (e1.trans (show 0 * 2048 + k.val = k.val by omega))

theorem w_in (t : Fin cfg0.N) (k r : Fin 2048) : (iblk m c 1 t : S2048x2048.Idx → EReal) (ix2 k r) = aW m c (ix2 k r) := by
  rw [← v1_eq]
  show (V m c main_v1 : S2048x2048.Idx → EReal) (((cfg0.win (1 : Fin 6)).rect t).emb (ix2 k r)) = _
  have e0 := (Window.rect_emb_val (cfg0.win (1 : Fin 6)) t (ix2 k r) (0 : Fin 2) rfl).trans (congrArg (fun v : Fin 2 → ℕ => v 0 * 2048 + k.val) (index1 t))
  have e1 := (Window.rect_emb_val (cfg0.win (1 : Fin 6)) t (ix2 k r) (1 : Fin 2) rfl).trans (congrArg (fun v : Fin 2 → ℕ => v 1 * 2048 + r.val) (index1 t))
  refine congrArg (V m c main_v1 : S2048x2048.Idx → EReal) (funext fun a => ?_)
  match a with
  | ⟨0, _⟩ => exact Fin.ext (e0.trans (show 0 * 2048 + k.val = k.val by omega))
  | ⟨1, _⟩ => exact Fin.ext (e1.trans (show 0 * 2048 + r.val = r.val by omega))

theorem x_in (t : Fin cfg0.N) (r : Fin 512) (k : Fin 2048) : (iblk m c 2 t : S512x2048.Idx → EReal) (ix2 r k)
    = aX m c (ix2 ⟨t.val * 512 + r.val, by have := points t; omega⟩ k) := by
  show (V m c main_arg2 : S8192x2048.Idx → EReal) (((cfg0.win (2 : Fin 6)).rect t).emb (ix2 r k)) = _
  rw [V_main_arg2]
  have e0 := (Window.rect_emb_val (cfg0.win (2 : Fin 6)) t (ix2 r k) (0 : Fin 2) rfl).trans (congrArg (fun v : Fin 2 → ℕ => v 0 * 512 + r.val) (index2 t))
  have e1 := (Window.rect_emb_val (cfg0.win (2 : Fin 6)) t (ix2 r k) (1 : Fin 2) rfl).trans (congrArg (fun v : Fin 2 → ℕ => v 1 * 2048 + k.val) (index2 t))
  refine congrArg (aX m c) (funext fun a => ?_)
  match a with
  | ⟨0, _⟩ => exact Fin.ext e0
  | ⟨1, _⟩ => exact Fin.ext (e1.trans (show 0 * 2048 + k.val = k.val by omega))

/-- The gate's row is the second layer's third part. -/
theorem g_in (t : Fin cfg0.N) (j : Fin 2048) : (View.ld (iblk m c 3 t : Vec Ideal S1x8x2048 .f32) r0_2 : S1x1x2048.Idx → EReal) (ix3 0 0 j)
    = aM m c (ix2 (1 : Fin 2) ⟨4096 + j.val, by omega⟩) := by
  have e : (r0_2.emb (ix3 0 0 j) : S1x8x2048.Idx) = ix3 (0 : Fin 1) (0 : Fin 8) j := by
    refine funext fun a => Fin.ext ?_
    match a with
    | ⟨0, _⟩ => rfl
    | ⟨1, _⟩ => rfl
    | ⟨2, _⟩ => show 0 + 1 * j.val = j.val; omega
  refine (congrArg (iblk m c 3 t : S1x8x2048.Idx → EReal) e).trans ?_
  rw [← v3_at m c (1 : Fin 2) (0 : Fin 8)]
  show (V m c main_v3 : S2x8x6144.Idx → EReal) (((cfg0.win (3 : Fin 6)).rect t).emb (ix3 (0 : Fin 1) (0 : Fin 8) j)) = _
  have e0 := (Window.rect_emb_val (cfg0.win (3 : Fin 6)) t (ix3 (0 : Fin 1) (0 : Fin 8) j) (0 : Fin 3) rfl).trans (congrArg (fun v : Fin 3 → ℕ => v 0 * 1 + 0) (index3 t))
  have e1 := (Window.rect_emb_val (cfg0.win (3 : Fin 6)) t (ix3 (0 : Fin 1) (0 : Fin 8) j) (1 : Fin 3) rfl).trans (congrArg (fun v : Fin 3 → ℕ => v 1 * 8 + 0) (index3 t))
  have e2 := (Window.rect_emb_val (cfg0.win (3 : Fin 6)) t (ix3 (0 : Fin 1) (0 : Fin 8) j) (2 : Fin 3) rfl).trans (congrArg (fun v : Fin 3 → ℕ => v 2 * 2048 + j.val) (index3 t))
  refine congrArg (V m c main_v3 : S2x8x6144.Idx → EReal) (funext fun a => ?_)
  match a with
  | ⟨0, _⟩ => exact Fin.ext e0
  | ⟨1, _⟩ => exact Fin.ext e1
  | ⟨2, _⟩ => exact Fin.ext (e2.trans (show 2 * 2048 + j.val = 4096 + j.val by omega))

theorem f_in (t : Fin cfg0.N) (j : Fin 2048) : (iblk m c 4 t : S1x2048.Idx → EReal) (ix2 0 j) = aG m c (ix1 j) := by
  rw [← v4_at]
  show (V m c main_v4 : S1x2048.Idx → EReal) (((cfg0.win (4 : Fin 6)).rect t).emb (ix2 (0 : Fin 1) j)) = _
  have e0 := (Window.rect_emb_val (cfg0.win (4 : Fin 6)) t (ix2 (0 : Fin 1) j) (0 : Fin 2) rfl).trans (congrArg (fun v : Fin 2 → ℕ => v 0 * 1 + 0) (index4 t))
  have e1 := (Window.rect_emb_val (cfg0.win (4 : Fin 6)) t (ix2 (0 : Fin 1) j) (1 : Fin 2) rfl).trans (congrArg (fun v : Fin 2 → ℕ => v 1 * 2048 + j.val) (index4 t))
  refine congrArg (V m c main_v4 : S1x2048.Idx → EReal) (funext fun a => ?_)
  match a with
  | ⟨0, _⟩ => exact Fin.ext e0
  | ⟨1, _⟩ => exact Fin.ext (e1.trans (show 0 * 2048 + j.val = j.val by omega))

/-- What the body leaves is its one store. -/
theorem out_eq (y : Vec Ideal S512x2048 .bf16) (w : Vec Ideal S2048x2048 .bf16) (x : Vec Ideal S512x2048 .f32)
    (g : Vec Ideal S1x8x2048 .f32) (f : Vec Ideal S1x2048 .f32) : out0_5 y w x g f = k0_pay1 y w x (View.ld g r0_2) f := by
  unfold out0_5
  rw [View.canon_cons_unit_lit _ _ _ (by decide), View.ld_unit_lit _ y (by decide), View.ld_unit_lit _ w (by decide),
    View.ld_unit_lit _ x (by decide), View.ld_unit_lit _ f (by decide)]

/-- The blocks, read as extended reals. -/
abbrev bY (t : Fin cfg0.N) : S512x2048.Idx → EReal := iblk m c 0 t
abbrev bW (t : Fin cfg0.N) : S2048x2048.Idx → EReal := iblk m c 1 t
abbrev bX (t : Fin cfg0.N) : S512x2048.Idx → EReal := iblk m c 2 t
abbrev bG (t : Fin cfg0.N) : S1x1x2048.Idx → EReal := View.ld (iblk m c 3 t : Vec Ideal S1x8x2048 .f32) r0_2

/-- The gated residual of a block's row. -/
theorem gated_in (t : Fin cfg0.N) (r : Fin 512) (j : Fin 2048) :
    bX m c t (ix2 r j) + bG m c t (ix3 0 0 j) * ∑ k : Fin 2048, bY m c t (ix2 r k) * bW m c t (ix2 k j)
      = gated (aY m c) (aW m c) (aX m c) (aM m c) ⟨t.val * 512 + r.val, by have := points t; omega⟩ j := by
  unfold gated
  refine congrArg₂ (fun x y : EReal => x + y) (x_in m c t r j) (congrArg₂ (fun x y : EReal => x * y) (g_in m c t j) ?_)
  exact Finset.sum_congr rfl fun e _ => congrArg₂ (fun x y : EReal => x * y) (y_in m c t r e) (w_in m c t e j)

/-- What a point computes is its rows of the result. -/
theorem cell (t : Fin cfg0.N) (r : Fin 512) (k : Fin 2048) :
    (out0_5 (iblk m c 0 t) (iblk m c 1 t) (iblk m c 2 t) (iblk m c 3 t) (iblk m c 4 t) : S512x2048.Idx → EReal) (ix2 r k)
    = normed (aY m c) (aW m c) (aX m c) (aM m c) (aG m c) (ix2 ⟨t.val * 512 + r.val, by have := points t; omega⟩ k) := by
  refine (congrFun (out_eq (iblk m c 0 t) (iblk m c 1 t) (iblk m c 2 t) (iblk m c 3 t) (iblk m c 4 t)) (ix2 r k)).trans
    ((block_at _ _ _ _ _ r k).trans ?_)
  refine congrArg₂ (fun x y : EReal => x * y) (congrArg₂ (fun x y : EReal => x * y) (gated_in m c t r k) ?_) (f_in m c t k)
  refine congrArg (fun x : EReal => Ideal.rsqrt (Ideal.div x (Ideal.ofBits .f32 0x45000000#32) + Ideal.ofBits .f32 0x358637BD#32)) ?_
  exact Finset.sum_congr rfl fun j _ => congrArg₂ (fun x y : EReal => x * y) (gated_in m c t r j) (gated_in m c t r j)

theorem flush5 : ∀ t : Fin cfg0.N, (cfg0.win (5 : Fin 6)).flush t = true := (by decide +kernel : ∀ t : Fin grid0.N, win0_5.flush t = true)

/-- The array after the run is the layer's result. -/
theorem final : (dats m 0 c).arrAt (5 : Fin 6) cfg0.N = normed (aY m c) (aW m c) (aX m c) (aM m c) (aG m c) := by
  refine (dats m 0 c).arrAt_eq_of_emb (5 : Fin 6) (normed (aY m c) (aW m c) (aX m c) (aM m c) (aG m c)) (fun t hf y => ?_) (fun i => ?_)
  · obtain ⟨r, k, hy⟩ : ∃ (r : Fin 512) (k : Fin 2048), y = (ix2 r k : S512x2048.Idx) := ⟨y 0, y 1, (ix2_eta y).symm⟩
    have e0 := (Window.rect_emb_val (cfg0.win (5 : Fin 6)) t y (0 : Fin 2) rfl).trans (congrArg (fun v : Fin 2 → ℕ => v 0 * 512 + (y (0 : Fin 2)).val) (index5 t))
    have e1 := (Window.rect_emb_val (cfg0.win (5 : Fin 6)) t y (1 : Fin 2) rfl).trans (congrArg (fun v : Fin 2 → ℕ => v 1 * 2048 + (y (1 : Fin 2)).val) (index5 t))
    have ee : ((cfg0.win (5 : Fin 6)).rect t).emb y = (ix2 ⟨t.val * 512 + r.val, by have := points t; omega⟩ k : S8192x2048.Idx) := by
      subst hy
      refine funext fun a => ?_
      match a with
      | ⟨0, _⟩ => exact Fin.ext e0
      | ⟨1, _⟩ => exact Fin.ext (e1.trans (show 0 * 2048 + k.val = k.val by omega))
    refine (congrFun (flushed5 m c t) y).trans ?_
    exact (congrArg (out0_5 (iblk m c 0 t) (iblk m c 1 t) (iblk m c 2 t) (iblk m c 3 t) (iblk m c 4 t) : S512x2048.Idx → EReal) hy).trans
      ((cell m c t r k).trans (congrArg (normed (aY m c) (aW m c) (aX m c) (aM m c) (aG m c)) ee.symm))
  · have h0 : (i 0).val < 8192 := (i 0).isLt
    have h1 : (i 1).val < 2048 := (i 1).isLt
    let t : Fin cfg0.N := ⟨(i 0).val / 512, by show _ < 16; omega⟩
    refine ⟨t, flush5 t, ?_⟩
    refine ((cfg0.win (5 : Fin 6)).emb_mem_blk_iff t i rfl).mpr fun a => ?_
    have ei : (cfg0.win (5 : Fin 6)).index t = ![t.val, 0] := index5 t
    have tv : t.val = (i 0).val / 512 := rfl
    match a with
    | ⟨0, _⟩ =>
      have : (cfg0.win (5 : Fin 6)).index t (0 : Fin 2) * 512 ≤ (i 0).val ∧ (i 0).val < (cfg0.win (5 : Fin 6)).index t (0 : Fin 2) * 512 + 512 := by
        rw [ei]; show t.val * 512 ≤ _ ∧ _ < t.val * 512 + 512; omega
      exact this
    | ⟨1, _⟩ =>
      have : (cfg0.win (5 : Fin 6)).index t (1 : Fin 2) * 2048 ≤ (i 1).val ∧ (i 1).val < (cfg0.win (5 : Fin 6)).index t (1 : Fin 2) * 2048 + 2048 := by
        rw [ei]; show 0 * 2048 ≤ _ ∧ _ < 0 * 2048 + 2048; omega
      exact this

end Cert.Kernel3Ideal.Proj

namespace Cert.Reference3Ideal.Proj

open Cert.Reference3Ideal Cert.Reference3Ideal.Gen Idealize.ShloMosaic
open Cert.KernelIdeal.Mla (at2)
open Cert.Kernel3Ideal.Proj (gated normed)

/-- The reference's gated residual. -/
def residual (Y : FVec Ideal S8192x2048 .f32) (W : FVec Ideal S2048x2048 .f32) (X : FVec Ideal S8192x2048 .f32) (M : FVec Ideal S2x6144 .f32) :
    FVec Ideal S8192x2048 .f32 :=
  addf X (mulf (broadcastInDim S8192x2048 ![0, 1] bcast_S1x2048_S8192x2048_0_1 (extractStridedSlice S1x2048 ![0, 4096] (extractStridedSlice S1x6144 ![1, 0] M slices_S2x6144_S1x6144_1_0) slices_S1x6144_S1x2048_0_4096)) (Host.dotGeneral dot_S8192x2048_S2048x2048_S8192x2048_1_0_0_1_n_n none Y W))

/-- The reference's norm of the rows. -/
def norm (E : FVec Ideal S8192x2048 .f32) (G : FVec Ideal S2048 .f32) : FVec Ideal S8192x2048 .f32 :=
  mulf (mulf E (broadcastInDim S8192x2048 ![0, 1] bcast_S8192x1_S8192x2048_0_1 (Host.rsqrt (addf (Host.divf (broadcastInDim S8192x1 ![0] bcast_S8192_S8192x1_0 (Host.reduceAdd (mulf E E) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

theorem residual_at (Y : FVec Ideal S8192x2048 .f32) (W : FVec Ideal S2048x2048 .f32) (X : FVec Ideal S8192x2048 .f32) (M : FVec Ideal S2x6144 .f32)
    (R : Fin 8192) (j : Fin 2048) : residual Y W X M (ix2 R j) = gated Y W X M R j := by
  unfold gated
  pointwise [residual]

theorem norm_at (E : FVec Ideal S8192x2048 .f32) (G : FVec Ideal S2048 .f32) (R : Fin 8192) (j : Fin 2048) : norm E G (ix2 R j)
    = E (ix2 R j) * Ideal.rsqrt (Ideal.div (∑ k : Fin 2048, E (ix2 R k) * E (ix2 R k)) (Ideal.ofBits .f32 0x45000000#32)
        + Ideal.ofBits .f32 0x358637BD#32) * G (ix1 j) := by
  pointwise [norm]

/-- The reference's whole value. -/
theorem whole (Y : FVec Ideal S8192x2048 .f32) (W : FVec Ideal S2048x2048 .f32) (X : FVec Ideal S8192x2048 .f32) (M : FVec Ideal S2x6144 .f32)
    (G : FVec Ideal S2048 .f32) : norm (residual Y W X M) G = normed Y W X M G := by
  funext i
  obtain ⟨r, k, hy⟩ : ∃ (r : Fin 8192) (k : Fin 2048), i = (ix2 r k : S8192x2048.Idx) := ⟨i 0, i 1, (ix2_eta i).symm⟩
  subst hy
  refine (norm_at _ _ r k).trans ?_
  simp only [residual_at]
  rfl

end Cert.Reference3Ideal.Proj

end
-- ==== Proof.Proj.Joined.lean ====
module

public import proofs.«01_k».proof.Proof.Gen.Kernel5Ideal.Value
public import proofs.«01_k».proof.Proof.Gen.Reference5Ideal.Run
public import proofs.«01_k».proof.Proof.Mla.Cells
public import Idealize.ShloMosaic.Lib.Pipeline.ValueKit.Geometry
public import Idealize.ShloMosaic.Lib.StableHlo.RunRead

@[expose] public section

/-! # The first layer's output: two half products are the product of the joined array -/

noncomputable section

namespace Cert.Kernel5Ideal.Proj

open Idealize.ShloMosaic Idealize.ShloMosaic.TcCoe Cert.Kernel5Ideal Cert.Kernel5Ideal.Gen Cert.Kernel5Ideal.Value Idealize.ShloMosaic.Pipeline
open Cert.KernelIdeal.Mla (at2)

/-- The residual and the gated product of the two halves with the weights' upper and lower rows. -/
def joined (A B : S8192x1024.Idx → EReal) (W : S2048x2048.Idx → EReal) (X : S8192x2048.Idx → EReal) (M : S2x6144.Idx → EReal) :
    S8192x2048.Idx → EReal := fun i =>
  X (ix2 (i 0) (i 1)) + M (ix2 (0 : Fin 2) ⟨4096 + (i 1).val, by have : (i 1).val < 2048 := (i 1).isLt; omega⟩)
    * ((∑ k : Fin 1024, A (ix2 (i 0) k) * W (ix2 ⟨k.val, by omega⟩ (i 1)))
      + ∑ k : Fin 1024, B (ix2 (i 0) k) * W (ix2 ⟨1024 + k.val, by omega⟩ (i 1)))

/-- What a point computes, at an index. -/
theorem block_at (a u b v : Vec Ideal S1024x1024 .bf16) (x : Vec Ideal S1024x1024 .f32)
    (g : Vec Ideal S1x1x1024 .f32) (r c : Fin 1024) :
    k0_pay1 a u b v x g (ix2 r c)
      = x (ix2 r c) + g (ix3 0 0 c) * ((∑ k : Fin 1024, a (ix2 r k) * u (ix2 k c)) + ∑ k : Fin 1024, b (ix2 r k) * v (ix2 k c)) := by
  pointwise [k0_pay1]

variable (m : (ℓ : Loc nD τ sig) → Buf (Elt Ideal) ℓ) (c : Dev nD)

/-- The arguments. -/
abbrev aA : S8192x1024.Idx → EReal := m ((c : Thread nD τ).loc main_arg0)
abbrev aB : S8192x1024.Idx → EReal := m ((c : Thread nD τ).loc main_arg1)
abbrev aW : S2048x2048.Idx → EReal := m ((c : Thread nD τ).loc main_arg2)
abbrev aX : S8192x2048.Idx → EReal := m ((c : Thread nD τ).loc main_arg3)
abbrev aM : S2x6144.Idx → EReal := m ((c : Thread nD τ).loc main_arg4)

theorem v0_eq : (V m c main_v0 : S8192x1024.Idx → EReal) = aA m c := by
  unfold V; after_reads_simp; rfl
theorem v1_eq : (V m c main_v1 : S2048x2048.Idx → EReal) = aW m c := by
  unfold V; after_reads_simp; rfl
theorem v2_eq : (V m c main_v2 : S8192x1024.Idx → EReal) = aB m c := by
  unfold V; after_reads_simp; rfl
theorem v4_eq : (V m c main_v4 : FVec Ideal S2x8x6144 .f32) = broadcastInDim S2x8x6144 ![0, 1, 2] bcast_S2x1x6144_S2x8x6144_0_1_2
    (broadcastInDim S2x1x6144 ![0, 2] bcast_S2x6144_S2x1x6144_0_2 (aM m c : FVec Ideal S2x6144 .f32)) := by
  unfold V; after_reads_simp

theorem v4_at (a : Fin 2) (b : Fin 8) (d : Fin 6144) : (V m c main_v4 : S2x8x6144.Idx → EReal) (ix3 a b d) = aM m c (ix2 a d) := by
  rw [v4_eq]; pointwise

theorem index0 : ∀ t : Fin cfg0.N, win0_0.index t = ![t.val / 2, 0] := (by decide +kernel : ∀ t : Fin grid0.N, win0_0.index t = ![t.val / 2, 0])
theorem index1 : ∀ t : Fin cfg0.N, win0_1.index t = ![t.val / 2, 0] := (by decide +kernel : ∀ t : Fin grid0.N, win0_1.index t = ![t.val / 2, 0])
theorem index2 : ∀ t : Fin cfg0.N, win0_2.index t = ![0, t.val % 2] := (by decide +kernel : ∀ t : Fin grid0.N, win0_2.index t = ![0, t.val % 2])
theorem index3 : ∀ t : Fin cfg0.N, win0_3.index t = ![t.val / 2, t.val % 2] := (by decide +kernel : ∀ t : Fin grid0.N, win0_3.index t = ![t.val / 2, t.val % 2])
theorem index4 : ∀ t : Fin cfg0.N, win0_4.index t = ![0, 0, 4 + t.val % 2] := (by decide +kernel : ∀ t : Fin grid0.N, win0_4.index t = ![0, 0, 4 + t.val % 2])
theorem index5 : ∀ t : Fin cfg0.N, win0_5.index t = ![t.val / 2, t.val % 2] := (by decide +kernel : ∀ t : Fin grid0.N, win0_5.index t = ![t.val / 2, t.val % 2])
theorem points (t : Fin cfg0.N) : t.val < 16 := t.isLt

theorem a_in (t : Fin cfg0.N) (r : Fin 1024) (k : Fin 1024) : (iblk m c 0 t : S1024x1024.Idx → EReal) (ix2 r k)
    = aA m c (ix2 ⟨t.val / 2 * 1024 + r.val, by have := points t; omega⟩ k) := by
  show (V m c main_v0 : S8192x1024.Idx → EReal) (((cfg0.win (0 : Fin 6)).rect t).emb (ix2 r k)) = _
  rw [v0_eq]
  have e0 := (Window.rect_emb_val (cfg0.win (0 : Fin 6)) t (ix2 r k) (0 : Fin 2) rfl).trans (congrArg (fun v : Fin 2 → ℕ => v 0 * 1024 + r.val) (index0 t))
  have e1 := (Window.rect_emb_val (cfg0.win (0 : Fin 6)) t (ix2 r k) (1 : Fin 2) rfl).trans (congrArg (fun v : Fin 2 → ℕ => v 1 * 1024 + k.val) (index0 t))
  refine congrArg (aA m c) (funext fun a => ?_)
  match a with
  | ⟨0, _⟩ => exact Fin.ext e0
  | ⟨1, _⟩ => exact Fin.ext (e1.trans (show 0 * 1024 + k.val = k.val by omega))

theorem b_in (t : Fin cfg0.N) (r : Fin 1024) (k : Fin 1024) : (iblk m c 1 t : S1024x1024.Idx → EReal) (ix2 r k)
    = aB m c (ix2 ⟨t.val / 2 * 1024 + r.val, by have := points t; omega⟩ k) := by
  show (V m c main_v2 : S8192x1024.Idx → EReal) (((cfg0.win (1 : Fin 6)).rect t).emb (ix2 r k)) = _
  rw [v2_eq]
  have e0 := (Window.rect_emb_val (cfg0.win (1 : Fin 6)) t (ix2 r k) (0 : Fin 2) rfl).trans (congrArg (fun v : Fin 2 → ℕ => v 0 * 1024 + r.val) (index1 t))
  have e1 := (Window.rect_emb_val (cfg0.win (1 : Fin 6)) t (ix2 r k) (1 : Fin 2) rfl).trans (congrArg (fun v : Fin 2 → ℕ => v 1 * 1024 + k.val) (index1 t))
  refine congrArg (aB m c) (funext fun a => ?_)
  match a with
  | ⟨0, _⟩ => exact Fin.ext e0
  | ⟨1, _⟩ => exact Fin.ext (e1.trans (show 0 * 1024 + k.val = k.val by omega))

theorem w_in (t : Fin cfg0.N) (r : Fin 2048) (k : Fin 1024) : (iblk m c 2 t : S2048x1024.Idx → EReal) (ix2 r k)
    = aW m c (ix2 r ⟨t.val % 2 * 1024 + k.val, by omega⟩) := by
  show (V m c main_v1 : S2048x2048.Idx → EReal) (((cfg0.win (2 : Fin 6)).rect t).emb (ix2 r k)) = _
  rw [v1_eq]
  have e0 := (Window.rect_emb_val (cfg0.win (2 : Fin 6)) t (ix2 r k) (0 : Fin 2) rfl).trans (congrArg (fun v : Fin 2 → ℕ => v 0 * 2048 + r.val) (index2 t))
  have e1 := (Window.rect_emb_val (cfg0.win (2 : Fin 6)) t (ix2 r k) (1 : Fin 2) rfl).trans (congrArg (fun v : Fin 2 → ℕ => v 1 * 1024 + k.val) (index2 t))
  refine congrArg (aW m c) (funext fun a => ?_)
  match a with
  | ⟨0, _⟩ => exact Fin.ext (e0.trans (show 0 * 2048 + r.val = r.val by omega))
  | ⟨1, _⟩ => exact Fin.ext e1

theorem x_in (t : Fin cfg0.N) (r : Fin 1024) (k : Fin 1024) : (iblk m c 3 t : S1024x1024.Idx → EReal) (ix2 r k)
    = aX m c (ix2 ⟨t.val / 2 * 1024 + r.val, by have := points t; omega⟩ ⟨t.val % 2 * 1024 + k.val, by omega⟩) := by
  show (V m c main_arg3 : S8192x2048.Idx → EReal) (((cfg0.win (3 : Fin 6)).rect t).emb (ix2 r k)) = _
  rw [V_main_arg3]
  have e0 := (Window.rect_emb_val (cfg0.win (3 : Fin 6)) t (ix2 r k) (0 : Fin 2) rfl).trans (congrArg (fun v : Fin 2 → ℕ => v 0 * 1024 + r.val) (index3 t))
  have e1 := (Window.rect_emb_val (cfg0.win (3 : Fin 6)) t (ix2 r k) (1 : Fin 2) rfl).trans (congrArg (fun v : Fin 2 → ℕ => v 1 * 1024 + k.val) (index3 t))
  refine congrArg (aX m c) (funext fun a => ?_)
  match a with
  | ⟨0, _⟩ => exact Fin.ext e0
  | ⟨1, _⟩ => exact Fin.ext e1

/-- The weights' upper rows, and the lower. -/
theorem u_in (t : Fin cfg0.N) (r k : Fin 1024) : (View.ld (iblk m c 2 t : Vec Ideal S2048x1024 .bf16) r0_1 : S1024x1024.Idx → EReal) (ix2 r k)
    = aW m c (ix2 ⟨r.val, by omega⟩ ⟨t.val % 2 * 1024 + k.val, by omega⟩) := by
  have e : (r0_1.emb (ix2 r k) : S2048x1024.Idx) = ix2 (⟨r.val, by omega⟩ : Fin 2048) k := by
    refine funext fun a => Fin.ext ?_
    match a with
    | ⟨0, _⟩ => show 0 + 1 * r.val = r.val; omega
    | ⟨1, _⟩ => show 0 + 1 * k.val = k.val; omega
  exact (congrArg (iblk m c 2 t : S2048x1024.Idx → EReal) e).trans (w_in m c t ⟨r.val, by omega⟩ k)

theorem l_in (t : Fin cfg0.N) (r k : Fin 1024) : (View.ld (iblk m c 2 t : Vec Ideal S2048x1024 .bf16) r0_2 : S1024x1024.Idx → EReal) (ix2 r k)
    = aW m c (ix2 ⟨1024 + r.val, by omega⟩ ⟨t.val % 2 * 1024 + k.val, by omega⟩) := by
  have e : (r0_2.emb (ix2 r k) : S2048x1024.Idx) = ix2 (⟨1024 + r.val, by omega⟩ : Fin 2048) k := by
    refine funext fun a => Fin.ext ?_
    match a with
    | ⟨0, _⟩ => show 1024 + 1 * r.val = 1024 + r.val; omega
    | ⟨1, _⟩ => show 0 + 1 * k.val = k.val; omega
  exact (congrArg (iblk m c 2 t : S2048x1024.Idx → EReal) e).trans (w_in m c t ⟨1024 + r.val, by omega⟩ k)

/-- The gate's row is the first layer's third part. -/
theorem g_in (t : Fin cfg0.N) (j : Fin 1024) : (View.ld (iblk m c 4 t : Vec Ideal S1x8x1024 .f32) r0_3 : S1x1x1024.Idx → EReal) (ix3 0 0 j)
    = aM m c (ix2 (0 : Fin 2) ⟨4096 + (t.val % 2 * 1024 + j.val), by omega⟩) := by
  have e : (r0_3.emb (ix3 0 0 j) : S1x8x1024.Idx) = ix3 (0 : Fin 1) (0 : Fin 8) j := by
    refine funext fun a => Fin.ext ?_
    match a with
    | ⟨0, _⟩ => rfl
    | ⟨1, _⟩ => rfl
    | ⟨2, _⟩ => show 0 + 1 * j.val = j.val; omega
  refine (congrArg (iblk m c 4 t : S1x8x1024.Idx → EReal) e).trans ?_
  rw [← v4_at m c (0 : Fin 2) (0 : Fin 8)]
  show (V m c main_v4 : S2x8x6144.Idx → EReal) (((cfg0.win (4 : Fin 6)).rect t).emb (ix3 (0 : Fin 1) (0 : Fin 8) j)) = _
  have e0 := (Window.rect_emb_val (cfg0.win (4 : Fin 6)) t (ix3 (0 : Fin 1) (0 : Fin 8) j) (0 : Fin 3) rfl).trans (congrArg (fun v : Fin 3 → ℕ => v 0 * 1 + 0) (index4 t))
  have e1 := (Window.rect_emb_val (cfg0.win (4 : Fin 6)) t (ix3 (0 : Fin 1) (0 : Fin 8) j) (1 : Fin 3) rfl).trans (congrArg (fun v : Fin 3 → ℕ => v 1 * 8 + 0) (index4 t))
  have e2 := (Window.rect_emb_val (cfg0.win (4 : Fin 6)) t (ix3 (0 : Fin 1) (0 : Fin 8) j) (2 : Fin 3) rfl).trans (congrArg (fun v : Fin 3 → ℕ => v 2 * 1024 + j.val) (index4 t))
  refine congrArg (V m c main_v4 : S2x8x6144.Idx → EReal) (funext fun a => ?_)
  match a with
  | ⟨0, _⟩ => exact Fin.ext e0
  | ⟨1, _⟩ => exact Fin.ext e1
  | ⟨2, _⟩ => exact Fin.ext (e2.trans (show (4 + t.val % 2) * 1024 + j.val = 4096 + (t.val % 2 * 1024 + j.val) by omega))

/-- What the body leaves is its one store. -/
theorem out_eq (a b : Vec Ideal S1024x1024 .bf16) (w : Vec Ideal S2048x1024 .bf16) (x : Vec Ideal S1024x1024 .f32)
    (g : Vec Ideal S1x8x1024 .f32) : out0_5 a b w x g = k0_pay1 a (View.ld w r0_1) b (View.ld w r0_2) x (View.ld g r0_3) := by
  unfold out0_5
  rw [View.canon_cons_unit_lit _ _ _ (by decide), View.ld_unit_lit _ a (by decide), View.ld_unit_lit _ b (by decide),
    View.ld_unit_lit _ x (by decide)]

/-- What a point computes is its block of the result. -/
theorem cell (t : Fin cfg0.N) (r k : Fin 1024) :
    (out0_5 (iblk m c 0 t) (iblk m c 1 t) (iblk m c 2 t) (iblk m c 3 t) (iblk m c 4 t) : S1024x1024.Idx → EReal) (ix2 r k)
    = joined (aA m c) (aB m c) (aW m c) (aX m c) (aM m c) (ix2 ⟨t.val / 2 * 1024 + r.val, by have := points t; omega⟩ ⟨t.val % 2 * 1024 + k.val, by omega⟩) := by
  refine (congrFun (out_eq (iblk m c 0 t) (iblk m c 1 t) (iblk m c 2 t) (iblk m c 3 t) (iblk m c 4 t)) (ix2 r k)).trans
    ((block_at _ _ _ _ _ _ r k).trans ?_)
  refine congrArg₂ (fun x y : EReal => x + y) (x_in m c t r k) (congrArg₂ (fun x y : EReal => x * y) (g_in m c t k) (congrArg₂ (fun x y : EReal => x + y) ?_ ?_))
  · exact Finset.sum_congr rfl fun e _ => congrArg₂ (fun x y : EReal => x * y) (a_in m c t r e) (u_in m c t e k)
  · exact Finset.sum_congr rfl fun e _ => congrArg₂ (fun x y : EReal => x * y) (b_in m c t r e) (l_in m c t e k)

theorem flush5 : ∀ t : Fin cfg0.N, (cfg0.win (5 : Fin 6)).flush t = true := (by decide +kernel : ∀ t : Fin grid0.N, win0_5.flush t = true)

/-- The array after the run. -/
theorem final : (dats m 0 c).arrAt (5 : Fin 6) cfg0.N = joined (aA m c) (aB m c) (aW m c) (aX m c) (aM m c) := by
  refine (dats m 0 c).arrAt_eq_of_emb (5 : Fin 6) (joined (aA m c) (aB m c) (aW m c) (aX m c) (aM m c)) (fun t hf y => ?_) (fun i => ?_)
  · obtain ⟨r, k, hy⟩ : ∃ (r k : Fin 1024), y = (ix2 r k : S1024x1024.Idx) := ⟨y 0, y 1, (ix2_eta y).symm⟩
    have e0 := (Window.rect_emb_val (cfg0.win (5 : Fin 6)) t y (0 : Fin 2) rfl).trans (congrArg (fun v : Fin 2 → ℕ => v 0 * 1024 + (y (0 : Fin 2)).val) (index5 t))
    have e1 := (Window.rect_emb_val (cfg0.win (5 : Fin 6)) t y (1 : Fin 2) rfl).trans (congrArg (fun v : Fin 2 → ℕ => v 1 * 1024 + (y (1 : Fin 2)).val) (index5 t))
    have ee : ((cfg0.win (5 : Fin 6)).rect t).emb y = (ix2 ⟨t.val / 2 * 1024 + r.val, by have := points t; omega⟩ ⟨t.val % 2 * 1024 + k.val, by omega⟩ : S8192x2048.Idx) := by
      subst hy
      refine funext fun a => ?_
      match a with
      | ⟨0, _⟩ => exact Fin.ext e0
      | ⟨1, _⟩ => exact Fin.ext e1
    refine (congrFun (flushed5 m c t) y).trans ?_
    exact (congrArg (out0_5 (iblk m c 0 t) (iblk m c 1 t) (iblk m c 2 t) (iblk m c 3 t) (iblk m c 4 t) : S1024x1024.Idx → EReal) hy).trans
      ((cell m c t r k).trans (congrArg (joined (aA m c) (aB m c) (aW m c) (aX m c) (aM m c)) ee.symm))
  · have h0 : (i 0).val < 8192 := (i 0).isLt
    have h1 : (i 1).val < 2048 := (i 1).isLt
    let t : Fin cfg0.N := ⟨(i 0).val / 1024 * 2 + (i 1).val / 1024, by show _ < 16; omega⟩
    refine ⟨t, flush5 t, ?_⟩
    refine ((cfg0.win (5 : Fin 6)).emb_mem_blk_iff t i rfl).mpr fun a => ?_
    have ei : (cfg0.win (5 : Fin 6)).index t = ![t.val / 2, t.val % 2] := index5 t
    have tv : t.val = (i 0).val / 1024 * 2 + (i 1).val / 1024 := rfl
    match a with
    | ⟨0, _⟩ =>
      have : (cfg0.win (5 : Fin 6)).index t (0 : Fin 2) * 1024 ≤ (i 0).val ∧ (i 0).val < (cfg0.win (5 : Fin 6)).index t (0 : Fin 2) * 1024 + 1024 := by
        rw [ei]; show t.val / 2 * 1024 ≤ _ ∧ _ < t.val / 2 * 1024 + 1024; omega
      exact this
    | ⟨1, _⟩ =>
      have : (cfg0.win (5 : Fin 6)).index t (1 : Fin 2) * 1024 ≤ (i 1).val ∧ (i 1).val < (cfg0.win (5 : Fin 6)).index t (1 : Fin 2) * 1024 + 1024 := by
        rw [ei]; show t.val % 2 * 1024 ≤ _ ∧ _ < t.val % 2 * 1024 + 1024; omega
      exact this

end Cert.Kernel5Ideal.Proj

namespace Cert.Reference5Ideal.Proj

open Cert.Reference5Ideal Cert.Reference5Ideal.Gen Idealize.ShloMosaic
open Cert.KernelIdeal.Mla (at2)
open Cert.Kernel5Ideal.Proj (joined)

/-- The two halves side by side. -/
def pair (A B : FVec Ideal S8192x1024 .f32) : FVec Ideal S8192x2048 .f32 :=
  concatenate S8192x2048 1 [⟨S8192x1024, A⟩, ⟨S8192x1024, B⟩] concatenates_S8192x1024_S8192x1024_S8192x2048_d1

theorem pair_lo (A B : FVec Ideal S8192x1024 .f32) (R : Fin 8192) (k : Fin 1024) : pair A B (ix2 R ⟨k.val, by omega⟩) = A (ix2 R k) := by
  pointwise [pair]

theorem pair_hi (A B : FVec Ideal S8192x1024 .f32) (R : Fin 8192) (k : Fin 1024) : pair A B (ix2 R ⟨1024 + k.val, by omega⟩) = B (ix2 R k) := by
  pointwise [pair]

/-- The reference's residual. -/
def residual (E : FVec Ideal S8192x2048 .f32) (W : FVec Ideal S2048x2048 .f32) (X : FVec Ideal S8192x2048 .f32) (M : FVec Ideal S2x6144 .f32) :
    FVec Ideal S8192x2048 .f32 :=
  addf X (mulf (broadcastInDim S8192x2048 ![0, 1] bcast_S1x2048_S8192x2048_0_1 (extractStridedSlice S1x2048 ![0, 4096] (extractStridedSlice S1x6144 ![0, 0] M slices_S2x6144_S1x6144_0_0) slices_S1x6144_S1x2048_0_4096)) (Host.dotGeneral dot_S8192x2048_S2048x2048_S8192x2048_1_0_0_1_n_n none E W))

theorem residual_at (E : FVec Ideal S8192x2048 .f32) (W : FVec Ideal S2048x2048 .f32) (X : FVec Ideal S8192x2048 .f32) (M : FVec Ideal S2x6144 .f32)
    (R : Fin 8192) (j : Fin 2048) : residual E W X M (ix2 R j)
      = X (ix2 R j) + M (ix2 (0 : Fin 2) ⟨4096 + j.val, by omega⟩) * ∑ k : Fin 2048, E (ix2 R k) * W (ix2 k j) := by
  pointwise [residual]

/-- The reference's whole value. -/
theorem whole (A B : FVec Ideal S8192x1024 .f32) (W : FVec Ideal S2048x2048 .f32) (X : FVec Ideal S8192x2048 .f32) (M : FVec Ideal S2x6144 .f32) :
    residual (pair A B) W X M = joined A B W X M := by
  funext i
  obtain ⟨r, j, hy⟩ : ∃ (r : Fin 8192) (k : Fin 2048), i = (ix2 r k : S8192x2048.Idx) := ⟨i 0, i 1, (ix2_eta i).symm⟩
  subst hy
  refine (residual_at _ _ _ _ r j).trans ?_
  refine congrArg₂ (fun x y : EReal => x + y) rfl (congrArg₂ (fun x y : EReal => x * y) rfl ?_)
  refine (Fin.sum_univ_add (a := 1024) (b := 1024) fun k : Fin (1024 + 1024) => pair A B (ix2 r k) * W (ix2 k j)).trans ?_
  refine congrArg₂ (fun x y : EReal => x + y) (Finset.sum_congr rfl fun k _ => ?_) (Finset.sum_congr rfl fun k _ => ?_)
  · exact congrArg (fun x : EReal => x * W (ix2 ⟨k.val, by omega⟩ j)) (pair_lo A B r k)
  · exact congrArg (fun x : EReal => x * W (ix2 ⟨1024 + k.val, by omega⟩ j)) (pair_hi A B r k)

end Cert.Reference5Ideal.Proj

end
-- ==== Proof.Proj.Claims.lean ====
module

public import proofs.«01_k».proof.Defs
public import proofs.«01_k».proof.Proof.Gen.Kernel2.Frame
public import proofs.«01_k».proof.Proof.Gen.Kernel3.Frame
public import proofs.«01_k».proof.Proof.Gen.Kernel5.Frame
public import proofs.«01_k».proof.Proof.Proj.Plain
public import proofs.«01_k».proof.Proof.Proj.Last
public import proofs.«01_k».proof.Proof.Proj.Joined

@[expose] public section

/-! # The products' frames and values: the second layer's projections, the result, the first layer's output -/

noncomputable section

namespace Cert.Proof

open Idealize.ShloMosaic Idealize.ShloMosaic.TcCoe Idealize.SL.Sem

theorem frame_words2 : @Cert.quiescent_Kernel2 Cert.Kernel2.Gen.facts := fun m g _ => Cert.Kernel2.Gen.frame m g

theorem frame_ideal2 : @Cert.quiescent_Kernel2Ideal Cert.Kernel2Ideal.Gen.facts := fun m g _ => Cert.Kernel2Ideal.Gen.frame m g

theorem frame_reference2 : @Cert.quiescent_Reference2Ideal Cert.Reference2Ideal.Gen.facts := fun m g _ =>
  (θ_run _ _ _).mono (fun r h => ⟨fun c => (h c).2, sem_eq_zero_of_no_sems (by decide) r.2⟩) (Cert.Reference2Ideal.Value.run m g)

theorem value2 : @Cert.algebraic_Kernel2Ideal_Reference2Ideal Cert.Kernel2Ideal.Gen.facts Cert.Reference2Ideal.Gen.facts := by
  intro m g m' g' _ hargs
  refine ⟨fun c => Cert.Kernel2Ideal.Proj.product (Cert.Kernel2Ideal.Proj.aX m c) (Cert.Kernel2Ideal.Proj.aW m c), ?_, ?_⟩
  · exact (θ_run _ _ _).mono (fun r h c => ⟨((h c).1).trans (Cert.Kernel2Ideal.Proj.final m c), (h c).2⟩) (Cert.Kernel2Ideal.Value.run_blocks m g)
  · refine (θ_run _ _ _).mono (fun r h c => ⟨((h c).1).trans ?_, (h c).2⟩) (Cert.Reference2Ideal.Value.run m' g')
    obtain ⟨h0, h1⟩ := hargs c
    rw [h0, h1]
    exact Cert.Reference2Ideal.Proj.whole _ _

theorem frame_words3 : @Cert.quiescent_Kernel3 Cert.Kernel3.Gen.facts := fun m g _ => Cert.Kernel3.Gen.frame m g

theorem frame_ideal3 : @Cert.quiescent_Kernel3Ideal Cert.Kernel3Ideal.Gen.facts := fun m g _ => Cert.Kernel3Ideal.Gen.frame m g

theorem frame_reference3 : @Cert.quiescent_Reference3Ideal Cert.Reference3Ideal.Gen.facts := fun m g _ =>
  (θ_run _ _ _).mono (fun r h => ⟨fun c => (h c).2, sem_eq_zero_of_no_sems (by decide) r.2⟩) (Cert.Reference3Ideal.Value.run m g)

theorem value3 : @Cert.algebraic_Kernel3Ideal_Reference3Ideal Cert.Kernel3Ideal.Gen.facts Cert.Reference3Ideal.Gen.facts := by
  intro m g m' g' _ hargs
  refine ⟨fun c => Cert.Kernel3Ideal.Proj.normed (Cert.Kernel3Ideal.Proj.aY m c) (Cert.Kernel3Ideal.Proj.aW m c) (Cert.Kernel3Ideal.Proj.aX m c) (Cert.Kernel3Ideal.Proj.aM m c) (Cert.Kernel3Ideal.Proj.aG m c), ?_, ?_⟩
  · exact (θ_run _ _ _).mono (fun r h c => ⟨((h c).1).trans (Cert.Kernel3Ideal.Proj.final m c), (h c).2⟩) (Cert.Kernel3Ideal.Value.run_blocks m g)
  · refine (θ_run _ _ _).mono (fun r h c => ⟨((h c).1).trans ?_, (h c).2⟩) (Cert.Reference3Ideal.Value.run m' g')
    obtain ⟨h0, h1, h2, h3, h4⟩ := hargs c
    rw [h0, h1, h2, h3, h4]
    exact Cert.Reference3Ideal.Proj.whole _ _ _ _ _

theorem frame_words5 : @Cert.quiescent_Kernel5 Cert.Kernel5.Gen.facts := fun m g _ => Cert.Kernel5.Gen.frame m g

theorem frame_ideal5 : @Cert.quiescent_Kernel5Ideal Cert.Kernel5Ideal.Gen.facts := fun m g _ => Cert.Kernel5Ideal.Gen.frame m g

theorem frame_reference5 : @Cert.quiescent_Reference5Ideal Cert.Reference5Ideal.Gen.facts := fun m g _ =>
  (θ_run _ _ _).mono (fun r h => ⟨fun c => (h c).2, sem_eq_zero_of_no_sems (by decide) r.2⟩) (Cert.Reference5Ideal.Value.run m g)

theorem value5 : @Cert.algebraic_Kernel5Ideal_Reference5Ideal Cert.Kernel5Ideal.Gen.facts Cert.Reference5Ideal.Gen.facts := by
  intro m g m' g' _ hargs
  refine ⟨fun c => Cert.Kernel5Ideal.Proj.joined (Cert.Kernel5Ideal.Proj.aA m c) (Cert.Kernel5Ideal.Proj.aB m c) (Cert.Kernel5Ideal.Proj.aW m c) (Cert.Kernel5Ideal.Proj.aX m c) (Cert.Kernel5Ideal.Proj.aM m c), ?_, ?_⟩
  · exact (θ_run _ _ _).mono (fun r h c => ⟨((h c).1).trans (Cert.Kernel5Ideal.Proj.final m c), (h c).2⟩) (Cert.Kernel5Ideal.Value.run_blocks m g)
  · refine (θ_run _ _ _).mono (fun r h c => ⟨((h c).1).trans ?_, (h c).2⟩) (Cert.Reference5Ideal.Value.run m' g')
    obtain ⟨h0, h1, h2, h3, h4⟩ := hargs c
    rw [h0, h1, h2, h3, h4]
    exact Cert.Reference5Ideal.Proj.whole _ _ _ _ _

end Cert.Proof

end
-- ==== Proof.Proj.InPoints.lean ====
module

public import proofs.«01_k».proof.Proof.Gen.Kernel4Ideal.Frame
public import proofs.«01_k».proof.Proof.Mla.Cells
public import Idealize.ShloMosaic.Lib.Pipeline.ValueKit.Geometry
public import Idealize.ShloMosaic.Lib.Pipeline.ValueKit.Acc
public import Idealize.ShloMosaic.Lib.StableHlo.RunRead

@[expose] public section

/-! # The input projection: what the points compute, and the array they leave -/

noncomputable section

namespace Cert.Kernel4Ideal.Proj

open Idealize.ShloMosaic Idealize.ShloMosaic.TcCoe Cert.Kernel4Ideal Cert.Kernel4Ideal.Gen Idealize.ShloMosaic.Pipeline
open Cert.KernelIdeal.Mla (at2)

/-- The modulated norm of a row: over the root of its mean square, times the gain, scaled and shifted. -/
def rows (X : S8192x2048.Idx → EReal) (M : S2x6144.Idx → EReal) (G : S2048.Idx → EReal) (R : Fin 8192) (k : Fin 2048) : EReal :=
  X (ix2 R k)
    * Ideal.rsqrt (Ideal.div (∑ j : Fin 2048, X (ix2 R j) * X (ix2 R j)) (Ideal.ofBits .f32 0x45000000#32) + Ideal.ofBits .f32 0x358637BD#32)
    * G (ix1 k)
    * (Ideal.ofBits .f32 0x3F800000#32 + M (ix2 (0 : Fin 2) ⟨2048 + k.val, by omega⟩))
    + M (ix2 (0 : Fin 2) ⟨k.val, by omega⟩)

/-- The first store, at an index. -/
theorem store_at (x : Vec Ideal S1024x2048 .f32) (g : Vec Ideal S1x2048 .f32) (s h : Vec Ideal S1x1x2048 .f32) (r : Fin 1024) (k : Fin 2048) :
    k0_pay1 x g s h (ix2 r k)
      = x (ix2 r k)
        * Ideal.rsqrt (Ideal.div (∑ j : Fin 2048, x (ix2 r j) * x (ix2 r j)) (Ideal.ofBits .f32 0x45000000#32) + Ideal.ofBits .f32 0x358637BD#32)
        * g (ix2 0 k) * (Ideal.ofBits .f32 0x3F800000#32 + s (ix3 0 0 k)) + h (ix3 0 0 k) := by
  pointwise [k0_pay1]

/-- The product, at an index. -/
theorem block_at (a : Vec Ideal S1024x2048 .bf16) (w : Vec Ideal S2048x1024 .bf16) (r c : Fin 1024) :
    k0_pay2 a w (ix2 r c) = ∑ k : Fin 2048, a (ix2 r k) * w (ix2 k c) := by
  pointwise [k0_pay2]

variable (m : (ℓ : Loc nD τ sig) → Buf (Elt Ideal) ℓ) (c : Dev nD)

/-- The arguments, and the weights as the kernel takes them. -/
abbrev aX : S8192x2048.Idx → EReal := m ((c : Thread nD τ).loc main_arg0)
abbrev aM : S2x6144.Idx → EReal := m ((c : Thread nD τ).loc main_arg1)
abbrev aG : S2048.Idx → EReal := m ((c : Thread nD τ).loc main_arg2)
abbrev aW : S2048x4976.Idx → EReal := m ((c : Thread nD τ).loc main_arg3)
abbrev kW : S2048x5120.Idx → EReal := V m c main_v15

theorem v17_eq : (V m c main_v17 : FVec Ideal S2x8x6144 .f32) = broadcastInDim S2x8x6144 ![0, 1, 2] bcast_S2x1x6144_S2x8x6144_0_1_2
    (broadcastInDim S2x1x6144 ![0, 2] bcast_S2x6144_S2x1x6144_0_2 (aM m c : FVec Ideal S2x6144 .f32)) := by
  unfold V; after_reads_simp
theorem v18_eq : (V m c main_v18 : FVec Ideal S1x2048 .f32) = shapeCast S1x2048 (aG m c : FVec Ideal S2048 .f32) shapeCasts_S2048_S1x2048 := by
  unfold V; after_reads_simp; rfl

theorem v17_at (a : Fin 2) (b : Fin 8) (d : Fin 6144) : (V m c main_v17 : S2x8x6144.Idx → EReal) (ix3 a b d) = aM m c (ix2 a d) := by
  rw [v17_eq]; pointwise
theorem v18_at (d : Fin 2048) : (V m c main_v18 : S1x2048.Idx → EReal) (ix2 0 d) = aG m c (ix1 d) := by
  rw [v18_eq]; pointwise

theorem index0 : ∀ t : Fin cfg0.N, win0_0.index t = ![t.val / 5, 0] := (by decide +kernel : ∀ t : Fin grid0.N, win0_0.index t = ![t.val / 5, 0])
theorem index1 : ∀ t : Fin cfg0.N, win0_1.index t = ![0, t.val % 5] := (by decide +kernel : ∀ t : Fin grid0.N, win0_1.index t = ![0, t.val % 5])
theorem index2 : ∀ t : Fin cfg0.N, win0_2.index t = ![0, 0] := (by decide +kernel : ∀ t : Fin grid0.N, win0_2.index t = ![0, 0])
theorem index3 : ∀ t : Fin cfg0.N, win0_3.index t = ![0, 0, 1] := (by decide +kernel : ∀ t : Fin grid0.N, win0_3.index t = ![0, 0, 1])
theorem index4 : ∀ t : Fin cfg0.N, win0_4.index t = ![0, 0, 0] := (by decide +kernel : ∀ t : Fin grid0.N, win0_4.index t = ![0, 0, 0])
theorem index5 : ∀ t : Fin cfg0.N, win0_5.index t = ![t.val / 5, t.val % 5] := (by decide +kernel : ∀ t : Fin grid0.N, win0_5.index t = ![t.val / 5, t.val % 5])
theorem points (t : Fin cfg0.N) : t.val < 40 := t.isLt

theorem x_in (t : Fin cfg0.N) (r : Fin 1024) (k : Fin 2048) : (iblk m c 0 t : S1024x2048.Idx → EReal) (ix2 r k)
    = aX m c (ix2 ⟨t.val / 5 * 1024 + r.val, by have := points t; omega⟩ k) := by
  show (V m c main_arg0 : S8192x2048.Idx → EReal) (((cfg0.win (0 : Fin 6)).rect t).emb (ix2 r k)) = _
  rw [V_main_arg0]
  have e0 := (Window.rect_emb_val (cfg0.win (0 : Fin 6)) t (ix2 r k) (0 : Fin 2) rfl).trans (congrArg (fun v : Fin 2 → ℕ => v 0 * 1024 + r.val) (index0 t))
  have e1 := (Window.rect_emb_val (cfg0.win (0 : Fin 6)) t (ix2 r k) (1 : Fin 2) rfl).trans (congrArg (fun v : Fin 2 → ℕ => v 1 * 2048 + k.val) (index0 t))
  refine congrArg (aX m c) (funext fun a => ?_)
  match a with
  | ⟨0, _⟩ => exact Fin.ext e0
  | ⟨1, _⟩ => exact Fin.ext (e1.trans (show 0 * 2048 + k.val = k.val by omega))

theorem w_in (t : Fin cfg0.N) (r : Fin 2048) (k : Fin 1024) : (iblk m c 1 t : S2048x1024.Idx → EReal) (ix2 r k)
    = kW m c (ix2 r ⟨t.val % 5 * 1024 + k.val, by omega⟩) := by
  show (V m c main_v15 : S2048x5120.Idx → EReal) (((cfg0.win (1 : Fin 6)).rect t).emb (ix2 r k)) = _
  have e0 := (Window.rect_emb_val (cfg0.win (1 : Fin 6)) t (ix2 r k) (0 : Fin 2) rfl).trans (congrArg (fun v : Fin 2 → ℕ => v 0 * 2048 + r.val) (index1 t))
  have e1 := (Window.rect_emb_val (cfg0.win (1 : Fin 6)) t (ix2 r k) (1 : Fin 2) rfl).trans (congrArg (fun v : Fin 2 → ℕ => v 1 * 1024 + k.val) (index1 t))
  refine congrArg (kW m c) (funext fun a => ?_)
  match a with
  | ⟨0, _⟩ => exact Fin.ext (e0.trans (show 0 * 2048 + r.val = r.val by omega))
  | ⟨1, _⟩ => exact Fin.ext e1

theorem g_in (t : Fin cfg0.N) (k : Fin 2048) : (iblk m c 2 t : S1x2048.Idx → EReal) (ix2 0 k) = aG m c (ix1 k) := by
  rw [← v18_at m c]
  show (V m c main_v18 : S1x2048.Idx → EReal) (((cfg0.win (2 : Fin 6)).rect t).emb (ix2 (0 : Fin 1) k)) = _
  have e0 := (Window.rect_emb_val (cfg0.win (2 : Fin 6)) t (ix2 (0 : Fin 1) k) (0 : Fin 2) rfl).trans (congrArg (fun v : Fin 2 → ℕ => v 0 * 1 + 0) (index2 t))
  have e1 := (Window.rect_emb_val (cfg0.win (2 : Fin 6)) t (ix2 (0 : Fin 1) k) (1 : Fin 2) rfl).trans (congrArg (fun v : Fin 2 → ℕ => v 1 * 2048 + k.val) (index2 t))
  refine congrArg (V m c main_v18 : S1x2048.Idx → EReal) (funext fun a => ?_)
  match a with
  | ⟨0, _⟩ => exact Fin.ext e0
  | ⟨1, _⟩ => exact Fin.ext (e1.trans (show 0 * 2048 + k.val = k.val by omega))

/-- The rows' block of the modulation. -/
abbrev row0 := (Rect.unit (s := S1x8x2048) ![0, 0, 0] S1x1x2048.size inb_S1x8x2048_S1x1x2048_0_0_0)

theorem row0_emb (j : Fin 2048) : (row0.emb (ix3 0 0 j) : S1x8x2048.Idx) = ix3 (0 : Fin 1) (0 : Fin 8) j := by
  refine funext fun a => Fin.ext ?_
  match a with
  | ⟨0, _⟩ => rfl
  | ⟨1, _⟩ => rfl
  | ⟨2, _⟩ => show 0 + 1 * j.val = j.val; omega

theorem s_in (t : Fin cfg0.N) (j : Fin 2048) : (View.ld (iblk m c 3 t : Vec Ideal S1x8x2048 .f32) row0 : S1x1x2048.Idx → EReal) (ix3 0 0 j)
    = aM m c (ix2 (0 : Fin 2) ⟨2048 + j.val, by omega⟩) := by
  refine (congrArg (iblk m c 3 t : S1x8x2048.Idx → EReal) (row0_emb j)).trans ?_
  rw [← v17_at m c (0 : Fin 2) (0 : Fin 8)]
  show (V m c main_v17 : S2x8x6144.Idx → EReal) (((cfg0.win (3 : Fin 6)).rect t).emb (ix3 (0 : Fin 1) (0 : Fin 8) j)) = _
  have e0 := (Window.rect_emb_val (cfg0.win (3 : Fin 6)) t (ix3 (0 : Fin 1) (0 : Fin 8) j) (0 : Fin 3) rfl).trans (congrArg (fun v : Fin 3 → ℕ => v 0 * 1 + 0) (index3 t))
  have e1 := (Window.rect_emb_val (cfg0.win (3 : Fin 6)) t (ix3 (0 : Fin 1) (0 : Fin 8) j) (1 : Fin 3) rfl).trans (congrArg (fun v : Fin 3 → ℕ => v 1 * 8 + 0) (index3 t))
  have e2 := (Window.rect_emb_val (cfg0.win (3 : Fin 6)) t (ix3 (0 : Fin 1) (0 : Fin 8) j) (2 : Fin 3) rfl).trans (congrArg (fun v : Fin 3 → ℕ => v 2 * 2048 + j.val) (index3 t))
  refine congrArg (V m c main_v17 : S2x8x6144.Idx → EReal) (funext fun a => ?_)
  match a with
  | ⟨0, _⟩ => exact Fin.ext e0
  | ⟨1, _⟩ => exact Fin.ext e1
  | ⟨2, _⟩ => exact Fin.ext (e2.trans (show 1 * 2048 + j.val = 2048 + j.val by omega))

theorem h_in (t : Fin cfg0.N) (j : Fin 2048) : (View.ld (iblk m c 4 t : Vec Ideal S1x8x2048 .f32) row0 : S1x1x2048.Idx → EReal) (ix3 0 0 j)
    = aM m c (ix2 (0 : Fin 2) ⟨j.val, by omega⟩) := by
  refine (congrArg (iblk m c 4 t : S1x8x2048.Idx → EReal) (row0_emb j)).trans ?_
  rw [← v17_at m c (0 : Fin 2) (0 : Fin 8)]
  show (V m c main_v17 : S2x8x6144.Idx → EReal) (((cfg0.win (4 : Fin 6)).rect t).emb (ix3 (0 : Fin 1) (0 : Fin 8) j)) = _
  have e0 := (Window.rect_emb_val (cfg0.win (4 : Fin 6)) t (ix3 (0 : Fin 1) (0 : Fin 8) j) (0 : Fin 3) rfl).trans (congrArg (fun v : Fin 3 → ℕ => v 0 * 1 + 0) (index4 t))
  have e1 := (Window.rect_emb_val (cfg0.win (4 : Fin 6)) t (ix3 (0 : Fin 1) (0 : Fin 8) j) (1 : Fin 3) rfl).trans (congrArg (fun v : Fin 3 → ℕ => v 1 * 8 + 0) (index4 t))
  have e2 := (Window.rect_emb_val (cfg0.win (4 : Fin 6)) t (ix3 (0 : Fin 1) (0 : Fin 8) j) (2 : Fin 3) rfl).trans (congrArg (fun v : Fin 3 → ℕ => v 2 * 2048 + j.val) (index4 t))
  refine congrArg (V m c main_v17 : S2x8x6144.Idx → EReal) (funext fun a => ?_)
  match a with
  | ⟨0, _⟩ => exact Fin.ext e0
  | ⟨1, _⟩ => exact Fin.ext e1
  | ⟨2, _⟩ => exact Fin.ext (e2.trans (show 0 * 2048 + j.val = j.val by omega))

/-- A row block's first point stores the modulated norms of its rows. -/
theorem stored_first (t : Fin cfg0.N) (h : t.val % 5 = 0) : (outsAt0 m c t.val t.isLt).2
    = k0_pay1 (iblk m c 0 t) (iblk m c 2 t) (View.ld (iblk m c 3 t : Vec Ideal S1x8x2048 .f32) row0) (View.ld (iblk m c 4 t : Vec Ideal S1x8x2048 .f32) row0) := by
  rw [outsAt0_A m c t h]
  frame_out
  rfl

/-- Its product is over what it has just stored. -/
theorem out_first (t : Fin cfg0.N) (h : t.val % 5 = 0) : (outsAt0 m c t.val t.isLt).1
    = k0_pay2 (outsAt0 m c t.val t.isLt).2 (iblk m c 1 t) := by
  rw [stored_first m c t h, outsAt0_A m c t h]
  frame_out
  rfl

/-- The later points keep the stored rows. -/
theorem stored_later (t : Fin cfg0.N) (h : ¬t.val % 5 = 0) : (outsAt0 m c t.val t.isLt).2
    = (outsAt0 m c (t.val - 1) (Nat.lt_of_le_of_lt (Nat.sub_le _ _) t.isLt)).2 := by
  rw [outsAt0_B m c t h]
  rfl

theorem out_later (t : Fin cfg0.N) (h : ¬t.val % 5 = 0) : (outsAt0 m c t.val t.isLt).1
    = k0_pay2 (outsAt0 m c t.val t.isLt).2 (iblk m c 1 t) := by
  rw [stored_later m c t h, outsAt0_B m c t h]
  frame_out
  exact congrArg (fun a : Vec Ideal S1024x2048 .bf16 => k0_pay2 a (iblk m c 1 t)) (Memref.IsWhole.read_unread _ _)

/-- Every point finds, or has stored, the modulated norms of its row block. -/
theorem stored_at (n : ℕ) : ∀ (hn : n < cfg0.N) (r : Fin 1024) (k : Fin 2048), ((outsAt0 m c n hn).2 : S1024x2048.Idx → EReal) (ix2 r k)
    = rows (aX m c) (aM m c) (aG m c) ⟨n / 5 * 1024 + r.val, by have : n < 40 := hn; omega⟩ k := by
  induction n using Nat.strong_induction_on with
  | _ n ih =>
    intro hn r k
    have hn' : n < 40 := hn
    by_cases h : n % 5 = 0
    · refine (congrFun (stored_first m c ⟨n, hn⟩ h) (ix2 r k)).trans ((store_at _ _ _ _ r k).trans ?_)
      refine congrArg₂ (fun x y : EReal => x + y) (congrArg₂ (fun x y : EReal => x * y) (congrArg₂ (fun x y : EReal => x * y)
        (congrArg₂ (fun x y : EReal => x * y) (x_in m c ⟨n, hn⟩ r k) ?_) (g_in m c ⟨n, hn⟩ k)) ?_) (h_in m c ⟨n, hn⟩ k)
      · refine congrArg (fun s : EReal => Ideal.rsqrt (Ideal.div s (Ideal.ofBits .f32 0x45000000#32) + Ideal.ofBits .f32 0x358637BD#32)) ?_
        exact Finset.sum_congr rfl fun j _ => congrArg₂ (fun x y : EReal => x * y) (x_in m c ⟨n, hn⟩ r j) (x_in m c ⟨n, hn⟩ r j)
      · exact congrArg (fun x : EReal => Ideal.ofBits .f32 0x3F800000#32 + x) (s_in m c ⟨n, hn⟩ k)
    · refine (congrFun (stored_later m c ⟨n, hn⟩ h) (ix2 r k)).trans ((ih (n - 1) (by omega) (by omega) r k).trans ?_)
      refine congrArg (fun R : Fin 8192 => rows (aX m c) (aM m c) (aG m c) R k) (Fin.ext ?_)
      show (n - 1) / 5 * 1024 + r.val = n / 5 * 1024 + r.val
      omega

/-- Each point's product, over the rows it finds. -/
theorem out_eq (t : Fin cfg0.N) : (outsAt0 m c t.val t.isLt).1 = k0_pay2 (outsAt0 m c t.val t.isLt).2 (iblk m c 1 t) := by
  by_cases h : t.val % 5 = 0
  · exact out_first m c t h
  · exact out_later m c t h

/-- The product of the modulated norms with the weights as the kernel takes them. -/
def product (X : S8192x2048.Idx → EReal) (M : S2x6144.Idx → EReal) (G : S2048.Idx → EReal) (W : S2048x5120.Idx → EReal) :
    S8192x5120.Idx → EReal := fun i => ∑ k : Fin 2048, rows X M G (i 0) k * W (ix2 k (i 1))

/-- What a point computes is its block of the product. -/
theorem cell (t : Fin cfg0.N) (r k : Fin 1024) : ((outsAt0 m c t.val t.isLt).1 : S1024x1024.Idx → EReal) (ix2 r k)
    = product (aX m c) (aM m c) (aG m c) (kW m c) (ix2 ⟨t.val / 5 * 1024 + r.val, by have := points t; omega⟩ ⟨t.val % 5 * 1024 + k.val, by omega⟩) := by
  refine (congrFun (out_eq m c t) (ix2 r k)).trans ((block_at _ _ r k).trans ?_)
  exact Finset.sum_congr rfl fun e _ => congrArg₂ (fun x y : EReal => x * y) (stored_at m c t.val t.isLt r e) (w_in m c t e k)

theorem flush5 : ∀ t : Fin cfg0.N, (cfg0.win (5 : Fin 6)).flush t = true := (by decide +kernel : ∀ t : Fin grid0.N, win0_5.flush t = true)

theorem flushed5 (t : Fin cfg0.N) : (dats m 0 c).flushed 5 t = (cfg0.win 5).cut (grid0.coords t) (outsAt0 m c t.val t.isLt).1 := by
  show (cfg0.win 5).cut (grid0.coords t) ((dats m 0 c).after 5 t) = _
  rw [after0_5]

/-- The array after the points. -/
theorem final : (dats m 0 c).arrAt (5 : Fin 6) cfg0.N = product (aX m c) (aM m c) (aG m c) (kW m c) := by
  refine (dats m 0 c).arrAt_eq_of_emb (5 : Fin 6) (product (aX m c) (aM m c) (aG m c) (kW m c)) (fun t hf y => ?_) (fun i => ?_)
  · obtain ⟨r, k, hy⟩ : ∃ (r k : Fin 1024), y = (ix2 r k : S1024x1024.Idx) := ⟨y 0, y 1, (ix2_eta y).symm⟩
    have e0 := (Window.rect_emb_val (cfg0.win (5 : Fin 6)) t y (0 : Fin 2) rfl).trans (congrArg (fun v : Fin 2 → ℕ => v 0 * 1024 + (y (0 : Fin 2)).val) (index5 t))
    have e1 := (Window.rect_emb_val (cfg0.win (5 : Fin 6)) t y (1 : Fin 2) rfl).trans (congrArg (fun v : Fin 2 → ℕ => v 1 * 1024 + (y (1 : Fin 2)).val) (index5 t))
    have ee : ((cfg0.win (5 : Fin 6)).rect t).emb y = (ix2 ⟨t.val / 5 * 1024 + r.val, by have := points t; omega⟩ ⟨t.val % 5 * 1024 + k.val, by omega⟩ : S8192x5120.Idx) := by
      subst hy
      refine funext fun a => ?_
      match a with
      | ⟨0, _⟩ => exact Fin.ext e0
      | ⟨1, _⟩ => exact Fin.ext e1
    refine (congrFun (flushed5 m c t) y).trans ?_
    exact (congrArg ((outsAt0 m c t.val t.isLt).1 : S1024x1024.Idx → EReal) hy).trans
      ((cell m c t r k).trans (congrArg (product (aX m c) (aM m c) (aG m c) (kW m c)) ee.symm))
  · have h0 : (i 0).val < 8192 := (i 0).isLt
    have h1 : (i 1).val < 5120 := (i 1).isLt
    let t : Fin cfg0.N := ⟨(i 0).val / 1024 * 5 + (i 1).val / 1024, by show _ < 40; omega⟩
    refine ⟨t, flush5 t, ?_⟩
    refine ((cfg0.win (5 : Fin 6)).emb_mem_blk_iff t i rfl).mpr fun a => ?_
    have ei : (cfg0.win (5 : Fin 6)).index t = ![t.val / 5, t.val % 5] := index5 t
    have tv : t.val = (i 0).val / 1024 * 5 + (i 1).val / 1024 := rfl
    match a with
    | ⟨0, _⟩ =>
      have : (cfg0.win (5 : Fin 6)).index t (0 : Fin 2) * 1024 ≤ (i 0).val ∧ (i 0).val < (cfg0.win (5 : Fin 6)).index t (0 : Fin 2) * 1024 + 1024 := by
        rw [ei]; show t.val / 5 * 1024 ≤ _ ∧ _ < t.val / 5 * 1024 + 1024; omega
      exact this
    | ⟨1, _⟩ =>
      have : (cfg0.win (5 : Fin 6)).index t (1 : Fin 2) * 1024 ≤ (i 1).val ∧ (i 1).val < (cfg0.win (5 : Fin 6)).index t (1 : Fin 2) * 1024 + 1024 := by
        rw [ei]; show t.val % 5 * 1024 ≤ _ ∧ _ < t.val % 5 * 1024 + 1024; omega
      exact this

end Cert.Kernel4Ideal.Proj

end
-- ==== Proof.Proj.InCols.lean ====
module

public import proofs.«01_k».proof.Proof.Proj.InPoints
public import proofs.«01_k».proof.Proof.Gen.Reference4Ideal.Run

@[expose] public section

/-! # The input projection's columns: where the weights' columns go, and where the product's come from -/

noncomputable section

namespace Cert.Kernel4Ideal.Proj

open Idealize.ShloMosaic Idealize.ShloMosaic.TcCoe Cert.Kernel4Ideal Cert.Kernel4Ideal.Gen Idealize.ShloMosaic.Pipeline
open Cert.KernelIdeal.Mla (at2)

/-- The shared key part's columns turned, for a later use the result does not read. -/
def rotated (W : FVec Ideal S2048x4976 .f32) : FVec Ideal S2048x64 .f32 :=
  concatenate S2048x64 1 [⟨S2048x32, Host.negf (extractStridedSlice S2048x32 ![0, 32] (extractStridedSlice S2048x64 ![0, 512] (extractStridedSlice S2048x576 ![0, 3376] W slices_S2048x4976_S2048x576_0_3376) slices_S2048x576_S2048x64_0_512) slices_S2048x64_S2048x32_0_32)⟩,
    ⟨S2048x32, extractStridedSlice S2048x32 ![0, 0] (extractStridedSlice S2048x64 ![0, 512] (extractStridedSlice S2048x576 ![0, 3376] W slices_S2048x4976_S2048x576_0_3376) slices_S2048x576_S2048x64_0_512) slices_S2048x64_S2048x32_0_0⟩] concatenates_S2048x32_S2048x32_S2048x64_d1

/-- The weights' columns in the kernel's order. -/
def arranged (W : FVec Ideal S2048x4976 .f32) : FVec Ideal S2048x5120 .f32 :=
  concatenate S2048x5120 1 [⟨S2048x1024, extractStridedSlice S2048x1024 ![0, 0] W slices_S2048x4976_S2048x1024_0_0⟩,
    ⟨S2048x1024, extractStridedSlice S2048x1024 ![0, 1840] W slices_S2048x4976_S2048x1024_0_1840⟩,
    ⟨S2048x1024, extractStridedSlice S2048x1024 ![0, 3952] W slices_S2048x4976_S2048x1024_0_3952⟩,
    ⟨S2048x512, extractStridedSlice S2048x512 ![0, 2864] W slices_S2048x4976_S2048x512_0_2864⟩,
    ⟨S2048x512, extractStridedSlice S2048x512 ![0, 0] (extractStridedSlice S2048x576 ![0, 3376] W slices_S2048x4976_S2048x576_0_3376) slices_S2048x576_S2048x512_0_0⟩,
    ⟨S2048x768, extractStridedSlice S2048x768 ![0, 1024] W slices_S2048x4976_S2048x768_0_1024⟩,
    ⟨S2048x64, extractStridedSlice S2048x64 ![0, 512] (extractStridedSlice S2048x576 ![0, 3376] W slices_S2048x4976_S2048x576_0_3376) slices_S2048x576_S2048x64_0_512⟩,
    ⟨S2048x64, rotated W⟩,
    ⟨S2048x48, extractStridedSlice S2048x48 ![0, 1792] W slices_S2048x4976_S2048x48_0_1792⟩,
    ⟨S2048x80, broadcastInDim S2048x80 ![] bcast_S_S2048x80 (constant S_ .f32 0x00000000#32)⟩]
    concatenates_S2048x1024_S2048x1024_S2048x1024_S2048x512_S2048x512_S2048x768_S2048x64_S2048x64_S2048x48_S2048x80_S2048x5120_d1

/-- The product's columns back in the weights' order. -/
def back (P : FVec Ideal S8192x5120 .f32) : FVec Ideal S8192x4976 .f32 :=
  concatenate S8192x4976 1 [⟨S8192x1024, extractStridedSlice S8192x1024 ![0, 0] P slices_S8192x5120_S8192x1024_0_0⟩,
    ⟨S8192x768, extractStridedSlice S8192x768 ![0, 4096] P slices_S8192x5120_S8192x768_0_4096⟩,
    ⟨S8192x48, extractStridedSlice S8192x48 ![0, 4992] P slices_S8192x5120_S8192x48_0_4992⟩,
    ⟨S8192x1024, extractStridedSlice S8192x1024 ![0, 1024] P slices_S8192x5120_S8192x1024_0_1024⟩,
    ⟨S8192x512, extractStridedSlice S8192x512 ![0, 3072] P slices_S8192x5120_S8192x512_0_3072⟩,
    ⟨S8192x512, extractStridedSlice S8192x512 ![0, 3584] P slices_S8192x5120_S8192x512_0_3584⟩,
    ⟨S8192x64, extractStridedSlice S8192x64 ![0, 4864] P slices_S8192x5120_S8192x64_0_4864⟩,
    ⟨S8192x1024, extractStridedSlice S8192x1024 ![0, 2048] P slices_S8192x5120_S8192x1024_0_2048⟩]
    concatenates_S8192x1024_S8192x768_S8192x48_S8192x1024_S8192x512_S8192x512_S8192x64_S8192x1024_S8192x4976_d1

theorem back_0 (P : FVec Ideal S8192x5120 .f32) (R : Fin 8192) (q : Fin 1024) :
    back P (ix2 R ⟨q.val, by omega⟩) = P (ix2 R ⟨q.val, by omega⟩) := by
  pointwise [back]

theorem arranged_0 (W : FVec Ideal S2048x4976 .f32) (k : Fin 2048) (q : Fin 1024) :
    arranged W (ix2 k ⟨q.val, by omega⟩) = W (ix2 k ⟨q.val, by omega⟩) := by
  pointwise [arranged]

theorem back_1 (P : FVec Ideal S8192x5120 .f32) (R : Fin 8192) (q : Fin 768) :
    back P (ix2 R ⟨1024 + q.val, by omega⟩) = P (ix2 R ⟨4096 + q.val, by omega⟩) := by
  pointwise [back]

theorem arranged_1 (W : FVec Ideal S2048x4976 .f32) (k : Fin 2048) (q : Fin 768) :
    arranged W (ix2 k ⟨4096 + q.val, by omega⟩) = W (ix2 k ⟨1024 + q.val, by omega⟩) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 W rfl (by dsimp; omega)

theorem back_2 (P : FVec Ideal S8192x5120 .f32) (R : Fin 8192) (q : Fin 48) :
    back P (ix2 R ⟨1792 + q.val, by omega⟩) = P (ix2 R ⟨4992 + q.val, by omega⟩) := by
  pointwise [back]
  refine (dif_neg (by omega)).trans ?_
  refine (dif_neg (by omega)).trans ?_
  refine (dif_pos (by omega)).trans ?_
  exact at2 P rfl (by dsimp; omega)

theorem arranged_2 (W : FVec Ideal S2048x4976 .f32) (k : Fin 2048) (q : Fin 48) :
    arranged W (ix2 k ⟨4992 + q.val, by omega⟩) = W (ix2 k ⟨1792 + q.val, by omega⟩) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 W rfl (by dsimp; omega)

theorem back_3 (P : FVec Ideal S8192x5120 .f32) (R : Fin 8192) (q : Fin 1024) :
    back P (ix2 R ⟨1840 + q.val, by omega⟩) = P (ix2 R ⟨1024 + q.val, by omega⟩) := by
  pointwise [back]
  refine (dif_neg (by omega)).trans ?_
  refine (dif_neg (by omega)).trans ?_
  refine (dif_neg (by omega)).trans ?_
  refine (dif_pos (by omega)).trans ?_
  exact at2 P rfl (by dsimp; omega)

theorem arranged_3 (W : FVec Ideal S2048x4976 .f32) (k : Fin 2048) (q : Fin 1024) :
    arranged W (ix2 k ⟨1024 + q.val, by omega⟩) = W (ix2 k ⟨1840 + q.val, by omega⟩) := by
  pointwise [arranged]

theorem back_4 (P : FVec Ideal S8192x5120 .f32) (R : Fin 8192) (q : Fin 512) :
    back P (ix2 R ⟨2864 + q.val, by omega⟩) = P (ix2 R ⟨3072 + q.val, by omega⟩) := by
  pointwise [back]
  refine (dif_neg (by omega)).trans ?_
  refine (dif_neg (by omega)).trans ?_
  refine (dif_neg (by omega)).trans ?_
  refine (dif_neg (by omega)).trans ?_
  refine (dif_pos (by omega)).trans ?_
  exact at2 P rfl (by dsimp; omega)

theorem arranged_4 (W : FVec Ideal S2048x4976 .f32) (k : Fin 2048) (q : Fin 512) :
    arranged W (ix2 k ⟨3072 + q.val, by omega⟩) = W (ix2 k ⟨2864 + q.val, by omega⟩) := by
  pointwise [arranged]
  refine (dif_neg (by omega)).trans ?_
  refine (dif_neg (by omega)).trans ?_
  refine (dif_neg (by omega)).trans ?_
  refine (dif_pos (by omega)).trans ?_
  exact at2 W rfl (by dsimp; omega)

theorem back_5 (P : FVec Ideal S8192x5120 .f32) (R : Fin 8192) (q : Fin 512) :
    back P (ix2 R ⟨3376 + q.val, by omega⟩) = P (ix2 R ⟨3584 + q.val, by omega⟩) := by
  pointwise [back]
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 P rfl (by dsimp; omega)

theorem arranged_5 (W : FVec Ideal S2048x4976 .f32) (k : Fin 2048) (q : Fin 512) :
    arranged W (ix2 k ⟨3584 + q.val, by omega⟩) = W (ix2 k ⟨3376 + q.val, by omega⟩) := by
  pointwise [arranged]
  refine (dif_neg (by omega)).trans ?_
  refine (dif_neg (by omega)).trans ?_
  refine (dif_neg (by omega)).trans ?_
  refine (dif_neg (by omega)).trans ?_
  refine (dif_pos (by omega)).trans ?_
  exact at2 W rfl (by dsimp; omega)

theorem back_6 (P : FVec Ideal S8192x5120 .f32) (R : Fin 8192) (q : Fin 64) :
    back P (ix2 R ⟨3888 + q.val, by omega⟩) = P (ix2 R ⟨4864 + q.val, by omega⟩) := by
  pointwise [back]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 P rfl (by dsimp; omega)

theorem arranged_6 (W : FVec Ideal S2048x4976 .f32) (k : Fin 2048) (q : Fin 64) :
    arranged W (ix2 k ⟨4864 + q.val, by omega⟩) = W (ix2 k ⟨3888 + q.val, by omega⟩) := by
  pointwise [arranged]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  exact at2 W rfl (by dsimp; omega)

theorem back_7 (P : FVec Ideal S8192x5120 .f32) (R : Fin 8192) (q : Fin 1024) :
    back P (ix2 R ⟨3952 + q.val, by omega⟩) = P (ix2 R ⟨2048 + q.val, by omega⟩) := by
  pointwise [back]
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  exact at2 P rfl (by dsimp; omega)

theorem arranged_7 (W : FVec Ideal S2048x4976 .f32) (k : Fin 2048) (q : Fin 1024) :
    arranged W (ix2 k ⟨2048 + q.val, by omega⟩) = W (ix2 k ⟨3952 + q.val, by omega⟩) := by
  pointwise [arranged]
  refine (dif_neg (by omega)).trans ?_
  refine (dif_neg (by omega)).trans ?_
  refine (dif_pos (by omega)).trans ?_
  exact at2 W rfl (by dsimp; omega)

/-- Each result column comes from the product with the weights' column of the same number. -/
theorem column (j : Fin 4976) : ∃ p : Fin 5120, (∀ (P : FVec Ideal S8192x5120 .f32) (R : Fin 8192), back P (ix2 R j) = P (ix2 R p))
    ∧ ∀ (W : FVec Ideal S2048x4976 .f32) (k : Fin 2048), arranged W (ix2 k p) = W (ix2 k j) := by
  obtain ⟨j, hj⟩ := j
  by_cases h0 : j < 1024
  · exact ⟨⟨j, by omega⟩, fun P R => back_0 P R ⟨j, by omega⟩, fun W k => arranged_0 W k ⟨j, by omega⟩⟩
  by_cases h1 : j < 1792
  · obtain ⟨q, rfl⟩ : ∃ q, j = 1024 + q := ⟨j - 1024, by omega⟩
    exact ⟨⟨4096 + q, by omega⟩, fun P R => back_1 P R ⟨q, by omega⟩, fun W k => arranged_1 W k ⟨q, by omega⟩⟩
  by_cases h2 : j < 1840
  · obtain ⟨q, rfl⟩ : ∃ q, j = 1792 + q := ⟨j - 1792, by omega⟩
    exact ⟨⟨4992 + q, by omega⟩, fun P R => back_2 P R ⟨q, by omega⟩, fun W k => arranged_2 W k ⟨q, by omega⟩⟩
  by_cases h3 : j < 2864
  · obtain ⟨q, rfl⟩ : ∃ q, j = 1840 + q := ⟨j - 1840, by omega⟩
    exact ⟨⟨1024 + q, by omega⟩, fun P R => back_3 P R ⟨q, by omega⟩, fun W k => arranged_3 W k ⟨q, by omega⟩⟩
  by_cases h4 : j < 3376
  · obtain ⟨q, rfl⟩ : ∃ q, j = 2864 + q := ⟨j - 2864, by omega⟩
    exact ⟨⟨3072 + q, by omega⟩, fun P R => back_4 P R ⟨q, by omega⟩, fun W k => arranged_4 W k ⟨q, by omega⟩⟩
  by_cases h5 : j < 3888
  · obtain ⟨q, rfl⟩ : ∃ q, j = 3376 + q := ⟨j - 3376, by omega⟩
    exact ⟨⟨3584 + q, by omega⟩, fun P R => back_5 P R ⟨q, by omega⟩, fun W k => arranged_5 W k ⟨q, by omega⟩⟩
  by_cases h6 : j < 3952
  · obtain ⟨q, rfl⟩ : ∃ q, j = 3888 + q := ⟨j - 3888, by omega⟩
    exact ⟨⟨4864 + q, by omega⟩, fun P R => back_6 P R ⟨q, by omega⟩, fun W k => arranged_6 W k ⟨q, by omega⟩⟩
  · obtain ⟨q, rfl⟩ : ∃ q, j = 3952 + q := ⟨j - 3952, by omega⟩
    exact ⟨⟨2048 + q, by omega⟩, fun P R => back_7 P R ⟨q, by omega⟩, fun W k => arranged_7 W k ⟨q, by omega⟩⟩

/-- The modulated norms times the weights. -/
def projected (X : S8192x2048.Idx → EReal) (M : S2x6144.Idx → EReal) (G : S2048.Idx → EReal) (W : S2048x4976.Idx → EReal) :
    S8192x4976.Idx → EReal := fun i => ∑ k : Fin 2048, rows X M G (i 0) k * W (ix2 k (i 1))

theorem back_product (X : S8192x2048.Idx → EReal) (M : S2x6144.Idx → EReal) (G : S2048.Idx → EReal) (W : FVec Ideal S2048x4976 .f32) :
    back (product X M G (arranged W)) = projected X M G W := by
  funext i
  obtain ⟨r, j, hy⟩ : ∃ (r : Fin 8192) (k : Fin 4976), i = (ix2 r k : S8192x4976.Idx) := ⟨i 0, i 1, (ix2_eta i).symm⟩
  subst hy
  obtain ⟨p, hb, ha⟩ := column j
  refine (hb _ r).trans ?_
  exact Finset.sum_congr rfl fun k _ => congrArg (fun x : EReal => rows X M G r k * x) (ha W k)

variable (m : (ℓ : Loc nD τ sig) → Buf (Elt Ideal) ℓ) (c : Dev nD)

theorem v15_eq : (V m c main_v15 : S2048x5120.Idx → EReal) = arranged (aW m c) := by
  unfold V; after_reads_simp; rfl

theorem exit19 : withArrays (cfgs 0).spec c (V0 m c) (fun w => (dats m 0 c).arrAt w (cfgs 0).N) (Proc.devRef .tc main_v19)
    = (dats m 0 c).arrAt (5 : Fin 6) cfg0.N :=
  (dats m 0 c).withArrays_arrAt sharedIn0 (V0 m c) (A_eq m c) (5 : Fin 6)

/-- The host's last lines put the columns back. -/
theorem tail_eq : (afterTail₀ cfgs (dats m) 0 (V0 m) [hostOps1] c main_v28 : S8192x4976.Idx → EReal)
    = back ((dats m 0 c).arrAt (5 : Fin 6) cfg0.N) := by
  rw [← exit19 m c]
  unfold afterTail₀
  simp only [List.flatten_cons, List.flatten_nil, List.append_nil]
  generalize withArrays (cfgs 0).spec c (V0 m c) (fun w => (dats m 0 c).arrAt w (cfgs 0).N) = U
  after_reads_simp
  rfl

/-- The result array. -/
theorem result : (afterTail₀ cfgs (dats m) 0 (V0 m) [hostOps1] c main_v28 : S8192x4976.Idx → EReal)
    = projected (aX m c) (aM m c) (aG m c) (aW m c) := by
  rw [tail_eq, final]
  refine (congrArg (fun W : S2048x5120.Idx → EReal => back (product (aX m c) (aM m c) (aG m c) W)) (v15_eq m c)).trans ?_
  exact back_product _ _ _ _

end Cert.Kernel4Ideal.Proj

namespace Cert.Reference4Ideal.Proj

open Cert.Reference4Ideal Cert.Reference4Ideal.Gen Idealize.ShloMosaic
open Cert.Kernel4Ideal.Proj (rows projected)

/-- The reference's modulated norm. -/
def modulated (X : FVec Ideal S8192x2048 .f32) (M : FVec Ideal S2x6144 .f32) (G : FVec Ideal S2048 .f32) : FVec Ideal S8192x2048 .f32 :=
  addf (mulf (mulf (mulf X (broadcastInDim S8192x2048 ![0, 1] bcast_S8192x1_S8192x2048_0_1 (Host.rsqrt (addf (Host.divf (broadcastInDim S8192x1 ![0] bcast_S8192_S8192x1_0 (Host.reduceAdd (mulf X X) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))) (broadcastInDim S8192x2048 ![0, 1] bcast_S1x2048_S8192x2048_0_1 (addf (broadcastInDim S1x2048 ![] bcast_S_S1x2048 (constant S_ .f32 0x3F800000#32)) (extractStridedSlice S1x2048 ![0, 2048] (extractStridedSlice S1x6144 ![0, 0] M slices_S2x6144_S1x6144_0_0) slices_S1x6144_S1x2048_0_2048)))) (broadcastInDim S8192x2048 ![0, 1] bcast_S1x2048_S8192x2048_0_1 (extractStridedSlice S1x2048 ![0, 0] (extractStridedSlice S1x6144 ![0, 0] M slices_S2x6144_S1x6144_0_0) slices_S1x6144_S1x2048_0_0))

theorem modulated_at (X : FVec Ideal S8192x2048 .f32) (M : FVec Ideal S2x6144 .f32) (G : FVec Ideal S2048 .f32) (R : Fin 8192) (k : Fin 2048) :
    modulated X M G (ix2 R k) = rows X M G R k := by
  unfold rows
  pointwise [modulated]

def dotted (E : FVec Ideal S8192x2048 .f32) (W : FVec Ideal S2048x4976 .f32) : FVec Ideal S8192x4976 .f32 :=
  Host.dotGeneral dot_S8192x2048_S2048x4976_S8192x4976_1_0_0_1_n_n none E W

theorem dotted_at (E : FVec Ideal S8192x2048 .f32) (W : FVec Ideal S2048x4976 .f32) (R : Fin 8192) (j : Fin 4976) :
    dotted E W (ix2 R j) = ∑ k : Fin 2048, E (ix2 R k) * W (ix2 k j) := by
  pointwise [dotted]

/-- The reference's whole value. -/
theorem whole (X : FVec Ideal S8192x2048 .f32) (M : FVec Ideal S2x6144 .f32) (G : FVec Ideal S2048 .f32) (W : FVec Ideal S2048x4976 .f32) :
    dotted (modulated X M G) W = projected X M G W := by
  funext i
  obtain ⟨r, j, hy⟩ : ∃ (r : Fin 8192) (k : Fin 4976), i = (ix2 r k : S8192x4976.Idx) := ⟨i 0, i 1, (ix2_eta i).symm⟩
  subst hy
  refine (dotted_at _ _ r j).trans ?_
  exact Finset.sum_congr rfl fun k _ => congrArg (fun x : EReal => x * W (ix2 k j)) (modulated_at X M G r k)

end Cert.Reference4Ideal.Proj

end
-- ==== Proof.Proj.InClaims.lean ====
module

public import proofs.«01_k».proof.Defs
public import proofs.«01_k».proof.Proof.Gen.Kernel4.Frame
public import proofs.«01_k».proof.Proof.Proj.InCols

@[expose] public section

/-! # The input projection's frames and value -/

noncomputable section

namespace Cert.Proof

open Idealize.ShloMosaic Idealize.ShloMosaic.TcCoe Idealize.SL.Sem

theorem frame_words4 : @Cert.quiescent_Kernel4 Cert.Kernel4.Gen.facts := fun m g _ => Cert.Kernel4.Gen.frame m g

theorem frame_ideal4 : @Cert.quiescent_Kernel4Ideal Cert.Kernel4Ideal.Gen.facts := fun m g _ => Cert.Kernel4Ideal.Gen.frame m g

theorem frame_reference4 : @Cert.quiescent_Reference4Ideal Cert.Reference4Ideal.Gen.facts := fun m g _ =>
  (θ_run _ _ _).mono (fun r h => ⟨fun c => (h c).2, sem_eq_zero_of_no_sems (by decide) r.2⟩) (Cert.Reference4Ideal.Value.run m g)

/-- The kernel's run leaves the projection in its result. -/
theorem run4 (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩ (fun r =>
      ∀ c : Dev Cert.Kernel4Ideal.nD, r.2.mem ((c.tc : Thread Cert.Kernel4Ideal.nD Cert.Kernel4Ideal.τ).loc Cert.Kernel4Ideal.main_v28)
        = Cert.Kernel4Ideal.Proj.projected (Cert.Kernel4Ideal.Proj.aX m c) (Cert.Kernel4Ideal.Proj.aM m c) (Cert.Kernel4Ideal.Proj.aG m c) (Cert.Kernel4Ideal.Proj.aW m c)) :=
  (θ_run _ _ _).mono (fun _ h c => ((h c).2 Cert.Kernel4Ideal.main_v28 (Pipeline.mem_restRefs_of Cert.Kernel4Ideal.main_v28 (by decide) (by decide))).trans
    (Cert.Kernel4Ideal.Proj.result m c)) (Cert.Kernel4Ideal.Gen.run_main m g)

theorem value4 : @Cert.algebraic_Kernel4Ideal_Reference4Ideal Cert.Kernel4Ideal.Gen.facts Cert.Reference4Ideal.Gen.facts := by
  intro m g m' g' _ hargs
  refine ⟨fun c => Cert.Kernel4Ideal.Proj.projected (Cert.Kernel4Ideal.Proj.aX m c) (Cert.Kernel4Ideal.Proj.aM m c) (Cert.Kernel4Ideal.Proj.aG m c) (Cert.Kernel4Ideal.Proj.aW m c), ?_, ?_⟩
  · exact (θ_run _ _ _).mono (fun r h c => ⟨h.1 c, h.2 c⟩) (θ_run_and (run4 m g) (Cert.Kernel4Ideal.Gen.unchanged m g))
  · refine (θ_run _ _ _).mono (fun r h c => ⟨((h c).1).trans ?_, (h c).2⟩) (Cert.Reference4Ideal.Value.run m' g')
    obtain ⟨h0, h1, h2, h3⟩ := hargs c
    rw [h0, h1, h2, h3]
    exact Cert.Reference4Ideal.Proj.whole _ _ _ _

end Cert.Proof

end
-- ==== Proof.lean ====
/- The assembly of `Cert.Claim`: the frames, the named constants and the values. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Mla.Frames
public import proofs.«01_k».proof.Proof.Mla.Value
public import proofs.«01_k».proof.Proof.Proj.Claims
public import proofs.«01_k».proof.Proof.Proj.InClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_logits_finite.holds, frame_words, frame_ideal, frame_ideal_pre, frame_reference, frame_reference_pre,
  frame_words2, frame_ideal2, frame_reference2,
  frame_words3, frame_ideal3, frame_reference3,
  frame_words4, frame_ideal4, frame_reference4,
  frame_words5, frame_ideal5, frame_reference5,
  constants_named, value, trivial, value2, trivial, value3, trivial, value4, trivial, value5⟩

end Cert.Proof

end
